-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_shift [hPre_finite_shift : Cert.Pre_finite_shift.Facts] (m : (ℓ : Loc Cert.KernelIdeal.nD Cert.KernelIdeal.τ Cert.KernelIdeal.sig) → Buf (Elt Ideal) ℓ) : Prop :=
  ∀ c : Dev Cert.KernelIdeal.nD,
    (Cert.Pre_finite_shift.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_shift [hPre_finite_shift : Cert.Pre_finite_shift.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_shift.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_shift [hKernelIdeal : Cert.KernelIdeal.Facts] [hPre_finite_shift : Cert.Pre_finite_shift.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_shift m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_shift [hReferenceIdeal : Cert.ReferenceIdeal.Facts] [hPre_finite_shift : Cert.Pre_finite_shift.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_shift m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0))
      ∧ r.2.sem = fun _ => 0)

def preserves_Kernel_KernelIdeal : Prop :=
  True

def algebraic_KernelIdeal_ReferenceIdeal_pre_finite_shift [hKernelIdeal : Cert.KernelIdeal.Facts] [hReferenceIdeal : Cert.ReferenceIdeal.Facts] [hPre_finite_shift : Cert.Pre_finite_shift.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_shift m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Norm_NormIdeal : Prop :=
  IdealRules.named_const.Statement Cert.NormIdeal.κ "inv_d" .f32 0x394CCCCD#32 ((1 / 5120 : ℝ) : EReal)

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v1_0) = v0 c
          ∧ r.2.mem ((c.tc : Thread Cert.NormReferenceIdeal.nD Cert.NormReferenceIdeal.τ).loc Cert.NormReferenceIdeal.main_v1_1) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hPre_finite_shift : Cert.Pre_finite_shift.Facts),
    quiescent_Kernel (hKernel := hKernel)
    ∧ quiescent_KernelIdeal (hKernelIdeal := hKernelIdeal)
    ∧ quiescent_KernelIdeal_pre_finite_shift (hKernelIdeal := hKernelIdeal) (hPre_finite_shift := hPre_finite_shift)
    ∧ quiescent_ReferenceIdeal (hReferenceIdeal := hReferenceIdeal)
    ∧ quiescent_ReferenceIdeal_pre_finite_shift (hReferenceIdeal := hReferenceIdeal) (hPre_finite_shift := hPre_finite_shift)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal_pre_finite_shift (hKernelIdeal := hKernelIdeal) (hReferenceIdeal := hReferenceIdeal) (hPre_finite_shift := hPre_finite_shift)
    ∧ preserves_Norm_NormIdeal
    ∧ algebraic_NormIdeal_NormReferenceIdeal (hNormIdeal := hNormIdeal) (hNormReferenceIdeal := hNormReferenceIdeal)
-- ==== Pre_finite_shift.lean ====
abbrev S3x384x5120 : Shape := ⟨3, ![3, 384, 5120]⟩
abbrev S3x384x128 : Shape := ⟨3, ![3, 384, 128]⟩
abbrev S3x5120 : Shape := ⟨2, ![3, 5120]⟩
abbrev S5120x15360 : Shape := ⟨2, ![5120, 15360]⟩
abbrev S15360 : Shape := ⟨1, ![15360]⟩
abbrev S_ : Shape := ⟨0, ![]⟩

class Facts : Prop where
  bcast_S_S3x5120 : S_.BroadcastsInDim S3x5120 (![] : Fin 0 → Fin S3x5120.rank)
  reducesTo_S3x5120_S_d0_1 : S3x5120.ReducesTo [0, 1] S_
  h_S_ : 0 < S_.numel

variable [Facts]

def fn {F : FTy → Type} [FloatOps F] (main_arg0 : FVec F S3x384x5120 .fp8e4m3) (main_arg1 : FVec F S3x384x128 .f32) (main_arg2 : FVec F S3x5120 .f32) (main_arg3 : FVec F S3x5120 .f32) (main_arg4 : FVec F S5120x15360 .fp8e4m3) (main_arg5 : FVec F S15360 .f32) (main_arg6 : FVec F S15360 .f32) : IVec S_ 1 :=
  let main_v0 : FVec F S3x5120 .f32 := Host.absf main_arg3
  let main_cst : FVec F S_ .f32 := constant S_ .f32 0x7F800000#32
  let main_v1 : FVec F S3x5120 .f32 := broadcastInDim S3x5120 ![] bcast_S_S3x5120 main_cst
  let main_v2 : IVec S3x5120 1 := cmpf .olt main_v0 main_v1
  let main_c : IVec S_ 1 := constantI S_ 1 1#1
  let main_v3 : IVec S_ 1 := (fun x v => Host.reduce IntOp.andi x v reducesTo_S3x5120_S_d0_1 h_S_) main_v2 main_c
  main_v3
-- ==== Kernel.lean ====
abbrev S3x384x5120 : Shape := ⟨3, ![3, 384, 5120]⟩
abbrev S3x384x128 : Shape := ⟨3, ![3, 384, 128]⟩
abbrev S3x5120 : Shape := ⟨2, ![3, 5120]⟩
abbrev S5120x15360 : Shape := ⟨2, ![5120, 15360]⟩
abbrev S15360 : Shape := ⟨1, ![15360]⟩
abbrev S30x1x512 : Shape := ⟨3, ![30, 1, 512]⟩
abbrev S3x384x15360 : Shape := ⟨3, ![3, 384, 15360]⟩
abbrev S3x5120x15360 : Shape := ⟨3, ![3, 5120, 15360]⟩
abbrev S30x3x512 : Shape := ⟨3, ![30, 3, 512]⟩
abbrev S5120x512 : Shape := ⟨2, ![5120, 512]⟩
abbrev S1x1x512 : Shape := ⟨3, ![1, 1, 512]⟩
abbrev S3x384x512 : Shape := ⟨3, ![3, 384, 512]⟩
abbrev S3x5120x512 : Shape := ⟨3, ![3, 5120, 512]⟩
abbrev S1x3x512 : Shape := ⟨3, ![1, 3, 512]⟩
abbrev S3x5120x128 : Shape := ⟨3, ![3, 5120, 128]⟩
abbrev S16x5120 : Shape := ⟨2, ![16, 5120]⟩
abbrev S1x128 : Shape := ⟨2, ![1, 128]⟩
abbrev S128x128 : Shape := ⟨2, ![128, 128]⟩
abbrev S1x128x128 : Shape := ⟨3, ![1, 128, 128]⟩
abbrev S7x5120 : Shape := ⟨2, ![7, 5120]⟩
abbrev S1x512 : Shape := ⟨2, ![1, 512]⟩
abbrev S8x512 : Shape := ⟨2, ![8, 512]⟩
abbrev S128x512 : Shape := ⟨2, ![128, 512]⟩
abbrev S16x8x512 : Shape := ⟨3, ![16, 8, 512]⟩
abbrev S512 : Shape := ⟨1, ![512]⟩
abbrev S252x512 : Shape := ⟨2, ![252, 512]⟩
abbrev S1x128x512 : Shape := ⟨3, ![1, 128, 512]⟩
abbrev S16x512 : Shape := ⟨2, ![16, 512]⟩
abbrev S3x512 : Shape := ⟨2, ![3, 512]⟩
abbrev S1x384x5120 : Shape := ⟨3, ![1, 384, 5120]⟩
abbrev S384x5120 : Shape := ⟨2, ![384, 5120]⟩
abbrev S1x5120x512 : Shape := ⟨3, ![1, 5120, 512]⟩
abbrev S384x512 : Shape := ⟨2, ![384, 512]⟩
abbrev S1x384x128 : Shape := ⟨3, ![1, 384, 128]⟩
abbrev S384x128 : Shape := ⟨2, ![384, 128]⟩
abbrev S384x1 : Shape := ⟨2, ![384, 1]⟩
abbrev S1x384x512 : Shape := ⟨3, ![1, 384, 512]⟩

abbrev nBuf : Space → Nat
  | .hbm => 12
  | .vmem => 18
  | .smem => 0
  | _ => 0

abbrev bufTy : (tb : Table) → Fin (tcTables nBuf tb) → BufTy
  | .hbm, ⟨0, _⟩ => ⟨S3x384x5120, .fp8e4m3⟩
  | .hbm, ⟨1, _⟩ => ⟨S3x384x128, .f32⟩
  | .hbm, ⟨2, _⟩ => ⟨S3x5120, .f32⟩
  | .hbm, ⟨3, _⟩ => ⟨S3x5120, .f32⟩
  | .hbm, ⟨4, _⟩ => ⟨S5120x15360, .fp8e4m3⟩
  | .hbm, ⟨5, _⟩ => ⟨S15360, .f32⟩
  | .hbm, ⟨6, _⟩ => ⟨S15360, .f32⟩
  | .hbm, ⟨7, _⟩ => ⟨S30x1x512, .f32⟩
  | .hbm, ⟨8, _⟩ => ⟨S30x1x512, .f32⟩
  | .hbm, ⟨9, _⟩ => ⟨S3x384x15360, .bf16⟩
  | .hbm, ⟨10, _⟩ => ⟨S3x5120x15360, .fp8e4m3⟩
  | .hbm, ⟨11, _⟩ => ⟨S30x3x512, .f32⟩
  | .local _ .vmem, ⟨0, _⟩ => ⟨S3x384x5120, .fp8e4m3⟩
  | .local _ .vmem, ⟨1, _⟩ => ⟨S3x384x128, .f32⟩
  | .local _ .vmem, ⟨2, _⟩ => ⟨S3x5120, .f32⟩
  | .local _ .vmem, ⟨3, _⟩ => ⟨S3x5120, .f32⟩
  | .local _ .vmem, ⟨4, _⟩ => ⟨S5120x512, .fp8e4m3⟩
  | .local _ .vmem, ⟨5, _⟩ => ⟨S5120x512, .fp8e4m3⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S3x384x512, .bf16⟩
  | .local _ .vmem, ⟨11, _⟩ => ⟨S3x384x512, .bf16⟩
  | .local _ .vmem, ⟨12, _⟩ => ⟨S3x5120x512, .fp8e4m3⟩
  | .local _ .vmem, ⟨13, _⟩ => ⟨S3x5120x512, .fp8e4m3⟩
  | .local _ .vmem, ⟨14, _⟩ => ⟨S1x3x512, .f32⟩
  | .local _ .vmem, ⟨15, _⟩ => ⟨S1x3x512, .f32⟩
  | .local _ .vmem, ⟨16, _⟩ => ⟨S3x5120x128, .f32⟩
  | .local _ .vmem, ⟨17, _⟩ => ⟨S16x5120, .bf16⟩
  | _, _ => ⟨S3x384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![30], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_98 : BitVec 32 := 0#32
  let c40_i32_99 : BitVec 32 := 40#32
  let v188 : BitVec 32 := Scalar.addi c0_i32_98 c40_i32_99
  let c1_i32_100 : BitVec 32 := 1#32
  ⟨c0_i32_98, v188, c1_i32_100⟩
def k0_mult1 (k0_t1 : Fin k0_t1_loop.trips) : BitVec 32 :=
  let c0_i32_98 : BitVec 32 := 0#32
  let c1_i32_100 : BitVec 32 := 1#32
  let arg13 : BitVec 32 := Scf.iv c0_i32_98 c1_i32_100 k0_t1
  let c128_i32 : BitVec 32 := 128#32
  let v204 : BitVec 32 := Scalar.muli arg13 c128_i32
  v204
def k0_off1 (k0_t1 : Fin k0_t1_loop.trips) : Fin 2 → Nat :=
  let c0_115 : Index := 0#32
  let c0_i32_98 : BitVec 32 := 0#32
  let c1_i32_100 : BitVec 32 := 1#32
  let arg13 : BitVec 32 := Scf.iv c0_i32_98 c1_i32_100 k0_t1
  let c128_i32 : BitVec 32 := 128#32
  let v204 : BitVec 32 := Scalar.muli arg13 c128_i32
  let v205 : BitVec 32 := v204
  let v206 : Index := Scalar.indexCast v205
  ![0, v206.toNat]
def k0_off2 (k0_t1 : Fin k0_t1_loop.trips) : Fin 3 → Nat :=
  let c0_117 : Index := 0#32
  let c0_i32_98 : BitVec 32 := 0#32
  let c1_i32_100 : BitVec 32 := 1#32
  let arg13 : BitVec 32 := Scf.iv c0_i32_98 c1_i32_100 k0_t1
  let c128_i32 : BitVec 32 := 128#32
  let v204 : BitVec 32 := Scalar.muli arg13 c128_i32
  let v205 : BitVec 32 := v204
  let v213 : Index := Scalar.indexCast v205
  let c0_118 : Index := 0#32
  ![0, v213.toNat, 0]
@[reducible] def k0_t2_loop : Scf.Loop 32 :=
  let c0_i32_102 : BitVec 32 := 0#32
  let c40_i32_103 : BitVec 32 := 40#32
  let v189 : BitVec 32 := Scalar.addi c0_i32_102 c40_i32_103
  let c1_i32_104 : BitVec 32 := 1#32
  ⟨c0_i32_102, v189, c1_i32_104⟩
def k0_mult2 (k0_t2 : Fin k0_t2_loop.trips) : BitVec 32 :=
  let c0_i32_102 : BitVec 32 := 0#32
  let c1_i32_104 : BitVec 32 := 1#32
  let arg13 : BitVec 32 := Scf.iv c0_i32_102 c1_i32_104 k0_t2
  let c128_i32 : BitVec 32 := 128#32
  let v204 : BitVec 32 := Scalar.muli arg13 c128_i32
  v204
def k0_off3 (k0_t2 : Fin k0_t2_loop.trips) : Fin 2 → Nat :=
  let c1_115 : Index := 1#32
  let c0_i32_102 : BitVec 32 := 0#32
  let c1_i32_104 : BitVec 32 := 1#32
  let arg13 : BitVec 32 := Scf.iv c0_i32_102 c1_i32_104 k0_t2
  let c128_i32 : BitVec 32 := 128#32
  let v204 : BitVec 32 := Scalar.muli arg13 c128_i32
  let v205 : BitVec 32 := v204
  let v206 : Index := Scalar.indexCast v205
  ![1, v206.toNat]
def k0_off4 (k0_t2 : Fin k0_t2_loop.trips) : Fin 3 → Nat :=
  let c1_117 : Index := 1#32
  let c0_i32_102 : BitVec 32 := 0#32
  let c1_i32_104 : BitVec 32 := 1#32
  let arg13 : BitVec 32 := Scf.iv c0_i32_102 c1_i32_104 k0_t2
  let c128_i32 : BitVec 32 := 128#32
  let v204 : BitVec 32 := Scalar.muli arg13 c128_i32
  let v205 : BitVec 32 := v204
  let v213 : Index := Scalar.indexCast v205
  let c0_118 : Index := 0#32
  ![1, v213.toNat, 0]
@[reducible] def k0_t3_loop : Scf.Loop 32 :=
  let c0_i32_106 : BitVec 32 := 0#32
  let c40_i32_107 : BitVec 32 := 40#32
  let v190 : BitVec 32 := Scalar.addi c0_i32_106 c40_i32_107
  let c1_i32_108 : BitVec 32 := 1#32
  ⟨c0_i32_106, v190, c1_i32_108⟩
def k0_mult3 (k0_t3 : Fin k0_t3_loop.trips) : BitVec 32 :=
  let c0_i32_106 : BitVec 32 := 0#32
  let c1_i32_108 : BitVec 32 := 1#32
  let arg13 : BitVec 32 := Scf.iv c0_i32_106 c1_i32_108 k0_t3
  let c128_i32 : BitVec 32 := 128#32
  let v204 : BitVec 32 := Scalar.muli arg13 c128_i32
  v204
def k0_off5 (k0_t3 : Fin k0_t3_loop.trips) : Fin 2 → Nat :=
  let c2_115 : Index := 2#32
  let c0_i32_106 : BitVec 32 := 0#32
  let c1_i32_108 : BitVec 32 := 1#32
  let arg13 : BitVec 32 := Scf.iv c0_i32_106 c1_i32_108 k0_t3
  let c128_i32 : BitVec 32 := 128#32
  let v204 : BitVec 32 := Scalar.muli arg13 c128_i32
  let v205 : BitVec 32 := v204
  let v206 : Index := Scalar.indexCast v205
  ![2, v206.toNat]
def k0_off6 (k0_t3 : Fin k0_t3_loop.trips) : Fin 3 → Nat :=
  let c2_117 : Index := 2#32
  let c0_i32_106 : BitVec 32 := 0#32
  let c1_i32_108 : BitVec 32 := 1#32
  let arg13 : BitVec 32 := Scf.iv c0_i32_106 c1_i32_108 k0_t3
  let c128_i32 : BitVec 32 := 128#32
  let v204 : BitVec 32 := Scalar.muli arg13 c128_i32
  let v205 : BitVec 32 := v204
  let v213 : Index := Scalar.indexCast v205
  let c0_118 : Index := 0#32
  ![2, v213.toNat, 0]
@[reducible] def k0_t4_loop : Scf.Loop 32 :=
  let c0_i32_5 : BitVec 32 := 0#32
  let c40_i32 : BitVec 32 := 40#32
  let v8 : BitVec 32 := Scalar.addi c0_i32_5 c40_i32
  let c1_i32 : BitVec 32 := 1#32
  ⟨c0_i32_5, v8, c1_i32⟩
def k0_mult4 (k0_t4 : Fin k0_t4_loop.trips) : BitVec 32 :=
  let c0_i32_5 : BitVec 32 := 0#32
  let c1_i32 : BitVec 32 := 1#32
  let arg13 : BitVec 32 := Scf.iv c0_i32_5 c1_i32 k0_t4
  let c128_i32 : BitVec 32 := 128#32
  let v188 : BitVec 32 := Scalar.muli arg13 c128_i32
  v188
def k0_off7 (k0_t4 : Fin k0_t4_loop.trips) : Fin 2 → Nat :=
  let c0_i32_5 : BitVec 32 := 0#32
  let c1_i32 : BitVec 32 := 1#32
  let arg13 : BitVec 32 := Scf.iv c0_i32_5 c1_i32 k0_t4
  let c128_i32 : BitVec 32 := 128#32
  let v188 : BitVec 32 := Scalar.muli arg13 c128_i32
  let v189 : BitVec 32 := v188
  let v190 : Index := Scalar.indexCast v189
  let c0_98 : Index := 0#32
  ![v190.toNat, 0]
def k0_off8 (k0_t4 : Fin k0_t4_loop.trips) : Fin 3 → Nat :=
  let c0_99 : Index := 0#32
  let c0_i32_5 : BitVec 32 := 0#32
  let c1_i32 : BitVec 32 := 1#32
  let arg13 : BitVec 32 := Scf.iv c0_i32_5 c1_i32 k0_t4
  let c128_i32 : BitVec 32 := 128#32
  let v188 : BitVec 32 := Scalar.muli arg13 c128_i32
  let v189 : BitVec 32 := v188
  let v195 : Index := Scalar.indexCast v189
  let c0_100 : Index := 0#32
  ![0, v195.toNat, 0]
def k0_off9 (k0_t4 : Fin k0_t4_loop.trips) : Fin 3 → Nat :=
  let c1_102 : Index := 1#32
  let c0_i32_5 : BitVec 32 := 0#32
  let c1_i32 : BitVec 32 := 1#32
  let arg13 : BitVec 32 := Scf.iv c0_i32_5 c1_i32 k0_t4
  let c128_i32 : BitVec 32 := 128#32
  let v188 : BitVec 32 := Scalar.muli arg13 c128_i32
  let v189 : BitVec 32 := v188
  let v204 : Index := Scalar.indexCast v189
  let c0_103 : Index := 0#32
  ![1, v204.toNat, 0]
def k0_off10 (k0_t4 : Fin k0_t4_loop.trips) : Fin 3 → Nat :=
  let c2_105 : Index := 2#32
  let c0_i32_5 : BitVec 32 := 0#32
  let c1_i32 : BitVec 32 := 1#32
  let arg13 : BitVec 32 := Scf.iv c0_i32_5 c1_i32 k0_t4
  let c128_i32 : BitVec 32 := 128#32
  let v188 : BitVec 32 := Scalar.muli arg13 c128_i32
  let v189 : BitVec 32 := v188
  let v213 : Index := Scalar.indexCast v189
  let c0_106 : Index := 0#32
  ![2, v213.toNat, 0]
@[reducible] def k0_t5_loop : Scf.Loop 32 :=
  let c0_i32_47 : BitVec 32 := 0#32
  let c40_i32_48 : BitVec 32 := 40#32
  let v115 : BitVec 32 := Scalar.addi c0_i32_47 c40_i32_48
  let c1_i32_49 : BitVec 32 := 1#32
  ⟨c0_i32_47, v115, c1_i32_49⟩
def k0_mult5 (k0_t5 : Fin k0_t5_loop.trips) : BitVec 32 :=
  let c0_i32_47 : BitVec 32 := 0#32
  let c1_i32_49 : BitVec 32 := 1#32
  let arg13 : BitVec 32 := Scf.iv c0_i32_47 c1_i32_49 k0_t5
  let c128_i32 : BitVec 32 := 128#32
  let v188 : BitVec 32 := Scalar.muli arg13 c128_i32
  v188
def k0_off11 (k0_t5 : Fin k0_t5_loop.trips) : Fin 2 → Nat :=
  let c0_i32_47 : BitVec 32 := 0#32
  let c1_i32_49 : BitVec 32 := 1#32
  let arg13 : BitVec 32 := Scf.iv c0_i32_47 c1_i32_49 k0_t5
  let c128_i32 : BitVec 32 := 128#32
  let v188 : BitVec 32 := Scalar.muli arg13 c128_i32
  let v189 : BitVec 32 := v188
  let v190 : Index := Scalar.indexCast v189
  let c0_98 : Index := 0#32
  ![v190.toNat, 0]
def k0_off12 (k0_t5 : Fin k0_t5_loop.trips) : Fin 3 → Nat :=
  let c0_99 : Index := 0#32
  let c0_i32_47 : BitVec 32 := 0#32
  let c1_i32_49 : BitVec 32 := 1#32
  let arg13 : BitVec 32 := Scf.iv c0_i32_47 c1_i32_49 k0_t5
  let c128_i32 : BitVec 32 := 128#32
  let v188 : BitVec 32 := Scalar.muli arg13 c128_i32
  let v189 : BitVec 32 := v188
  let v193 : Index := Scalar.indexCast v189
  let c0_100 : Index := 0#32
  ![0, v193.toNat, 0]
def k0_off13 (k0_t5 : Fin k0_t5_loop.trips) : Fin 3 → Nat :=
  let c0_103 : Index := 0#32
  let c0_i32_47 : BitVec 32 := 0#32
  let c1_i32_49 : BitVec 32 := 1#32
  let arg13 : BitVec 32 := Scf.iv c0_i32_47 c1_i32_49 k0_t5
  let c128_i32 : BitVec 32 := 128#32
  let v188 : BitVec 32 := Scalar.muli arg13 c128_i32
  let v189 : BitVec 32 := v188
  let v205 : Index := Scalar.indexCast v189
  let c0_104 : Index := 0#32
  ![0, v205.toNat, 0]
def k0_off14 (k0_t5 : Fin k0_t5_loop.trips) : Fin 3 → Nat :=
  let c1_105 : Index := 1#32
  let c0_i32_47 : BitVec 32 := 0#32
  let c1_i32_49 : BitVec 32 := 1#32
  let arg13 : BitVec 32 := Scf.iv c0_i32_47 c1_i32_49 k0_t5
  let c128_i32 : BitVec 32 := 128#32
  let v188 : BitVec 32 := Scalar.muli arg13 c128_i32
  let v189 : BitVec 32 := v188
  let v209 : Index := Scalar.indexCast v189
  let c0_106 : Index := 0#32
  ![1, v209.toNat, 0]
def k0_off15 (k0_t5 : Fin k0_t5_loop.trips) : Fin 3 → Nat :=
  let c1_109 : Index := 1#32
  let c0_i32_47 : BitVec 32 := 0#32
  let c1_i32_49 : BitVec 32 := 1#32
  let arg13 : BitVec 32 := Scf.iv c0_i32_47 c1_i32_49 k0_t5
  let c128_i32 : BitVec 32 := 128#32
  let v188 : BitVec 32 := Scalar.muli arg13 c128_i32
  let v189 : BitVec 32 := v188
  let v221 : Index := Scalar.indexCast v189
  let c0_110 : Index := 0#32
  ![1, v221.toNat, 0]
def k0_off16 (k0_t5 : Fin k0_t5_loop.trips) : Fin 3 → Nat :=
  let c2_111 : Index := 2#32
  let c0_i32_47 : BitVec 32 := 0#32
  let c1_i32_49 : BitVec 32 := 1#32
  let arg13 : BitVec 32 := Scf.iv c0_i32_47 c1_i32_49 k0_t5
  let c128_i32 : BitVec 32 := 128#32
  let v188 : BitVec 32 := Scalar.muli arg13 c128_i32
  let v189 : BitVec 32 := v188
  let v225 : Index := Scalar.indexCast v189
  let c0_112 : Index := 0#32
  ![2, v225.toNat, 0]
def k0_off17 (k0_t5 : Fin k0_t5_loop.trips) : Fin 3 → Nat :=
  let c2_115 : Index := 2#32
  let c0_i32_47 : BitVec 32 := 0#32
  let c1_i32_49 : BitVec 32 := 1#32
  let arg13 : BitVec 32 := Scf.iv c0_i32_47 c1_i32_49 k0_t5
  let c128_i32 : BitVec 32 := 128#32
  let v188 : BitVec 32 := Scalar.muli arg13 c128_i32
  let v189 : BitVec 32 := v188
  let v237 : Index := Scalar.indexCast v189
  let c0_116 : Index := 0#32
  ![2, v237.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S3x384x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5120x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x384x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x5120x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S3x384x5120 : Shape := ⟨3, ![3, 384, 5120]⟩
abbrev S3x384x128 : Shape := ⟨3, ![3, 384, 128]⟩
abbrev S3x5120 : Shape := ⟨2, ![3, 5120]⟩
abbrev S5120x15360 : Shape := ⟨2, ![5120, 15360]⟩
abbrev S15360 : Shape := ⟨1, ![15360]⟩
abbrev S3x384x15360 : Shape := ⟨3, ![3, 384, 15360]⟩
abbrev S3x5120x15360 : Shape := ⟨3, ![3, 5120, 15360]⟩
abbrev S30x3x512 : Shape := ⟨3, ![30, 3, 512]⟩
abbrev S3x384x1 : Shape := ⟨3, ![3, 384, 1]⟩
abbrev S3x384 : Shape := ⟨2, ![3, 384]⟩
abbrev S3x5120x1 : Shape := ⟨3, ![3, 5120, 1]⟩
abbrev S1x15360 : Shape := ⟨2, ![1, 15360]⟩
abbrev S1x5120x15360 : Shape := ⟨3, ![1, 5120, 15360]⟩
abbrev S3x15360 : Shape := ⟨2, ![3, 15360]⟩
abbrev S253x3x15360 : Shape := ⟨3, ![253, 3, 15360]⟩
abbrev S1x3x15360 : Shape := ⟨3, ![1, 3, 15360]⟩
abbrev S3x1x15360 : Shape := ⟨3, ![3, 1, 15360]⟩
abbrev S3x30x512 : Shape := ⟨3, ![3, 30, 512]⟩

abbrev nBuf : Space → Nat
  | .hbm => 10
  | .vmem => 10
  | .smem => 0
  | _ => 0

abbrev bufTy : (tb : Table) → Fin (tcTables nBuf tb) → BufTy
  | .hbm, ⟨0, _⟩ => ⟨S3x384x5120, .fp8e4m3⟩
  | .hbm, ⟨1, _⟩ => ⟨S3x384x128, .f32⟩
  | .hbm, ⟨2, _⟩ => ⟨S3x5120, .f32⟩
  | .hbm, ⟨3, _⟩ => ⟨S3x5120, .f32⟩
  | .hbm, ⟨4, _⟩ => ⟨S5120x15360, .fp8e4m3⟩
  | .hbm, ⟨5, _⟩ => ⟨S15360, .f32⟩
  | .hbm, ⟨6, _⟩ => ⟨S15360, .f32⟩
  | .hbm, ⟨7, _⟩ => ⟨S3x384x15360, .bf16⟩
  | .hbm, ⟨8, _⟩ => ⟨S3x5120x15360, .fp8e4m3⟩
  | .hbm, ⟨9, _⟩ => ⟨S30x3x512, .f32⟩
  | .local _ .vmem, ⟨0, _⟩ => ⟨S3x384x5120, .fp8e4m3⟩
  | .local _ .vmem, ⟨1, _⟩ => ⟨S3x384x128, .f32⟩
  | .local _ .vmem, ⟨2, _⟩ => ⟨S3x5120, .f32⟩
  | .local _ .vmem, ⟨3, _⟩ => ⟨S3x5120, .f32⟩
  | .local _ .vmem, ⟨4, _⟩ => ⟨S5120x15360, .fp8e4m3⟩
  | .local _ .vmem, ⟨5, _⟩ => ⟨S15360, .f32⟩
  | .local _ .vmem, ⟨6, _⟩ => ⟨S15360, .f32⟩
  | .local _ .vmem, ⟨7, _⟩ => ⟨S3x384x15360, .bf16⟩
  | .local _ .vmem, ⟨8, _⟩ => ⟨S3x5120x15360, .fp8e4m3⟩
  | .local _ .vmem, ⟨9, _⟩ => ⟨S30x3x512, .f32⟩
  | _, _ => ⟨S3x384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x384x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x15360 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S15360 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S15360 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x384x15360 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x5120x15360 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S30x3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Norm.lean ====
abbrev S3x384x5120 : Shape := ⟨3, ![3, 384, 5120]⟩
abbrev S1152x5120 : Shape := ⟨2, ![1152, 5120]⟩
abbrev S1152x128 : Shape := ⟨2, ![1152, 128]⟩
abbrev S128x5120 : Shape := ⟨2, ![128, 5120]⟩
abbrev S128x128 : Shape := ⟨2, ![128, 128]⟩
abbrev S128 : Shape := ⟨1, ![128]⟩
abbrev S128x1 : Shape := ⟨2, ![128, 1]⟩
abbrev S128x252 : Shape := ⟨2, ![128, 252]⟩

abbrev nBuf : Space → Nat
  | .hbm => 4
  | .vmem => 6
  | .smem => 0
  | _ => 0

abbrev bufTy : (tb : Table) → Fin (tcTables nBuf tb) → BufTy
  | .hbm, ⟨0, _⟩ => ⟨S3x384x5120, .bf16⟩
  | .hbm, ⟨1, _⟩ => ⟨S1152x5120, .bf16⟩
  | .hbm, ⟨2, _⟩ => ⟨S1152x5120, .fp8e4m3⟩
  | .hbm, ⟨3, _⟩ => ⟨S1152x128, .f32⟩
  | .local _ .vmem, ⟨0, _⟩ => ⟨S128x5120, .bf16⟩
  | .local _ .vmem, ⟨1, _⟩ => ⟨S128x5120, .bf16⟩
  | .local _ .vmem, ⟨2, _⟩ => ⟨S128x5120, .fp8e4m3⟩
  | .local _ .vmem, ⟨3, _⟩ => ⟨S128x5120, .fp8e4m3⟩
  | .local _ .vmem, ⟨4, _⟩ => ⟨S128x128, .f32⟩
  | .local _ .vmem, ⟨5, _⟩ => ⟨S128x128, .f32⟩
  | _, _ => ⟨S3x384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
variable {F : FTy → Type} [FloatOps F] [Named F]
def κ : String → Option EReal := fun
  | "inv_d" => some ((1 / 5120 : ℝ) : EReal)
  | _ => none
-- ==== NormReferenceIdeal.lean ====
abbrev S3x384x5120 : Shape := ⟨3, ![3, 384, 5120]⟩
abbrev S1152x5120 : Shape := ⟨2, ![1152, 5120]⟩
abbrev S1152x128 : Shape := ⟨2, ![1152, 128]⟩
abbrev S1152 : Shape := ⟨1, ![1152]⟩
abbrev S1152x1 : Shape := ⟨2, ![1152, 1]⟩
abbrev S253x1152 : Shape := ⟨2, ![253, 1152]⟩
abbrev S1x1152 : Shape := ⟨2, ![1, 1152]⟩

abbrev nBuf : Space → Nat
  | .hbm => 4
  | .vmem => 3
  | .smem => 0
  | _ => 0

abbrev bufTy : (tb : Table) → Fin (tcTables nBuf tb) → BufTy
  | .hbm, ⟨0, _⟩ => ⟨S3x384x5120, .bf16⟩
  | .hbm, ⟨1, _⟩ => ⟨S1152x5120, .bf16⟩
  | .hbm, ⟨2, _⟩ => ⟨S1152x5120, .fp8e4m3⟩
  | .hbm, ⟨3, _⟩ => ⟨S1152x128, .f32⟩
  | .local _ .vmem, ⟨0, _⟩ => ⟨S1152x5120, .bf16⟩
  | .local _ .vmem, ⟨1, _⟩ => ⟨S1152x5120, .fp8e4m3⟩
  | .local _ .vmem, ⟨2, _⟩ => ⟨S1152x128, .f32⟩
  | _, _ => ⟨S3x384x5120, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1152x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelRuns.lean ====
/- What the two whole-body runs of the main kernel share: the launch up to its one region, each input block at a point, the branch condition. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, k0_cond1, e0]
    word_cmp
   : ∀ t : Fin grid0.N, cond0_0 (grid0.coords t) ↔ t.val % 30 = 0)

/-! ## The kernel body on any staging memrefs: a subtype the run finds -/

/-- Each window's current staging memref at point `t`, spelled as the pipeline passes it (`bodyAt0`), and its wholeness. -/
abbrev ms0_0 (t : Fin cfg0.N) : Memref sig .tc .vmem S3x384x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x384x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5120x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x384x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x5120x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3x512 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S3x5120x128 .f32 := Memref.whole cc0_scratch0
abbrev scM0_1 : Memref sig .tc .vmem S16x5120 .bf16 := Memref.whole cc0_scratch1
/-- The scratch `arg11` the kernel carries between points, as a view: what it holds is stated through it. -/
abbrev VS0_0 : View sig .tc .vmem S3x5120x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KernelRunA.lean ====
/- The whole-body run of the main kernel at its first point. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_A (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc0 : cond0_0 i)
    (x0 : Vec F S3x384x5120 .fp8e4m3) (x1 : Vec F S3x384x128 .f32) (x2 : Vec F S3x5120 .f32) (x3 : Vec F S3x5120 .f32) (x4 : Vec F S5120x512 .fp8e4m3) (x5 : Vec F S1x1x512 .f32) (x6 : Vec F S1x1x512 .f32) :
    { LS0 : List (View.Piece (Elt F) S3x5120x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0) ∗ (∃ d, owns (c : Thread nD τ) arg12 fullShare d)) -∗ K ⟨⟩))
          ⊢ wp frame (wpE (defs₀ (F := F)) Variants.none c none) E (cc0_modulated_matmul i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_modulated_matmul_eq_skeleton]; unfold cc0_modulated_matmul_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]; · iexists _; iexact HS0
    iexists _, _; isplitr; swap; · iexact HS1
    ipureintro; rfl

end Cert.Kernel.Gen

end
-- ==== Proof.KernelRunB.lean ====
/- The whole-body run of the main kernel at every later point. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 29: 29 of 30), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_B (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc0 : ¬cond0_0 i)
    (x0 : Vec F S3x384x5120 .fp8e4m3) (x1 : Vec F S3x384x128 .f32) (x2 : Vec F S3x5120 .f32) (x3 : Vec F S3x5120 .f32) (x4 : Vec F S5120x512 .fp8e4m3) (x5 : Vec F S1x1x512 .f32) (x6 : Vec F S1x1x512 .f32) (xs0 : Vec F S3x5120x128 .f32) :
    { LS0 : List (View.Piece (Elt F) S3x5120x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)) -∗ K ⟨⟩))
          ⊢ wp frame (wpE (defs₀ (F := F)) Variants.none c none) E (cc0_modulated_matmul i arg1 harg1 arg2 harg2 arg3 harg3 arg4 harg4 arg5 harg5 arg6 harg6 arg7 harg7 arg8 harg8 arg9 harg9 arg10 harg10 arg11 harg11 arg12 harg12) K } := by
  refine ⟨[], fun E K => ?run⟩
  case run =>
    simp only [cc0_modulated_matmul_eq_skeleton]; unfold cc0_modulated_matmul_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg11.read_unread _
      iexact HS0
    iexists _, _; isplitr; swap; · iexact HS1
    ipureintro; rfl

end Cert.Kernel.Gen

end
-- ==== Proof.KernelEnd.lean ====
/- The frame of the main kernel at any floats: it runs, its arguments end unchanged and every counter ends at zero.
   Nothing of what it leaves in its outputs is named here. -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg11`, which the kernel carries between points, cover it: 120 pieces of `S1x128x128` tiling it (Lib/Ring.lean `Piece.tiledL`). -/
theorem scover0_A_0 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc0 : cond0_0 i)
    (x0 : Vec F S3x384x5120 .fp8e4m3) (x1 : Vec F S3x384x128 .f32) (x2 : Vec F S3x5120 .f32) (x3 : Vec F S3x5120 .f32) (x4 : Vec F S5120x512 .fp8e4m3) (x5 : Vec F S1x1x512 .f32) (x6 : Vec F S1x1x512 .f32) (y : S3x5120x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 S1x128x128.size (by sl_kernel_rfl) y

/-- What case A leaves in scratch `arg11`: its pieces read back over junk. -/
def sout0_A_0 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc0 : cond0_0 i)
    (x0 : Vec F S3x384x5120 .fp8e4m3) (x1 : Vec F S3x384x128 .f32) (x2 : Vec F S3x5120 .f32) (x3 : Vec F S3x5120 .f32) (x4 : Vec F S5120x512 .fp8e4m3) (x5 : Vec F S1x1x512 .f32) (x6 : Vec F S1x1x512 .f32) : Vec F S3x5120x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1)

/-- Case B stores nothing into scratch `arg11`: it holds what the point before left. -/
def sout0_B_0 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc0 : ¬cond0_0 i)
    (x0 : Vec F S3x384x5120 .fp8e4m3) (x1 : Vec F S3x384x128 .f32) (x2 : Vec F S3x5120 .f32) (x3 : Vec F S3x5120 .f32) (x4 : Vec F S5120x512 .fp8e4m3) (x5 : Vec F S1x1x512 .f32) (x6 : Vec F S1x1x512 .f32) (xs0 : Vec F S3x5120x128 .f32) : Vec F S3x5120x128 .f32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S3x5120x128 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 30 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

/-- `outsAt0` at a point of case A: that case's contents. -/
theorem outsAt0_A (c : Dev nD) (t : Fin cfg0.N) (h0 : t.val % 30 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 30 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 30 := lt_of_lt_of_eq t.isLt (show cfg0.N = 30 from N_0)
  by_cases h0 : t.val % 30 = 0
  · by_cases hz : t.val = 0
    · rw [PhiS_castSucc m c t, PhiS_zero m c _ _ hz, PhiA0_eq]
      rw [outsAt0_A m c t h0]
      unfold sout0_A_0
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · exfalso; have hN : t.val < 30 := lt_of_lt_of_eq t.isLt (show cfg0.N = 30 from N_0); omega
  · by_cases hz : t.val = 0
    · exfalso; have hN : t.val < 30 := lt_of_lt_of_eq t.isLt (show cfg0.N = 30 from N_0); omega
    · rw [PhiS_castSucc m c t, PhiS_pos m c _ _ hz]
      rw [outsAt0_B m c t h0]
      unfold sout0_B_0
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 30 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.BodyParts.lean ====
/- The main kernel's body at one grid point of `KernelIdeal`: the points' branch condition, the staging memrefs, and the
   run of the body at a point that is not the first, from any contents of the scratch buffers. -/
module

public import proofs.«01_k».proof.Proof.Gen.KernelIdeal.Skeleton
public import proofs.«01_k».proof.Proof.Gen.KernelIdeal.Loops
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [cond0_0, k0_cond1, e0]
    word_cmp
   : ∀ t : Fin grid0.N, cond0_0 (grid0.coords t) ↔ t.val % 30 = 0)

/-! ## The kernel body on any staging memrefs: a subtype the run finds -/

/-- Each window's current staging memref at point `t`, spelled as the pipeline passes it (`bodyAt0`), and its wholeness. -/
abbrev ms0_0 (t : Fin cfg0.N) : Memref sig .tc .vmem S3x384x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x384x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5120x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x384x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x5120x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3x512 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S3x5120x128 .f32 := Memref.whole cc0_scratch0
abbrev scM0_1 : Memref sig .tc .vmem S16x5120 .bf16 := Memref.whole cc0_scratch1
/-- The scratch `arg11` the kernel carries between points, as a view: what it holds is stated through it. -/
abbrev VS0_0 : View sig .tc .vmem S3x5120x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 400000 in
/-- The sixth part of the body: the second and third batches' matmuls over the codes in the codes' buffer, the second stored. -/
theorem part6_spec (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (v70 v105 : FVec F S1x512 .f32) (v130 : FVec F S3x512 .f32)
    (x0 : Vec F S3x384x5120 .fp8e4m3) (x1 : Vec F S3x384x128 .f32) (C : Vec F S3x5120x512 .fp8e4m3) (f8 : BufTy.Contents (Elt F) arg8.view.ty)
    (E : Set ℕ) (K : FVec F S384x512 .bf16 → sProp 𝕄) :
    iprop(owns (c : Thread nD τ) arg1 fullShare x0 ∗ owns (c : Thread nD τ) arg2 fullShare x1 ∗ owns (c : Thread nD τ) arg9 fullShare C ∗ (arg8.view.loc (c : Thread nD τ) ↦[arg8.view.set]{fullShare} f8)
      ∗ (iprop(owns (c : Thread nD τ) arg1 fullShare x0 ∗ owns (c : Thread nD τ) arg2 fullShare x1 ∗ owns (c : Thread nD τ) arg9 fullShare C ∗ (arg8.view.loc (c : Thread nD τ) ↦[arg8.view.set]{fullShare} arg8.view.writes (Elt F) f8 [⟨(Rect.unit (s := S3x384x512) ![1, 0, 0] S1x384x512.size inb_S3x384x512_S1x384x512_1_0_0), k0_pay33 v70 v130 (View.ld x0 (Rect.unit (s := S3x384x5120) ![1, 0, 0] S1x384x5120.size inb_S3x384x5120_S1x384x5120_1_0_0)) (View.ld C (Rect.unit (s := S3x5120x512) ![1, 0, 0] S1x5120x512.size inb_S3x5120x512_S1x5120x512_1_0_0)) (View.ld x1 (Rect.unit (s := S3x384x128) ![1, 0, 0] S1x384x128.size inb_S3x384x128_S1x384x128_1_0_0))⟩])) -∗ K (k0_pay34 v105 v130 (View.ld x0 (Rect.unit (s := S3x384x5120) ![2, 0, 0] S1x384x5120.size inb_S3x384x5120_S1x384x5120_2_0_0)) (View.ld C (Rect.unit (s := S3x5120x512) ![2, 0, 0] S1x5120x512.size inb_S3x5120x512_S1x5120x512_2_0_0)) (View.ld x1 (Rect.unit (s := S3x384x128) ![2, 0, 0] S1x384x128.size inb_S3x384x128_S1x384x128_2_0_0)))))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 v70 v105 v130) K := by
  rw [k0_part6_eq_skeleton]; unfold k0_part6_skel owns
  iintro ⟨⟨%g1, %hg1, H1⟩, ⟨%g2, %hg2, H2⟩, ⟨%g9, %hg9, H9⟩, H8, Hk⟩
  obtain rfl := harg1.eq_unread hg1; obtain rfl := harg2.eq_unread hg2; obtain rfl := harg9.eq_unread hg9
  sl_exec
  sl_step
  simp only [View.readAt_eq_ld, Memref.IsWhole.read_unread]
  iapply Hk
  isplitl [H1]
  · iexists _; isplitr; swap; · iexact H1
    ipureintro; exact harg1.read_unread _
  isplitl [H2]
  · iexists _; isplitr; swap; · iexact H2
    ipureintro; exact harg2.read_unread _
  isplitl [H9]
  · iexists _; isplitr; swap; · iexact H9
    ipureintro; exact harg9.read_unread _
  iexact H8

set_option maxHeartbeats 400000 in
/-- The fourth part of the body: the second and third batches' scales stored. -/
theorem part4_spec (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (v4 v70 : FVec F S1x512 .f32) (v9_2 : FVec F S8x512 .f32)
     (f10 : BufTy.Contents (Elt F) arg10.view.ty)
    (E : Set ℕ) (K : (Σ' (v105 : FVec F S1x512 .f32) (v111 : FVec F S1x512 .f32), BitVec 32) → sProp 𝕄) :
    iprop((arg10.view.loc (c : Thread nD τ) ↦[arg10.view.set]{fullShare} f10)
      ∗ (iprop((arg10.view.loc (c : Thread nD τ) ↦[arg10.view.set]{fullShare} arg10.view.writes (Elt F) f10 [⟨(Rect.unit (s := S1x3x512) ![0, 2, 0] S1x1x512.size inb_S1x3x512_S1x1x512_0_2_0), k0_pay29 v9_2⟩, ⟨(Rect.unit (s := S1x3x512) ![0, 1, 0] S1x1x512.size inb_S1x3x512_S1x1x512_0_1_0), k0_pay25 v70⟩])) -∗ K ⟨k0_pay27 v9_2, k0_pay28 v4 v9_2, 0#32⟩))
      ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 v4 v9_2 v70) K := by
  rw [k0_part4_eq_skeleton]; unfold k0_part4_skel
  iintro ⟨H10, Hk⟩

  sl_exec
  sl_step
  iapply Hk
  iexact H10

set_option maxHeartbeats 400000 in
/-- The third part of the body: the first batch's scales stored. -/
theorem part3_spec (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (v4 v35 : FVec F S1x512 .f32) (v9_1 : FVec F S8x512 .f32) (v30 : IVec S1x512 32)
     (f10 : BufTy.Contents (Elt F) arg10.view.ty)
    (E : Set ℕ) (K : (Σ' (v41 : FVec F S1x512 .f32) (v70 : FVec F S1x512 .f32), FVec F S1x512 .f32) → sProp 𝕄) :
    iprop((arg10.view.loc (c : Thread nD τ) ↦[arg10.view.set]{fullShare} f10)
      ∗ (iprop((arg10.view.loc (c : Thread nD τ) ↦[arg10.view.set]{fullShare} arg10.view.writes (Elt F) f10 [⟨(Rect.unit (s := S1x3x512) ![0, 0, 0] S1x1x512.size inb_S1x3x512_S1x1x512_0_0_0), k0_pay21 v35⟩])) -∗ K ⟨k0_pay20 v4 v30, k0_pay23 v9_1, k0_pay24 v4 v9_1⟩))
      ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 v4 v9_1 v30 v35) K := by
  rw [k0_part3_eq_skeleton]; unfold k0_part3_skel
  iintro ⟨H10, Hk⟩

  sl_exec
  sl_step
  iapply Hk
  iexact H10

/-- The three batches' running maxima after the maximum loop, from the weight block `x4`, the weight scales `x5` and the
    modulation factors `U`. -/
def amaxs (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (x4 : Vec F S5120x512 .fp8e4m3) (x5 : Vec F S1x1x512 .f32) (U : Vec F S3x5120x128 .f32) : FVec F S8x512 .f32 × FVec F S8x512 .f32 × FVec F S8x512 .f32 :=
  st_k0_t4 (F := F) Variants.none c none i arg1 harg1 arg2 harg2 arg3 harg3 arg4 harg4 arg5 harg5 arg6 harg6 arg7 harg7 arg8 harg8 arg9 harg9 arg10 harg10 arg11 harg11 arg12 harg12 (View.ld x5 (Rect.unit (s := S1x1x512) ![0, 0, 0] S1x1x512.size inb_S1x1x512_S1x1x512_0_0_0)) (harg5.unread x4) (harg11.unread U) (k0_pay11 (F := F), k0_pay12 (F := F), k0_pay13 (F := F)) (Scf.trips k0_t4_loop.lb k0_t4_loop.ub k0_t4_loop.st)

set_option maxHeartbeats 2000000 in
/-- The second part of the body at a point that is not the first: the maximum loop. -/
theorem part2B_spec (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc0 : ¬cond0_0 i)
    (x4 : Vec F S5120x512 .fp8e4m3) (x5 : Vec F S1x1x512 .f32) (U : Vec F S3x5120x128 .f32)
    (E : Set ℕ) (K : (Σ' (v4 : FVec F S1x512 .f32) (v9_1 : FVec F S8x512 .f32) (v9_2 : FVec F S8x512 .f32) (v30 : IVec S1x512 32), FVec F S1x512 .f32) → sProp 𝕄) :
    iprop(owns (c : Thread nD τ) arg5 fullShare x4 ∗ owns (c : Thread nD τ) arg6 fullShare x5 ∗ owns (c : Thread nD τ) arg11 fullShare U
      ∗ (iprop(owns (c : Thread nD τ) arg5 fullShare x4 ∗ owns (c : Thread nD τ) arg6 fullShare x5 ∗ owns (c : Thread nD τ) arg11 fullShare U) -∗ K ⟨k0_pay10 (View.ld x5 (Rect.unit (s := S1x1x512) ![0, 0, 0] S1x1x512.size inb_S1x1x512_S1x1x512_0_0_0)), (amaxs c i arg1 harg1 arg2 harg2 arg3 harg3 arg4 harg4 arg5 harg5 arg6 harg6 arg7 harg7 arg8 harg8 arg9 harg9 arg10 harg10 arg11 harg11 arg12 harg12 x4 x5 U).2.1, (amaxs c i arg1 harg1 arg2 harg2 arg3 harg3 arg4 harg4 arg5 harg5 arg6 harg6 arg7 harg7 arg8 harg8 arg9 harg9 arg10 harg10 arg11 harg11 arg12 harg12 x4 x5 U).2.2, k0_pay18 (amaxs c i arg1 harg1 arg2 harg2 arg3 harg3 arg4 harg4 arg5 harg5 arg6 harg6 arg7 harg7 arg8 harg8 arg9 harg9 arg10 harg10 arg11 harg11 arg12 harg12 x4 x5 U).1, k0_pay19 (amaxs c i arg1 harg1 arg2 harg2 arg3 harg3 arg4 harg4 arg5 harg5 arg6 harg6 arg7 harg7 arg8 harg8 arg9 harg9 arg10 harg10 arg11 harg11 arg12 harg12 x4 x5 U).1⟩))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12) K := by
  rw [k0_part2_eq_skeleton]; unfold k0_part2_skel owns
  iintro ⟨⟨%g5, %hg5, H5⟩, ⟨%g6, %hg6, H6⟩, ⟨%g11, %hg11, H11⟩, Hk⟩
  obtain rfl := harg5.eq_unread hg5; obtain rfl := harg6.eq_unread hg6; obtain rfl := harg11.eq_unread hg11
  sl_exec (disch := first | sl_exact hc0)
  sl_step
  simp only [View.readAt_eq_ld, Memref.IsWhole.read_unread]; unfold amaxs
  iapply Hk
  isplitl [H5]
  · iexists _; isplitr; swap; · iexact H5
    ipureintro; exact harg5.read_unread _
  isplitl [H6]
  · iexists _; isplitr; swap; · iexact H6
    ipureintro; exact harg6.read_unread _
  iexists _; isplitr; swap; · iexact H11
  ipureintro; exact harg11.read_unread _

end Cert.KernelIdeal.Gen

end
-- ==== Proof.BodyPart2.lean ====
/- The main kernel's body at one grid point of `KernelIdeal`: the points' branch condition, the staging memrefs, and the
   run of the body at a point that is not the first, from any contents of the scratch buffers. -/
module

public import proofs.«01_k».proof.Proof.Gen.KernelIdeal.Skeleton
public import proofs.«01_k».proof.Proof.Gen.KernelIdeal.Loops
public import proofs.«01_k».proof.Proof.Gen.KernelIdeal.Frame

public import proofs.«01_k».proof.Proof.BodyParts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- The second part of the body at the first point: the scratch buffers filled, with `U` and with `P`, whatever they held; then the maximum loop. -/
theorem part2A_spec (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc0 : cond0_0 i)
    (x2 : Vec F S3x5120 .f32) (x3 : Vec F S3x5120 .f32) (x4 : Vec F S5120x512 .fp8e4m3) (x5 : Vec F S1x1x512 .f32) (f11 : BufTy.Contents (Elt F) arg11.view.ty) (f12 : BufTy.Contents (Elt F) arg12.view.ty) (U : Vec F S3x5120x128 .f32) (P : Vec F S16x5120 .bf16) (hU : ∀ f, arg11.view.read (Elt F) (arg11.view.writes (Elt F) f ((pb_k0_t3 (F := F) Variants.none c none i arg1 harg1 arg2 harg2 arg3 harg3 arg4 harg4 arg5 harg5 arg6 harg6 arg7 harg7 arg8 harg8 arg9 harg9 arg10 harg10 arg11 harg11 arg12 harg12 hc0 (harg3.unread x2) (Scf.trips k0_t3_loop.lb k0_t3_loop.ub k0_t3_loop.st)) ++ ((pb_k0_t2 (F := F) Variants.none c none i arg1 harg1 arg2 harg2 arg3 harg3 arg4 harg4 arg5 harg5 arg6 harg6 arg7 harg7 arg8 harg8 arg9 harg9 arg10 harg10 arg11 harg11 arg12 harg12 hc0 (harg3.unread x2) (Scf.trips k0_t2_loop.lb k0_t2_loop.ub k0_t2_loop.st)) ++ (pb_k0_t1 (F := F) Variants.none c none i arg1 harg1 arg2 harg2 arg3 harg3 arg4 harg4 arg5 harg5 arg6 harg6 arg7 harg7 arg8 harg8 arg9 harg9 arg10 harg10 arg11 harg11 arg12 harg12 hc0 (harg3.unread x2) (Scf.trips k0_t1_loop.lb k0_t1_loop.ub k0_t1_loop.st))))) = U)
    (hP : ∀ f, arg12.view.read (Elt F) (arg12.view.writes (Elt F) f [⟨(Rect.unit (s := S16x5120) ![0, 0] S16x5120.size inb_S16x5120_S16x5120_0_0), k0_pay9 (View.ld x3 (Rect.unit (s := S3x5120) ![0, 0] S3x5120.size inb_S3x5120_S3x5120_0_0))⟩]) = P)
    (E : Set ℕ) (K : (Σ' (v4 : FVec F S1x512 .f32) (v9_1 : FVec F S8x512 .f32) (v9_2 : FVec F S8x512 .f32) (v30 : IVec S1x512 32), FVec F S1x512 .f32) → sProp 𝕄) :
    iprop(owns (c : Thread nD τ) arg3 fullShare x2 ∗ owns (c : Thread nD τ) arg4 fullShare x3 ∗ owns (c : Thread nD τ) arg5 fullShare x4 ∗ owns (c : Thread nD τ) arg6 fullShare x5 ∗ (arg11.view.loc (c : Thread nD τ) ↦[arg11.view.set]{fullShare} f11) ∗ (arg12.view.loc (c : Thread nD τ) ↦[arg12.view.set]{fullShare} f12)
      ∗ (iprop(owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg11 fullShare U ∗ owns (c : Thread nD τ) arg12 fullShare P) -∗ K ⟨k0_pay10 (View.ld x5 (Rect.unit (s := S1x1x512) ![0, 0, 0] S1x1x512.size inb_S1x1x512_S1x1x512_0_0_0)), (amaxs c i arg1 harg1 arg2 harg2 arg3 harg3 arg4 harg4 arg5 harg5 arg6 harg6 arg7 harg7 arg8 harg8 arg9 harg9 arg10 harg10 arg11 harg11 arg12 harg12 x4 x5 U).2.1, (amaxs c i arg1 harg1 arg2 harg2 arg3 harg3 arg4 harg4 arg5 harg5 arg6 harg6 arg7 harg7 arg8 harg8 arg9 harg9 arg10 harg10 arg11 harg11 arg12 harg12 x4 x5 U).2.2, k0_pay18 (amaxs c i arg1 harg1 arg2 harg2 arg3 harg3 arg4 harg4 arg5 harg5 arg6 harg6 arg7 harg7 arg8 harg8 arg9 harg9 arg10 harg10 arg11 harg11 arg12 harg12 x4 x5 U).1, k0_pay19 (amaxs c i arg1 harg1 arg2 harg2 arg3 harg3 arg4 harg4 arg5 harg5 arg6 harg6 arg7 harg7 arg8 harg8 arg9 harg9 arg10 harg10 arg11 harg11 arg12 harg12 x4 x5 U).1⟩))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12) K := by
  have e11 := fun f => harg11.eq_unread (hU f)
  have e12 := fun f => harg12.eq_unread (hP f)
  rw [k0_part2_eq_skeleton]; unfold k0_part2_skel owns
  iintro ⟨⟨%g3, %hg3, H3⟩, ⟨%g4, %hg4, H4⟩, ⟨%g5, %hg5, H5⟩, ⟨%g6, %hg6, H6⟩, H11, H12, Hk⟩
  obtain rfl := harg3.eq_unread hg3; obtain rfl := harg4.eq_unread hg4; obtain rfl := harg5.eq_unread hg5; obtain rfl := harg6.eq_unread hg6
  sl_exec (disch := first | sl_exact hc0)
  sl_step
  sl_unfold_words; simp only [View.readAt_eq_ld, Memref.IsWhole.read_unread, e11, e12]; unfold amaxs
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H11]
  · iexists _; isplitr; swap; · iexact H11
    ipureintro; exact harg11.read_unread _
  iexists _; isplitr; swap; · iexact H12
  ipureintro; exact harg12.read_unread _

end Cert.KernelIdeal.Gen

end
-- ==== Proof.BodyPart5.lean ====
/- The main kernel's body at one grid point of `KernelIdeal`: the points' branch condition, the staging memrefs, and the
   run of the body at a point that is not the first, from any contents of the scratch buffers. -/
module

public import proofs.«01_k».proof.Proof.Gen.KernelIdeal.Skeleton
public import proofs.«01_k».proof.Proof.Gen.KernelIdeal.Loops
public import proofs.«01_k».proof.Proof.Gen.KernelIdeal.Frame

public import proofs.«01_k».proof.Proof.BodyParts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The fifth part of the body: the quantising loop leaves the codes `C` in the codes' buffer, whatever that held; then the shift's row and the first batch's matmul. -/
theorem part5_spec (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (v4 v35 v41 v76 v111 : FVec F S1x512 .f32)
    (x0 : Vec F S3x384x5120 .fp8e4m3) (x1 : Vec F S3x384x128 .f32) (x4 : Vec F S5120x512 .fp8e4m3) (x6 : Vec F S1x1x512 .f32) (U : Vec F S3x5120x128 .f32) (P : Vec F S16x5120 .bf16) (f8 : BufTy.Contents (Elt F) arg8.view.ty) (f9 : BufTy.Contents (Elt F) arg9.view.ty) (C : Vec F S3x5120x512 .fp8e4m3) (hC : ∀ f, arg9.view.read (Elt F) (arg9.view.writes (Elt F) f (pb_k0_t5 (F := F) Variants.none c none i arg1 harg1 arg2 harg2 arg3 harg3 arg4 harg4 arg5 harg5 arg6 harg6 arg7 harg7 arg8 harg8 arg9 harg9 arg10 harg10 arg11 harg11 arg12 harg12 v4 v35 v41 v76 v111 0#32 (harg5.unread x4) (harg11.unread U) (Scf.trips k0_t5_loop.lb k0_t5_loop.ub k0_t5_loop.st))) = C)
    (E : Set ℕ) (K : FVec F S3x512 .f32 → sProp 𝕄) :
    iprop(owns (c : Thread nD τ) arg1 fullShare x0 ∗ owns (c : Thread nD τ) arg2 fullShare x1 ∗ owns (c : Thread nD τ) arg5 fullShare x4 ∗ owns (c : Thread nD τ) arg7 fullShare x6 ∗ owns (c : Thread nD τ) arg11 fullShare U ∗ owns (c : Thread nD τ) arg12 fullShare P ∗ (arg8.view.loc (c : Thread nD τ) ↦[arg8.view.set]{fullShare} f8) ∗ (arg9.view.loc (c : Thread nD τ) ↦[arg9.view.set]{fullShare} f9)
      ∗ (iprop(owns (c : Thread nD τ) arg1 fullShare x0 ∗ owns (c : Thread nD τ) arg2 fullShare x1 ∗ owns (c : Thread nD τ) arg5 fullShare x4 ∗ owns (c : Thread nD τ) arg7 fullShare x6 ∗ owns (c : Thread nD τ) arg11 fullShare U ∗ owns (c : Thread nD τ) arg12 fullShare P ∗ (arg8.view.loc (c : Thread nD τ) ↦[arg8.view.set]{fullShare} arg8.view.writes (Elt F) f8 [⟨(Rect.unit (s := S3x384x512) ![0, 0, 0] S1x384x512.size inb_S3x384x512_S1x384x512_0_0_0), k0_pay32 v4 v35 (View.ld P (Rect.unit (s := S16x5120) ![0, 0] S16x5120.size inb_S16x5120_S16x5120_0_0)) (View.ld x4 (Rect.unit (s := S5120x512) ![0, 0] S5120x512.size inb_S5120x512_S5120x512_0_0)) (View.ld x6 (Rect.unit (s := S1x1x512) ![0, 0, 0] S1x1x512.size inb_S1x1x512_S1x1x512_0_0_0)) (View.ld x0 (Rect.unit (s := S3x384x5120) ![0, 0, 0] S1x384x5120.size inb_S3x384x5120_S1x384x5120_0_0_0)) (View.ld C (Rect.unit (s := S3x5120x512) ![0, 0, 0] S1x5120x512.size inb_S3x5120x512_S1x5120x512_0_0_0)) (View.ld x1 (Rect.unit (s := S3x384x128) ![0, 0, 0] S1x384x128.size inb_S3x384x128_S1x384x128_0_0_0))⟩]) ∗ owns (c : Thread nD τ) arg9 fullShare C) -∗ K (k0_pay31 v4 (View.ld P (Rect.unit (s := S16x5120) ![0, 0] S16x5120.size inb_S16x5120_S16x5120_0_0)) (View.ld x4 (Rect.unit (s := S5120x512) ![0, 0] S5120x512.size inb_S5120x512_S5120x512_0_0)) (View.ld x6 (Rect.unit (s := S1x1x512) ![0, 0, 0] S1x1x512.size inb_S1x1x512_S1x1x512_0_0_0)))))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 v4 v35 v41 v76 v111 0#32) K := by
  have e9 := fun f => harg9.eq_unread (hC f)
  rw [k0_part5_eq_skeleton]; unfold k0_part5_skel owns
  iintro ⟨⟨%g1, %hg1, H1⟩, ⟨%g2, %hg2, H2⟩, ⟨%g5, %hg5, H5⟩, ⟨%g7, %hg7, H7⟩, ⟨%g11, %hg11, H11⟩, ⟨%g12, %hg12, H12⟩, H8, H9, Hk⟩
  obtain rfl := harg1.eq_unread hg1; obtain rfl := harg2.eq_unread hg2; obtain rfl := harg5.eq_unread hg5; obtain rfl := harg7.eq_unread hg7; obtain rfl := harg11.eq_unread hg11; obtain rfl := harg12.eq_unread hg12
  sl_exec
  sl_step
  sl_unfold_words; simp only [e9]; simp only [View.readAt_eq_ld, Memref.IsWhole.read_unread]
  iapply Hk
  isplitl [H1]
  · iexists _; isplitr; swap; · iexact H1
    ipureintro; exact harg1.read_unread _
  isplitl [H2]
  · iexists _; isplitr; swap; · iexact H2
    ipureintro; exact harg2.read_unread _
  isplitl [H5]
  · iexists _; isplitr; swap; · iexact H5
    ipureintro; exact harg5.read_unread _
  isplitl [H7]
  · iexists _; isplitr; swap; · iexact H7
    ipureintro; exact harg7.read_unread _
  isplitl [H11]
  · iexists _; isplitr; swap; · iexact H11
    ipureintro; exact harg11.read_unread _
  isplitl [H12]
  · iexists _; isplitr; swap; · iexact H12
    ipureintro; exact harg12.read_unread _
  isplitl [H8]
  · iexact H8
  iexists _; isplitr; swap; · iexact H9
  ipureintro; exact harg9.read_unread _

end Cert.KernelIdeal.Gen

end
-- ==== Proof.Body.lean ====
/- The main kernel's body at one grid point, from its parts: what it leaves in its outputs' buffers. -/
module

public import proofs.«01_k».proof.Proof.BodyPart2
public import proofs.«01_k».proof.Proof.BodyPart5

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three stores of the result's block, last first. -/
def yPieces (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (x0 : Vec F S3x384x5120 .fp8e4m3) (x1 : Vec F S3x384x128 .f32) (x4 : Vec F S5120x512 .fp8e4m3) (x5 : Vec F S1x1x512 .f32) (x6 : Vec F S1x1x512 .f32) (U : Vec F S3x5120x128 .f32) (P : Vec F S16x5120 .bf16) (C : Vec F S3x5120x512 .fp8e4m3) : List (View.Piece (Elt F) S3x384x512 .bf16) :=
  [⟨(Rect.unit (s := S3x384x512) ![2, 0, 0] S1x384x512.size inb_S3x384x512_S1x384x512_2_0_0), k0_pay1 (k0_pay34 (k0_pay27 (amaxs c i arg1 harg1 arg2 harg2 arg3 harg3 arg4 harg4 arg5 harg5 arg6 harg6 arg7 harg7 arg8 harg8 arg9 harg9 arg10 harg10 arg11 harg11 arg12 harg12 x4 x5 U).2.2) (k0_pay31 (k0_pay10 (View.ld x5 (Rect.unit (s := S1x1x512) ![0, 0, 0] S1x1x512.size inb_S1x1x512_S1x1x512_0_0_0))) (View.ld P (Rect.unit (s := S16x5120) ![0, 0] S16x5120.size inb_S16x5120_S16x5120_0_0)) (View.ld x4 (Rect.unit (s := S5120x512) ![0, 0] S5120x512.size inb_S5120x512_S5120x512_0_0)) (View.ld x6 (Rect.unit (s := S1x1x512) ![0, 0, 0] S1x1x512.size inb_S1x1x512_S1x1x512_0_0_0))) (View.ld x0 (Rect.unit (s := S3x384x5120) ![2, 0, 0] S1x384x5120.size inb_S3x384x5120_S1x384x5120_2_0_0)) (View.ld C (Rect.unit (s := S3x5120x512) ![2, 0, 0] S1x5120x512.size inb_S3x5120x512_S1x5120x512_2_0_0)) (View.ld x1 (Rect.unit (s := S3x384x128) ![2, 0, 0] S1x384x128.size inb_S3x384x128_S1x384x128_2_0_0)))⟩,
   ⟨(Rect.unit (s := S3x384x512) ![1, 0, 0] S1x384x512.size inb_S3x384x512_S1x384x512_1_0_0), k0_pay33 (k0_pay23 (amaxs c i arg1 harg1 arg2 harg2 arg3 harg3 arg4 harg4 arg5 harg5 arg6 harg6 arg7 harg7 arg8 harg8 arg9 harg9 arg10 harg10 arg11 harg11 arg12 harg12 x4 x5 U).2.1) (k0_pay31 (k0_pay10 (View.ld x5 (Rect.unit (s := S1x1x512) ![0, 0, 0] S1x1x512.size inb_S1x1x512_S1x1x512_0_0_0))) (View.ld P (Rect.unit (s := S16x5120) ![0, 0] S16x5120.size inb_S16x5120_S16x5120_0_0)) (View.ld x4 (Rect.unit (s := S5120x512) ![0, 0] S5120x512.size inb_S5120x512_S5120x512_0_0)) (View.ld x6 (Rect.unit (s := S1x1x512) ![0, 0, 0] S1x1x512.size inb_S1x1x512_S1x1x512_0_0_0))) (View.ld x0 (Rect.unit (s := S3x384x5120) ![1, 0, 0] S1x384x5120.size inb_S3x384x5120_S1x384x5120_1_0_0)) (View.ld C (Rect.unit (s := S3x5120x512) ![1, 0, 0] S1x5120x512.size inb_S3x5120x512_S1x5120x512_1_0_0)) (View.ld x1 (Rect.unit (s := S3x384x128) ![1, 0, 0] S1x384x128.size inb_S3x384x128_S1x384x128_1_0_0))⟩,
   ⟨(Rect.unit (s := S3x384x512) ![0, 0, 0] S1x384x512.size inb_S3x384x512_S1x384x512_0_0_0), k0_pay32 (k0_pay10 (View.ld x5 (Rect.unit (s := S1x1x512) ![0, 0, 0] S1x1x512.size inb_S1x1x512_S1x1x512_0_0_0))) (k0_pay19 (amaxs c i arg1 harg1 arg2 harg2 arg3 harg3 arg4 harg4 arg5 harg5 arg6 harg6 arg7 harg7 arg8 harg8 arg9 harg9 arg10 harg10 arg11 harg11 arg12 harg12 x4 x5 U).1) (View.ld P (Rect.unit (s := S16x5120) ![0, 0] S16x5120.size inb_S16x5120_S16x5120_0_0)) (View.ld x4 (Rect.unit (s := S5120x512) ![0, 0] S5120x512.size inb_S5120x512_S5120x512_0_0)) (View.ld x6 (Rect.unit (s := S1x1x512) ![0, 0, 0] S1x1x512.size inb_S1x1x512_S1x1x512_0_0_0)) (View.ld x0 (Rect.unit (s := S3x384x5120) ![0, 0, 0] S1x384x5120.size inb_S3x384x5120_S1x384x5120_0_0_0)) (View.ld C (Rect.unit (s := S3x5120x512) ![0, 0, 0] S1x5120x512.size inb_S3x5120x512_S1x5120x512_0_0_0)) (View.ld x1 (Rect.unit (s := S3x384x128) ![0, 0, 0] S1x384x128.size inb_S3x384x128_S1x384x128_0_0_0))⟩]

/-- The three stores of the scales' block, last first. -/
def sPieces (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (x4 : Vec F S5120x512 .fp8e4m3) (x5 : Vec F S1x1x512 .f32) (U : Vec F S3x5120x128 .f32) : List (View.Piece (Elt F) S1x3x512 .f32) :=
  [⟨(Rect.unit (s := S1x3x512) ![0, 2, 0] S1x1x512.size inb_S1x3x512_S1x1x512_0_2_0), k0_pay29 (amaxs c i arg1 harg1 arg2 harg2 arg3 harg3 arg4 harg4 arg5 harg5 arg6 harg6 arg7 harg7 arg8 harg8 arg9 harg9 arg10 harg10 arg11 harg11 arg12 harg12 x4 x5 U).2.2⟩, ⟨(Rect.unit (s := S1x3x512) ![0, 1, 0] S1x1x512.size inb_S1x3x512_S1x1x512_0_1_0), k0_pay25 (k0_pay23 (amaxs c i arg1 harg1 arg2 harg2 arg3 harg3 arg4 harg4 arg5 harg5 arg6 harg6 arg7 harg7 arg8 harg8 arg9 harg9 arg10 harg10 arg11 harg11 arg12 harg12 x4 x5 U).2.1)⟩, ⟨(Rect.unit (s := S1x3x512) ![0, 0, 0] S1x1x512.size inb_S1x3x512_S1x1x512_0_0_0), k0_pay21 (k0_pay19 (amaxs c i arg1 harg1 arg2 harg2 arg3 harg3 arg4 harg4 arg5 harg5 arg6 harg6 arg7 harg7 arg8 harg8 arg9 harg9 arg10 harg10 arg11 harg11 arg12 harg12 x4 x5 U).1)⟩]

/-- The codes the last loop writes into the codes' block, last first. -/
def cPieces (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (x4 : Vec F S5120x512 .fp8e4m3) (x5 : Vec F S1x1x512 .f32) (U : Vec F S3x5120x128 .f32) : List (View.Piece (Elt F) S3x5120x512 .fp8e4m3) :=
  pb_k0_t5 (F := F) Variants.none c none i arg1 harg1 arg2 harg2 arg3 harg3 arg4 harg4 arg5 harg5 arg6 harg6 arg7 harg7 arg8 harg8 arg9 harg9 arg10 harg10 arg11 harg11 arg12 harg12 (k0_pay10 (View.ld x5 (Rect.unit (s := S1x1x512) ![0, 0, 0] S1x1x512.size inb_S1x1x512_S1x1x512_0_0_0))) (k0_pay19 (amaxs c i arg1 harg1 arg2 harg2 arg3 harg3 arg4 harg4 arg5 harg5 arg6 harg6 arg7 harg7 arg8 harg8 arg9 harg9 arg10 harg10 arg11 harg11 arg12 harg12 x4 x5 U).1) (k0_pay20 (k0_pay10 (View.ld x5 (Rect.unit (s := S1x1x512) ![0, 0, 0] S1x1x512.size inb_S1x1x512_S1x1x512_0_0_0))) (k0_pay18 (amaxs c i arg1 harg1 arg2 harg2 arg3 harg3 arg4 harg4 arg5 harg5 arg6 harg6 arg7 harg7 arg8 harg8 arg9 harg9 arg10 harg10 arg11 harg11 arg12 harg12 x4 x5 U).1)) (k0_pay24 (k0_pay10 (View.ld x5 (Rect.unit (s := S1x1x512) ![0, 0, 0] S1x1x512.size inb_S1x1x512_S1x1x512_0_0_0))) (amaxs c i arg1 harg1 arg2 harg2 arg3 harg3 arg4 harg4 arg5 harg5 arg6 harg6 arg7 harg7 arg8 harg8 arg9 harg9 arg10 harg10 arg11 harg11 arg12 harg12 x4 x5 U).2.1) (k0_pay28 (k0_pay10 (View.ld x5 (Rect.unit (s := S1x1x512) ![0, 0, 0] S1x1x512.size inb_S1x1x512_S1x1x512_0_0_0))) (amaxs c i arg1 harg1 arg2 harg2 arg3 harg3 arg4 harg4 arg5 harg5 arg6 harg6 arg7 harg7 arg8 harg8 arg9 harg9 arg10 harg10 arg11 harg11 arg12 harg12 x4 x5 U).2.2) 0#32 (harg5.unread x4) (harg11.unread U) (Scf.trips k0_t5_loop.lb k0_t5_loop.ub k0_t5_loop.st)

/-- A buffer owned at some value is a buffer holding some contents. -/
theorem owns_raw {sp : Space} {s : Shape} {e : EltTy} (c : Dev nD) (a : Memref sig .tc sp s e) (d : s.Idx → Elt F e) :
    (owns (c : Thread nD τ) a fullShare d : sProp 𝕄) ⊢ iprop(∃ f, (a.view.loc c ↦[a.view.set]{fullShare} f)) := by
  unfold owns
  iintro ⟨%f, %h, H⟩
  iexists f; iexact H

set_option maxHeartbeats 4000000 in
/-- The body at a point that is not the first: the scratch buffers hold `U` and `P` and keep them. -/
theorem bodyB_spec (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc0 : ¬cond0_0 i) (x0 : Vec F S3x384x5120 .fp8e4m3) (x1 : Vec F S3x384x128 .f32) (x4 : Vec F S5120x512 .fp8e4m3) (x5 : Vec F S1x1x512 .f32) (x6 : Vec F S1x1x512 .f32) (U : Vec F S3x5120x128 .f32) (P : Vec F S16x5120 .bf16) (x2 : Vec F S3x5120 .f32) (x3 : Vec F S3x5120 .f32) (Y : Vec F S3x384x512 .bf16) (C : Vec F S3x5120x512 .fp8e4m3) (S : Vec F S1x3x512 .f32) (hC : ∀ f, arg9.view.read (Elt F) (arg9.view.writes (Elt F) f (cPieces c i arg1 harg1 arg2 harg2 arg3 harg3 arg4 harg4 arg5 harg5 arg6 harg6 arg7 harg7 arg8 harg8 arg9 harg9 arg10 harg10 arg11 harg11 arg12 harg12 x4 x5 U)) = C) (hS : ∀ f, arg10.view.read (Elt F) (arg10.view.writes (Elt F) f (sPieces c i arg1 harg1 arg2 harg2 arg3 harg3 arg4 harg4 arg5 harg5 arg6 harg6 arg7 harg7 arg8 harg8 arg9 harg9 arg10 harg10 arg11 harg11 arg12 harg12 x4 x5 U)) = S) (hY : ∀ f, arg8.view.read (Elt F) (arg8.view.writes (Elt F) f (yPieces c i arg1 harg1 arg2 harg2 arg3 harg3 arg4 harg4 arg5 harg5 arg6 harg6 arg7 harg7 arg8 harg8 arg9 harg9 arg10 harg10 arg11 harg11 arg12 harg12 x0 x1 x4 x5 x6 U P C)) = Y)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare U ∗ owns (c : Thread nD τ) arg12 fullShare P
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare Y ∗ owns (c : Thread nD τ) arg9 fullShare C ∗ owns (c : Thread nD τ) arg10 fullShare S ∗ owns (c : Thread nD τ) arg11 fullShare U ∗ owns (c : Thread nD τ) arg12 fullShare P) -∗ K ⟨⟩))
      ⊢ wp frame (wpE (defs₀ (F := F)) Variants.none c none) E (cc0_modulated_matmul i arg1 harg1 arg2 harg2 arg3 harg3 arg4 harg4 arg5 harg5 arg6 harg6 arg7 harg7 arg8 harg8 arg9 harg9 arg10 harg10 arg11 harg11 arg12 harg12) K := by
  rw [cc0_modulated_matmul_eq_skeleton]; unfold cc0_modulated_matmul_skel
  iintro ⟨H1, H2, H3, H4, H5, H6, H7, ⟨%d8, H8⟩, ⟨%d9, H9⟩, ⟨%d10, H10⟩, H11, H12, Hk⟩
  ihave H8 := (owns_raw (F := F) c arg8 d8) $$ H8
  icases H8 with ⟨%f8, H8⟩
  ihave H9 := (owns_raw (F := F) c arg9 d9) $$ H9
  icases H9 with ⟨%f9, H9⟩
  ihave H10 := (owns_raw (F := F) c arg10 d10) $$ H10
  icases H10 with ⟨%f10, H10⟩
  rw [wp_bind]
  iapply (part2B_spec c i arg1 harg1 arg2 harg2 arg3 harg3 arg4 harg4 arg5 harg5 arg6 harg6 arg7 harg7 arg8 harg8 arg9 harg9 arg10 harg10 arg11 harg11 arg12 harg12 hc0 x4 x5 U E _)
  isplitl [H5]; · iexact H5
  isplitl [H6]; · iexact H6
  isplitl [H11]; · iexact H11
  iintro ⟨H5, H6, H11⟩
  dsimp only
  rw [wp_bind]
  iapply (part3_spec c i arg1 harg1 arg2 harg2 arg3 harg3 arg4 harg4 arg5 harg5 arg6 harg6 arg7 harg7 arg8 harg8 arg9 harg9 arg10 harg10 arg11 harg11 arg12 harg12 _ _ _ _ f10 E _)
  isplitl [H10]; · iexact H10
  iintro H10
  dsimp only
  rw [wp_bind]
  iapply (part4_spec c i arg1 harg1 arg2 harg2 arg3 harg3 arg4 harg4 arg5 harg5 arg6 harg6 arg7 harg7 arg8 harg8 arg9 harg9 arg10 harg10 arg11 harg11 arg12 harg12 _ _ _ _ E _)
  isplitl [H10]; · iexact H10
  iintro H10
  dsimp only
  rw [wp_bind]
  iapply (part5_spec c i arg1 harg1 arg2 harg2 arg3 harg3 arg4 harg4 arg5 harg5 arg6 harg6 arg7 harg7 arg8 harg8 arg9 harg9 arg10 harg10 arg11 harg11 arg12 harg12 _ _ _ _ _ x0 x1 x4 x6 U P f8 f9 C hC E _)
  isplitl [H1]; · iexact H1
  isplitl [H2]; · iexact H2
  isplitl [H5]; · iexact H5
  isplitl [H7]; · iexact H7
  isplitl [H11]; · iexact H11
  isplitl [H12]; · iexact H12
  isplitl [H8]; · iexact H8
  isplitl [H9]; · iexact H9
  iintro ⟨H1, H2, H5, H7, H11, H12, H8, H9⟩
  dsimp only
  rw [wp_bind]
  iapply (part6_spec c i arg1 harg1 arg2 harg2 arg3 harg3 arg4 harg4 arg5 harg5 arg6 harg6 arg7 harg7 arg8 harg8 arg9 harg9 arg10 harg10 arg11 harg11 arg12 harg12 _ _ _ x0 x1 C _ E _)
  isplitl [H1]; · iexact H1
  isplitl [H2]; · iexact H2
  isplitl [H9]; · iexact H9
  isplitl [H8]; · iexact H8
  iintro ⟨H1, H2, H9, H8⟩
  dsimp only
  sl_exec
  sl_step
  simp only [← View.writes_append]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr; swap; · iexact H8
    ipureintro; exact hY f8
  isplitl [H9]; · iexact H9
  isplitl [H10]
  · unfold owns; iexists _; isplitr; swap; · iexact H10
    ipureintro; exact hS f10
  isplitl [H11]; · iexact H11
  iexact H12

set_option maxHeartbeats 4000000 in
/-- The body at the first point: it fills the scratch buffers with `U` and `P` whatever they held. -/
theorem bodyA_spec (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc0 : cond0_0 i) (x0 : Vec F S3x384x5120 .fp8e4m3) (x1 : Vec F S3x384x128 .f32) (x4 : Vec F S5120x512 .fp8e4m3) (x5 : Vec F S1x1x512 .f32) (x6 : Vec F S1x1x512 .f32) (U : Vec F S3x5120x128 .f32) (P : Vec F S16x5120 .bf16) (x2 : Vec F S3x5120 .f32) (x3 : Vec F S3x5120 .f32) (Y : Vec F S3x384x512 .bf16) (C : Vec F S3x5120x512 .fp8e4m3) (S : Vec F S1x3x512 .f32) (hC : ∀ f, arg9.view.read (Elt F) (arg9.view.writes (Elt F) f (cPieces c i arg1 harg1 arg2 harg2 arg3 harg3 arg4 harg4 arg5 harg5 arg6 harg6 arg7 harg7 arg8 harg8 arg9 harg9 arg10 harg10 arg11 harg11 arg12 harg12 x4 x5 U)) = C) (hS : ∀ f, arg10.view.read (Elt F) (arg10.view.writes (Elt F) f (sPieces c i arg1 harg1 arg2 harg2 arg3 harg3 arg4 harg4 arg5 harg5 arg6 harg6 arg7 harg7 arg8 harg8 arg9 harg9 arg10 harg10 arg11 harg11 arg12 harg12 x4 x5 U)) = S) (hY : ∀ f, arg8.view.read (Elt F) (arg8.view.writes (Elt F) f (yPieces c i arg1 harg1 arg2 harg2 arg3 harg3 arg4 harg4 arg5 harg5 arg6 harg6 arg7 harg7 arg8 harg8 arg9 harg9 arg10 harg10 arg11 harg11 arg12 harg12 x0 x1 x4 x5 x6 U P C)) = Y) (hU : ∀ f, arg11.view.read (Elt F) (arg11.view.writes (Elt F) f ((pb_k0_t3 (F := F) Variants.none c none i arg1 harg1 arg2 harg2 arg3 harg3 arg4 harg4 arg5 harg5 arg6 harg6 arg7 harg7 arg8 harg8 arg9 harg9 arg10 harg10 arg11 harg11 arg12 harg12 hc0 (harg3.unread x2) (Scf.trips k0_t3_loop.lb k0_t3_loop.ub k0_t3_loop.st)) ++ ((pb_k0_t2 (F := F) Variants.none c none i arg1 harg1 arg2 harg2 arg3 harg3 arg4 harg4 arg5 harg5 arg6 harg6 arg7 harg7 arg8 harg8 arg9 harg9 arg10 harg10 arg11 harg11 arg12 harg12 hc0 (harg3.unread x2) (Scf.trips k0_t2_loop.lb k0_t2_loop.ub k0_t2_loop.st)) ++ (pb_k0_t1 (F := F) Variants.none c none i arg1 harg1 arg2 harg2 arg3 harg3 arg4 harg4 arg5 harg5 arg6 harg6 arg7 harg7 arg8 harg8 arg9 harg9 arg10 harg10 arg11 harg11 arg12 harg12 hc0 (harg3.unread x2) (Scf.trips k0_t1_loop.lb k0_t1_loop.ub k0_t1_loop.st))))) = U) (hP : ∀ f, arg12.view.read (Elt F) (arg12.view.writes (Elt F) f [⟨(Rect.unit (s := S16x5120) ![0, 0] S16x5120.size inb_S16x5120_S16x5120_0_0), k0_pay9 (View.ld x3 (Rect.unit (s := S3x5120) ![0, 0] S3x5120.size inb_S3x5120_S3x5120_0_0))⟩]) = P)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare Y ∗ owns (c : Thread nD τ) arg9 fullShare C ∗ owns (c : Thread nD τ) arg10 fullShare S ∗ owns (c : Thread nD τ) arg11 fullShare U ∗ owns (c : Thread nD τ) arg12 fullShare P) -∗ K ⟨⟩))
      ⊢ wp frame (wpE (defs₀ (F := F)) Variants.none c none) E (cc0_modulated_matmul i arg1 harg1 arg2 harg2 arg3 harg3 arg4 harg4 arg5 harg5 arg6 harg6 arg7 harg7 arg8 harg8 arg9 harg9 arg10 harg10 arg11 harg11 arg12 harg12) K := by
  rw [cc0_modulated_matmul_eq_skeleton]; unfold cc0_modulated_matmul_skel
  iintro ⟨H1, H2, H3, H4, H5, H6, H7, ⟨%d8, H8⟩, ⟨%d9, H9⟩, ⟨%d10, H10⟩, ⟨%d11, H11⟩, ⟨%d12, H12⟩, Hk⟩
  ihave H8 := (owns_raw (F := F) c arg8 d8) $$ H8
  icases H8 with ⟨%f8, H8⟩
  ihave H9 := (owns_raw (F := F) c arg9 d9) $$ H9
  icases H9 with ⟨%f9, H9⟩
  ihave H10 := (owns_raw (F := F) c arg10 d10) $$ H10
  icases H10 with ⟨%f10, H10⟩
  ihave H11 := (owns_raw (F := F) c arg11 d11) $$ H11
  icases H11 with ⟨%f11, H11⟩
  ihave H12 := (owns_raw (F := F) c arg12 d12) $$ H12
  icases H12 with ⟨%f12, H12⟩
  rw [wp_bind]
  iapply (part2A_spec c i arg1 harg1 arg2 harg2 arg3 harg3 arg4 harg4 arg5 harg5 arg6 harg6 arg7 harg7 arg8 harg8 arg9 harg9 arg10 harg10 arg11 harg11 arg12 harg12 hc0 x2 x3 x4 x5 f11 f12 U P hU hP E _)
  isplitl [H3]; · iexact H3
  isplitl [H4]; · iexact H4
  isplitl [H5]; · iexact H5
  isplitl [H6]; · iexact H6
  isplitl [H11]; · iexact H11
  isplitl [H12]; · iexact H12
  iintro ⟨H3, H4, H5, H6, H11, H12⟩
  dsimp only
  rw [wp_bind]
  iapply (part3_spec c i arg1 harg1 arg2 harg2 arg3 harg3 arg4 harg4 arg5 harg5 arg6 harg6 arg7 harg7 arg8 harg8 arg9 harg9 arg10 harg10 arg11 harg11 arg12 harg12 _ _ _ _ f10 E _)
  isplitl [H10]; · iexact H10
  iintro H10
  dsimp only
  rw [wp_bind]
  iapply (part4_spec c i arg1 harg1 arg2 harg2 arg3 harg3 arg4 harg4 arg5 harg5 arg6 harg6 arg7 harg7 arg8 harg8 arg9 harg9 arg10 harg10 arg11 harg11 arg12 harg12 _ _ _ _ E _)
  isplitl [H10]; · iexact H10
  iintro H10
  dsimp only
  rw [wp_bind]
  iapply (part5_spec c i arg1 harg1 arg2 harg2 arg3 harg3 arg4 harg4 arg5 harg5 arg6 harg6 arg7 harg7 arg8 harg8 arg9 harg9 arg10 harg10 arg11 harg11 arg12 harg12 _ _ _ _ _ x0 x1 x4 x6 U P f8 f9 C hC E _)
  isplitl [H1]; · iexact H1
  isplitl [H2]; · iexact H2
  isplitl [H5]; · iexact H5
  isplitl [H7]; · iexact H7
  isplitl [H11]; · iexact H11
  isplitl [H12]; · iexact H12
  isplitl [H8]; · iexact H8
  isplitl [H9]; · iexact H9
  iintro ⟨H1, H2, H5, H7, H11, H12, H8, H9⟩
  dsimp only
  rw [wp_bind]
  iapply (part6_spec c i arg1 harg1 arg2 harg2 arg3 harg3 arg4 harg4 arg5 harg5 arg6 harg6 arg7 harg7 arg8 harg8 arg9 harg9 arg10 harg10 arg11 harg11 arg12 harg12 _ _ _ x0 x1 C _ E _)
  isplitl [H1]; · iexact H1
  isplitl [H2]; · iexact H2
  isplitl [H9]; · iexact H9
  isplitl [H8]; · iexact H8
  iintro ⟨H1, H2, H9, H8⟩
  dsimp only
  sl_exec
  sl_step
  simp only [← View.writes_append]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr; swap; · iexact H8
    ipureintro; exact hY f8
  isplitl [H9]; · iexact H9
  isplitl [H10]
  · unfold owns; iexists _; isplitr; swap; · iexact H10
    ipureintro; exact hS f10
  isplitl [H11]; · iexact H11
  iexact H12

end Cert.KernelIdeal.Gen

end
-- ==== Proof.Trips.lean ====
/- What one trip of each counted loop of the main kernel's body writes or carries, in terms of the vectors it loads. -/
module

public import proofs.«01_k».proof.Proof.BodyParts

@[expose] public section

set_option maxRecDepth 16384

noncomputable section

namespace Cert.KernelIdeal.Gen

open Idealize.ShloMosaic Idealize.ShloMosaic.TcCoe Idealize.ShloMosaic.Tactic
open Idealize.SL.Sem

variable {F : FTy → Type} [FloatOps F]

/-- Loop 1 of the first point writes, in trip `k`, one block of 128 rows: the broadcast of one plus the loaded scale row. -/
theorem trip1_eq (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc : cond0_0 i) (X : BufTy.Contents (Elt F) arg3.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 hc X k
      = [⟨Rect.unit (s := S3x5120x128) (k0_off2 k) S1x128x128.size (k0_off2_inb i k hc),
          k0_pay6 (View.readAt (Elt F) arg3.view (Rect.unit (s := S3x5120) (k0_off1 k) S1x128.size (k0_off1_inb i k hc)).toLoadRect X)⟩] := by
  unfold tripL_k0_t1 trip_k0_t1
  sl_unfold_words
  rfl

/-- Loop 2 of the first point writes, in trip `k`, one block of 128 rows: the broadcast of one plus the loaded scale row. -/
theorem trip2_eq (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc : cond0_0 i) (X : BufTy.Contents (Elt F) arg3.view.ty) (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 arg12 harg12 hc X k
      = [⟨Rect.unit (s := S3x5120x128) (k0_off4 k) S1x128x128.size (k0_off4_inb i k hc),
          k0_pay7 (View.readAt (Elt F) arg3.view (Rect.unit (s := S3x5120) (k0_off3 k) S1x128.size (k0_off3_inb i k hc)).toLoadRect X)⟩] := by
  unfold tripL_k0_t2 trip_k0_t2
  sl_unfold_words
  rfl

/-- Loop 3 of the first point writes, in trip `k`, one block of 128 rows: the broadcast of one plus the loaded scale row. -/
theorem trip3_eq (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc : cond0_0 i) (X : BufTy.Contents (Elt F) arg3.view.ty) (k : Fin k0_t3_loop.trips) :
    tripL_k0_t3 (F := F) Variants.none c none i arg1 harg1 arg2 harg2 arg3 harg3 arg4 harg4 arg5 harg5 arg6 harg6 arg7 harg7 arg8 harg8 arg9 harg9 arg10 harg10 arg11 harg11 arg12 harg12 hc X k
      = [⟨Rect.unit (s := S3x5120x128) (k0_off6 k) S1x128x128.size (k0_off6_inb i k hc),
          k0_pay8 (View.readAt (Elt F) arg3.view (Rect.unit (s := S3x5120) (k0_off5 k) S1x128.size (k0_off5_inb i k hc)).toLoadRect X)⟩] := by
  unfold tripL_k0_t3 trip_k0_t3
  sl_unfold_words
  rfl

/-- One trip of the maxima's loop: each of the three running maxima takes in 128 more rows. -/
theorem trip4_eq (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (v3 : Vec F S1x1x512 .f32) (X5 : BufTy.Contents (Elt F) arg5.view.ty) (X11 : BufTy.Contents (Elt F) arg11.view.ty)
    (k : Fin k0_t4_loop.trips) (acc : FVec F S8x512 .f32 × FVec F S8x512 .f32 × FVec F S8x512 .f32) :
    tripR_k0_t4 (F := F) Variants.none c none i arg1 harg1 arg2 harg2 arg3 harg3 arg4 harg4 arg5 harg5 arg6 harg6 arg7 harg7 arg8 harg8 arg9 harg9 arg10 harg10 arg11 harg11 arg12 harg12 v3 X5 X11 k acc
      = (k0_pay15 v3 acc.1 (View.readAt (Elt F) arg5.view (Rect.unit (s := S5120x512) (k0_off7 k) S128x512.size (k0_off7_inb k)).toLoadRect X5)
            (View.readAt (Elt F) arg11.view (Rect.unit (s := S3x5120x128) (k0_off8 k) S1x128x128.size (k0_off8_inb k)).toLoadRect X11),
         k0_pay16 v3 acc.2.1 (View.readAt (Elt F) arg5.view (Rect.unit (s := S5120x512) (k0_off7 k) S128x512.size (k0_off7_inb k)).toLoadRect X5)
            (View.readAt (Elt F) arg11.view (Rect.unit (s := S3x5120x128) (k0_off9 k) S1x128x128.size (k0_off9_inb k)).toLoadRect X11),
         k0_pay17 v3 acc.2.2 (View.readAt (Elt F) arg5.view (Rect.unit (s := S5120x512) (k0_off7 k) S128x512.size (k0_off7_inb k)).toLoadRect X5)
            (View.readAt (Elt F) arg11.view (Rect.unit (s := S3x5120x128) (k0_off10 k) S1x128x128.size (k0_off10_inb k)).toLoadRect X11)) := by
  unfold tripR_k0_t4 trip_k0_t4
  sl_unfold_words
  rfl

/-- One trip of the codes' loop writes one block of 128 rows of each of the three code arrays. -/
theorem trip5_eq (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (v4 v35 v41 v76 v111 : FVec F S1x512 .f32) (X5 : BufTy.Contents (Elt F) arg5.view.ty) (X11 : BufTy.Contents (Elt F) arg11.view.ty)
    (k : Fin k0_t5_loop.trips) :
    tripL_k0_t5 (F := F) Variants.none c none i arg1 harg1 arg2 harg2 arg3 harg3 arg4 harg4 arg5 harg5 arg6 harg6 arg7 harg7 arg8 harg8 arg9 harg9 arg10 harg10 arg11 harg11 arg12 harg12 v4 v35 v41 v76 v111 0#32 X5 X11 k
      = [⟨Rect.unit (s := S3x5120x512) (k0_off17 k) S1x128x512.size (k0_off17_inb k), k0_pay30 v111 (k0_pay2 (View.readAt (Elt F) arg5.view (Rect.unit (s := S5120x512) (k0_off11 k) S128x512.size (k0_off11_inb k)).toLoadRect X5)) (k0_pay5 (View.readAt (Elt F) arg11.view (Rect.unit (s := S3x5120x128) (k0_off16 k) S1x128x128.size (k0_off16_inb k)).toLoadRect X11))⟩,
         ⟨Rect.unit (s := S3x5120x512) (k0_off15 k) S1x128x512.size (k0_off15_inb k), k0_pay4 v76 (View.readAt (Elt F) arg5.view (Rect.unit (s := S5120x512) (k0_off11 k) S128x512.size (k0_off11_inb k)).toLoadRect X5) (View.readAt (Elt F) arg11.view (Rect.unit (s := S3x5120x128) (k0_off14 k) S1x128x128.size (k0_off14_inb k)).toLoadRect X11)⟩,
         ⟨Rect.unit (s := S3x5120x512) (k0_off13 k) S1x128x512.size (k0_off13_inb k), k0_pay3 v41 (View.readAt (Elt F) arg5.view (Rect.unit (s := S5120x512) (k0_off11 k) S128x512.size (k0_off11_inb k)).toLoadRect X5) (View.readAt (Elt F) arg11.view (Rect.unit (s := S3x5120x128) (k0_off12 k) S1x128x128.size (k0_off12_inb k)).toLoadRect X11)⟩] := by
  unfold tripL_k0_t5 trip_k0_t5
  sl_unfold_words
  rfl

end Cert.KernelIdeal.Gen
-- ==== Proof.Scale.lean ====
/- The power-of-two scale of a row's largest magnitude, once as an exponent counted by thresholds (the kernels') and once as
   the least power of two above a quotient (the reference's): the two are one number, over the extended reals. -/
module

public import Idealize.ShloMosaic.PureOps.Ideal
public import Idealize.ShloMosaic.PureOps.Ideal.Laws
public import Idealize.ShloMosaic.Lib.IndicatorCount

@[expose] public section

noncomputable section

namespace Cert.Scale

open Idealize.ShloMosaic

/-- The power of two `2^(j - 127)`: the float whose exponent field is `j` and whose significand is zero. -/
def pw (j : ℕ) : EReal := (((2 : ℝ) ^ ((j : ℤ) - 127) : ℝ) : EReal)

theorem pw_pos (j : ℕ) : 0 < pw j := EReal.coe_pos.2 (zpow_pos (by norm_num) _)

theorem pw_ne_zero (j : ℕ) : pw j ≠ 0 := (pw_pos j).ne'

theorem pw_le {i j : ℕ} (h : i ≤ j) : pw i ≤ pw j :=
  EReal.coe_le_coe_iff.2 (zpow_le_zpow_right₀ (by norm_num) (by omega))

theorem pw_127 : pw 127 = 1 := by simp [pw]

/-- A significand of `2^23` moves the exponent by 23. -/
theorem pow_shift (j : ℕ) (c : ℝ) (hc : c = (2 : ℝ) ^ (23 : ℤ)) (x : ℤ) (hx : x = (j : ℤ) - 127 - 23) :
    c * (2 : ℝ) ^ x = (2 : ℝ) ^ ((j : ℤ) - 127) := by
  rw [hc, hx, ← zpow_add₀ (by norm_num)]
  congr 1
  ring

/-- The word with exponent field `j` and nothing else reads as `pw j`. -/
theorem ofBits_field (j : ℕ) (h1 : 1 ≤ j) (h2 : j ≤ 254) : Ideal.ofBits .f32 (BitVec.ofNat 32 j <<< 23) = pw j := by
  have key : ∀ j : Fin 255, ((BitVec.ofNat 32 j.val <<< 23 : BitVec 32).extractLsb' 31 1 == 1#1) = false
      ∧ ((BitVec.ofNat 32 j.val <<< 23 : BitVec 32).extractLsb' 23 8).toNat = j.val
      ∧ ((BitVec.ofNat 32 j.val <<< 23 : BitVec 32).extractLsb' 0 23).toNat = 0 := by decide +kernel
  obtain ⟨k1, k2, k3⟩ := key ⟨j, by omega⟩
  show Ideal.ieee 8 23 (BitVec.ofNat 32 j <<< 23) = pw j
  unfold Ideal.ieee
  simp only [Nat.reduceAdd] at k1 k2 k3 ⊢
  rw [k1, k2, k3, if_neg (by omega), if_neg (by omega)]
  unfold pw
  rw [EReal.coe_eq_coe_iff]
  simp only [Bool.false_eq_true, if_false, one_mul, Nat.add_zero]
  exact pow_shift j _ (by push_cast; norm_num) _ (by norm_num)

/-- The kernels' scale word, from the count. -/
theorem ofBits_scale (n : ℕ) (h : n ≤ 252) :
    Ideal.ofBits .f32 ((BitVec.ofNat 32 n - 126#32 + 127#32) <<< 23) = pw (n + 1) := by
  have : (BitVec.ofNat 32 n - 126#32 + 127#32) = BitVec.ofNat 32 (n + 1) := by
    apply BitVec.eq_of_toNat_eq; simp only [BitVec.toNat_add, BitVec.toNat_sub, BitVec.toNat_ofNat]; omega
  rw [this, ofBits_field _ (by omega) (by omega)]

/-- The kernels' reciprocal word, from the count. -/
theorem ofBits_inv (n : ℕ) (h : n ≤ 252) :
    Ideal.ofBits .f32 ((127#32 - (BitVec.ofNat 32 n - 126#32)) <<< 23) = pw (253 - n) := by
  have : (127#32 - (BitVec.ofNat 32 n - 126#32)) = BitVec.ofNat 32 (253 - n) := by
    apply BitVec.eq_of_toNat_eq; simp only [BitVec.toNat_sub, BitVec.toNat_ofNat]; omega
  rw [this, ofBits_field _ (by omega) (by omega)]

/-- The kernels' threshold word number `j`. -/
theorem ofBits_threshold (j : ℕ) (h : j < 252) :
    Ideal.ofBits .f32 ((BitVec.ofNat 32 j + 1#32) <<< 23) = pw (j + 1) := by
  rw [show (BitVec.ofNat 32 j + 1#32) = BitVec.ofNat 32 (j + 1) from (BitVec.ofNat_add j 1).symm, ofBits_field _ (by omega) (by omega)]

/-- The reference's power number `i`. -/
theorem exp2_power (i : ℕ) : Ideal.exp2 (((i : ℝ) : EReal) - ((126 : ℝ) : EReal)) = pw (i + 1) := by
  rw [← EReal.coe_sub]
  show (((2 : ℝ) ^ ((i : ℝ) - 126) : ℝ) : EReal) = _
  unfold pw
  rw [EReal.coe_eq_coe_iff, ← Real.rpow_intCast]
  congr 1
  push_cast
  ring

/-- How many of the powers `2^-126 … 2^125` are at most `t`. -/
def count (t : EReal) : ℕ := (Finset.univ.filter fun j : Fin 252 => pw (j.val + 1) ≤ t).card

theorem count_le (t : EReal) : count t ≤ 252 := (Finset.card_le_univ _).trans (by simp)

/-- The powers at most `t` are the first `count t` of them. -/
theorem pw_le_iff (t : EReal) (j : ℕ) (hj : j < 252) : pw (j + 1) ≤ t ↔ j < count t := by
  constructor
  · intro h
    have : (Finset.univ.filter fun i : Fin 252 => i.val ≤ j) ⊆ Finset.univ.filter fun i : Fin 252 => pw (i.val + 1) ≤ t := by
      intro i hi
      simp only [Finset.mem_filter, Finset.mem_univ, true_and] at hi ⊢
      exact (pw_le (by omega)).trans h
    have h2 := Finset.card_le_card this
    have h3 : (Finset.univ.filter fun i : Fin 252 => i.val ≤ j).card = j + 1 := by
      have : (Finset.univ.filter fun i : Fin 252 => i.val ≤ j) = Finset.Iic (⟨j, hj⟩ : Fin 252) := by
        ext i; simp [Fin.le_def]
      rw [this, Fin.card_Iic]
    unfold count; omega
  · intro h
    by_contra hn
    have : (Finset.univ.filter fun i : Fin 252 => pw (i.val + 1) ≤ t) ⊆ Finset.univ.filter fun i : Fin 252 => i.val < j := by
      intro i hi
      simp only [Finset.mem_filter, Finset.mem_univ, true_and] at hi ⊢
      by_contra hc
      exact hn ((pw_le (by omega)).trans hi)
    have h2 := Finset.card_le_card this
    have h3 : (Finset.univ.filter fun i : Fin 252 => i.val < j).card = j := by
      have : (Finset.univ.filter fun i : Fin 252 => i.val < j) = Finset.Iio (⟨j, hj⟩ : Fin 252) := by
        ext i; simp [Fin.lt_def]
      rw [this, Fin.card_Iio]
    unfold count at h; omega

/-- The scale of a row whose quotient is `t`: one where that is zero, else the least power of two above `t`, saturated. -/
def scale (t : EReal) : EReal := if t = 0 then 1 else pw (count t + 1)

/-- Its reciprocal. -/
def inv (t : EReal) : EReal := if t = 0 then 1 else pw (253 - count t)

theorem scale_ne_zero (t : EReal) : scale t ≠ 0 := by
  unfold scale; split
  · exact one_ne_zero
  · exact pw_ne_zero _

/-- The quotient one by the scale is the reciprocal. -/
theorem div_scale (t : EReal) : Ideal.div 1 (scale t) = inv t := by
  have hc := count_le t
  rw [Ideal.div, if_neg (scale_ne_zero t), one_mul]
  unfold scale inv
  split
  · exact inv_one
  · unfold pw
    rw [← EReal.coe_inv, ← zpow_neg]
    congr 2
    omega

/-- The least of: each power of two above `t` at its own place, the largest power elsewhere — the reference's search. -/
theorem fold_min (t : EReal) :
    (Finset.univ : Finset (Fin 253)).fold min ⊤ (fun i => if t < pw (i.val + 1) then pw (i.val + 1) else pw 253) = pw (count t + 1) := by
  have hc := count_le t
  apply le_antisymm
  · rw [Finset.fold_min_le]
    right
    refine ⟨⟨count t, by omega⟩, Finset.mem_univ _, ?_⟩
    dsimp only
    split
    · exact le_rfl
    · rename_i h
      rcases Nat.lt_or_ge (count t) 252 with h2 | h2
      · exact absurd ((pw_le_iff t _ h2).1 (not_lt.1 h)) (lt_irrefl _)
      · have : count t = 252 := by omega
        rw [this]
  · rw [Finset.le_fold_min]
    refine ⟨le_top, fun i _ => ?_⟩
    split
    · rename_i h
      apply pw_le
      by_contra hn
      have hi : i.val < count t := by omega
      exact absurd ((pw_le_iff t i.val (by omega)).2 hi) (not_le.2 h)
    · exact pw_le (by omega)

/-- `1/448`, as the single-precision constant reads. -/
def c448 : EReal := Ideal.ofBits .f32 0x3B124925#32

theorem c448_eq : ∃ r : ℝ, 0 < r ∧ c448 = (r : EReal) := by
  refine ⟨_, ?_, by unfold c448; simp [Ideal.ofBits, Ideal.ieee, -EReal.coe_mul]; rfl⟩
  norm_num

theorem mul_c448_eq_zero (a : EReal) : a * c448 = 0 ↔ a = 0 := by
  obtain ⟨r, hr, e⟩ := c448_eq
  rw [mul_eq_zero]
  constructor
  · rintro (h | h)
    · exact h
    · rw [e] at h; exact absurd (EReal.coe_eq_zero.1 h) hr.ne'
  · exact Or.inl

end Cert.Scale

end
-- ==== Proof.BlockMath.lean ====
/- The vectors the main kernel's loops compute, read at an index. -/
module
public import proofs.«01_k».proof.Proof.Gen.KernelIdeal.Skeleton
public import proofs.«01_k».proof.Proof.Scale
public import Idealize.ShloMosaic.Lib.ValueIdx
public import Idealize.ShloMosaic.Lib.Pipeline.Value
public import Idealize.ShloMosaic.Lib.Pointwise
@[expose] public section
set_option maxRecDepth 16384
noncomputable section
namespace Cert.KernelIdeal.Gen
open Idealize.ShloMosaic

/-- The lane of a 128-lane group that column `c` of 512 falls in. -/
def lane (c : Fin 512) : Fin 128 := ⟨c.val % 128, Nat.mod_lt _ (by norm_num)⟩

/-- Four copies of a block laid side by side, read at a column. -/
theorem concat4 (v : FVec Ideal S128x128 .f32) (r : Fin 128) (c : Fin 512) :
    concatenate S128x512 1 [⟨S128x128, v⟩, ⟨S128x128, v⟩, ⟨S128x128, v⟩, ⟨S128x128, v⟩] concatenates_S128x128_S128x128_S128x128_S128x128_S128x512_d1 (ix2 r c)
      = v (ix2 r (lane c)) := by
  refine concatenate_replicate_apply (t := S128x512) (s₁ := S128x128) 1 4 v _ rfl (ix2 r c) (ix2 r (lane c)) rfl ?_
  intro b hb
  match b with
  | ⟨0, _⟩ => rfl
  | ⟨1, _⟩ => exact absurd rfl hb

/-- The limit of the code format. -/
def lim : EReal := Ideal.ofBits .f32 0x43E00000#32
/-- The limit's negation, as the programs spell it. -/
def nlim : EReal := Ideal.ofBits .f32 0xC3E00000#32
/-- Clipping to the code format's range. -/
def clip (x : EReal) : EReal := min lim (max nlim x)

theorem pay6_eq (v : Vec Ideal S1x128 .f32) (r l : Fin 128) :
    k0_pay6 v (ix3 0 r l) = Ideal.ofBits .f32 0x3F800000#32 + v (ix2 0 r) := by
  unfold k0_pay6
  pointwise

theorem pay3_eq (v41 : FVec Ideal S1x512 .f32) (w : Vec Ideal S128x512 .fp8e4m3) (u : Vec Ideal S1x128x128 .f32) (r : Fin 128) (c : Fin 512) :
    k0_pay3 v41 w u (ix3 0 r c) = clip (u (ix3 0 r (lane c)) * (w (ix2 r c) * v41 (ix2 0 c))) := by
  have e : ∀ r c, concatenate S128x512 1 [⟨S128x128, shapeCast S128x128 u shapeCasts_S1x128x128_S128x128⟩, ⟨S128x128, shapeCast S128x128 u shapeCasts_S1x128x128_S128x128⟩, ⟨S128x128, shapeCast S128x128 u shapeCasts_S1x128x128_S128x128⟩, ⟨S128x128, shapeCast S128x128 u shapeCasts_S1x128x128_S128x128⟩] concatenates_S128x128_S128x128_S128x128_S128x128_S128x512_d1 (ix2 r c) = u (ix3 0 r (lane c)) := by
    intro r c
    rw [concat4]
    generalize lane c = l
    pointwise
  unfold k0_pay3 k0_pay2
  generalize concatenate S128x512 1 [⟨S128x128, shapeCast S128x128 u shapeCasts_S1x128x128_S128x128⟩, ⟨S128x128, shapeCast S128x128 u shapeCasts_S1x128x128_S128x128⟩, ⟨S128x128, shapeCast S128x128 u shapeCasts_S1x128x128_S128x128⟩, ⟨S128x128, shapeCast S128x128 u shapeCasts_S1x128x128_S128x128⟩] concatenates_S128x128_S128x128_S128x128_S128x128_S128x512_d1 = C at e
  rw [← e]
  pointwise
  rfl

theorem pay4_eq (v41 : FVec Ideal S1x512 .f32) (w : Vec Ideal S128x512 .fp8e4m3) (u : Vec Ideal S1x128x128 .f32) (r : Fin 128) (c : Fin 512) :
    k0_pay4 v41 w u (ix3 0 r c) = clip (u (ix3 0 r (lane c)) * (w (ix2 r c) * v41 (ix2 0 c))) := pay3_eq v41 w u r c

theorem pay30_eq (v41 : FVec Ideal S1x512 .f32) (w : Vec Ideal S128x512 .fp8e4m3) (u : Vec Ideal S1x128x128 .f32) (r : Fin 128) (c : Fin 512) :
    k0_pay30 v41 (k0_pay2 w) (k0_pay5 u) (ix3 0 r c) = clip (u (ix3 0 r (lane c)) * (w (ix2 r c) * v41 (ix2 0 c))) := pay3_eq v41 w u r c

/-- Row `8 a + s` of 128. -/
def row128 (a : Fin 16) (s : Fin 8) : Fin 128 := ⟨8 * a.val + s.val, by omega⟩

theorem bot_eq : FloatOps.ofBits (F := Ideal) .f32 0xFF800000#32 = (⊥ : EReal) := by
  show Ideal.ofBits .f32 0xFF800000#32 = _
  simp [Ideal.ofBits, Ideal.ieee]

theorem pay15_eq (v3 : Vec Ideal S1x1x512 .f32) (acc : FVec Ideal S8x512 .f32) (w : Vec Ideal S128x512 .fp8e4m3) (u : Vec Ideal S1x128x128 .f32) (s : Fin 8) (c : Fin 512) :
    k0_pay15 v3 acc w u (ix2 s c) = max (acc (ix2 s c)) (Finset.univ.fold max ⊥ fun a : Fin 16 =>
      FloatOps.absf (F := Ideal) (φ := .f32) (u (ix3 0 (row128 a s) (lane c)) * (w (ix2 (row128 a s) c) * v3 (ix3 0 0 c)))) := by
  have e : ∀ r c, concatenate S128x512 1 [⟨S128x128, shapeCast S128x128 u shapeCasts_S1x128x128_S128x128⟩, ⟨S128x128, shapeCast S128x128 u shapeCasts_S1x128x128_S128x128⟩, ⟨S128x128, shapeCast S128x128 u shapeCasts_S1x128x128_S128x128⟩, ⟨S128x128, shapeCast S128x128 u shapeCasts_S1x128x128_S128x128⟩] concatenates_S128x128_S128x128_S128x128_S128x128_S128x512_d1 (ix2 r c) = u (ix3 0 r (lane c)) := by
    intro r c
    rw [concat4]
    generalize lane c = l
    pointwise
  have e2 : ∀ r c, k0_pay14 v3 w (ix2 r c) = w (ix2 r c) * v3 (ix3 0 0 c) := by
    intro r c
    unfold k0_pay14 k0_pay10
    pointwise
  unfold k0_pay15
  generalize concatenate S128x512 1 [⟨S128x128, shapeCast S128x128 u shapeCasts_S1x128x128_S128x128⟩, ⟨S128x128, shapeCast S128x128 u shapeCasts_S1x128x128_S128x128⟩, ⟨S128x128, shapeCast S128x128 u shapeCasts_S1x128x128_S128x128⟩, ⟨S128x128, shapeCast S128x128 u shapeCasts_S1x128x128_S128x128⟩] concatenates_S128x128_S128x128_S128x128_S128x128_S128x512_d1 = C at e
  generalize k0_pay14 v3 w = W at e2
  refine congrArg (max (acc (ix2 s c))) ?_
  refine (multiReduction_maximumf_eq_fold _ _ _ _ _ _).trans ?_
  refine (Shape.Reduces.fold_fiber_r3_a0 _ _ _ _ _).trans ?_
  rw [bot_eq]
  refine congrArg (fun f => Finset.fold max ⊥ f Finset.univ) (funext fun a => ?_)
  rw [← e, ← e2]
  have : ∀ X : FVec Ideal S128x512 .f32, shapeCast S16x8x512 X shapeCasts_S128x512_S16x8x512 (ix3 a s c) = X (ix2 (row128 a s) c) := by
    intro X
    refine shapeCast_apply _ _ _ _ ?_
    simp [Shape.rowMajor_val_three, Shape.rowMajor_val_two, row128]
    omega
  exact this _
theorem pay16_eq (v3 : Vec Ideal S1x1x512 .f32) (acc : FVec Ideal S8x512 .f32) (w : Vec Ideal S128x512 .fp8e4m3) (u : Vec Ideal S1x128x128 .f32) (s : Fin 8) (c : Fin 512) :
    k0_pay16 v3 acc w u (ix2 s c) = max (acc (ix2 s c)) (Finset.univ.fold max ⊥ fun a : Fin 16 =>
      FloatOps.absf (F := Ideal) (φ := .f32) (u (ix3 0 (row128 a s) (lane c)) * (w (ix2 (row128 a s) c) * v3 (ix3 0 0 c)))) := pay15_eq v3 acc w u s c

theorem pay17_eq (v3 : Vec Ideal S1x1x512 .f32) (acc : FVec Ideal S8x512 .f32) (w : Vec Ideal S128x512 .fp8e4m3) (u : Vec Ideal S1x128x128 .f32) (s : Fin 8) (c : Fin 512) :
    k0_pay17 v3 acc w u (ix2 s c) = max (acc (ix2 s c)) (Finset.univ.fold max ⊥ fun a : Fin 16 =>
      FloatOps.absf (F := Ideal) (φ := .f32) (u (ix3 0 (row128 a s) (lane c)) * (w (ix2 (row128 a s) c) * v3 (ix3 0 0 c)))) := pay15_eq v3 acc w u s c

end Cert.KernelIdeal.Gen
end
-- ==== Proof.LoopRows.lean ====
/- What the counted loops of the main kernel's body leave, in closed form: the block of scale rows, the running maxima
   and the codes. -/
module

public import proofs.«01_k».proof.Proof.Trips
public import proofs.«01_k».proof.Proof.BlockMath

@[expose] public section

set_option maxRecDepth 16384

noncomputable section

namespace Cert.KernelIdeal.Gen

open Idealize.ShloMosaic Idealize.ShloMosaic.TcCoe Idealize.ShloMosaic.Tactic
open Idealize.SL.Sem

/-- A list of pieces grown trip by trip holds exactly the pieces of the trips before. -/
theorem mem_grown {α : Type*} {N : ℕ} (pb : ℕ → List α) (tr : Fin N → List α) (h0 : pb 0 = [])
    (hs : ∀ k : Fin N, pb (k.val + 1) = tr k ++ pb k.val) (n : ℕ) (hn : n ≤ N) (p : α) :
    p ∈ pb n ↔ ∃ k : Fin N, k.val < n ∧ p ∈ tr k := by
  induction n with
  | zero => simp [h0]
  | succ n ih =>
    rw [hs ⟨n, hn⟩, List.mem_append, ih (by omega)]
    constructor
    · rintro (h | ⟨k, hk, h⟩)
      · exact ⟨⟨n, hn⟩, Nat.lt_succ_self _, h⟩
      · exact ⟨k, by omega, h⟩
    · rintro ⟨k, hk, h⟩
      rcases Nat.lt_succ_iff_lt_or_eq.mp hk with hk | hk
      · exact Or.inr ⟨k, hk, h⟩
      · left
        have : k = ⟨n, hn⟩ := Fin.ext hk
        rwa [this] at h

/-- The scale rows: one plus the scale of batch entry and row, the same over the lanes. -/
def rows (x2 : Vec Ideal S3x5120 .f32) : Vec Ideal S3x5120x128 .f32 := fun y => Ideal.ofBits .f32 0x3F800000#32 + x2 (ix2 (y 0) (y 1))

/-- The codes of a block of columns, from the scale rows, the weight's codes and the three rows of column factors. -/
def codes (U : Vec Ideal S3x5120x128 .f32) (x4 : Vec Ideal S5120x512 .fp8e4m3) (v : Fin 3 → FVec Ideal S1x512 .f32) : Vec Ideal S3x5120x512 .fp8e4m3 :=
  fun y => clip (U (ix3 (y 0) (y 1) (lane (y 2))) * (x4 (ix2 (y 1) (y 2)) * v (y 0) (ix2 0 (y 2))))

/-- The magnitude whose maximum over the rows is a column's scale. -/
def mag (U : Vec Ideal S3x5120x128 .f32) (x4 : Vec Ideal S5120x512 .fp8e4m3) (x5 : Vec Ideal S1x1x512 .f32) (b : Fin 3) (c : Fin 512) (k : Fin 5120) : EReal :=
  FloatOps.absf (F := Ideal) (φ := .f32) (U (ix3 b k (lane c)) * (x4 (ix2 k c) * x5 (ix3 0 0 c)))

theorem trips1 : Scf.trips k0_t1_loop.lb k0_t1_loop.ub k0_t1_loop.st = 40 := by decide +kernel

/-- Every piece loop 1 writes is a restriction of the scale rows. -/
theorem piece1 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc : cond0_0 i) (x2 : Vec Ideal S3x5120 .f32) (k : Fin k0_t1_loop.trips) :
    ∀ p ∈ tripL_k0_t1 (F := Ideal) Variants.none c none i arg1 harg1 arg2 harg2 arg3 harg3 arg4 harg4 arg5 harg5 arg6 harg6 arg7 harg7 arg8 harg8 arg9 harg9 arg10 harg10 arg11 harg11 arg12 harg12 hc (harg3.unread x2) k, ∀ x : p.1.shape.Idx, p.2 x = rows x2 (p.1.emb x) := by
  intro p hp
  rw [trip1_eq] at hp
  obtain rfl := List.mem_singleton.mp hp
  intro x
  change S1x128x128.Idx at x
  have h0 : (x 0).val = 0 := by have := (x 0).isLt; change (x 0).val < 1 at this; omega
  have hx : x = ix3 0 (x 1) (x 2) := by
    refine (eq_ix3 x).trans ?_
    congr 1; exact Fin.ext h0
  have hp := pay6_eq (View.readAt (Elt Ideal) arg3.view (Rect.unit (s := S3x5120) (k0_off1 k) S1x128.size (k0_off1_inb i k hc)).toLoadRect (harg3.unread x2)) (x 1) (x 2)
  refine (congrArg (k0_pay6 _) hx).trans (hp.trans ?_)
  unfold rows
  rw [View.readAt_apply, harg3.read_unread]
  refine congrArg (fun z => Ideal.ofBits .f32 0x3F800000#32 + x2 z) (funext fun a => Fin.ext ?_)
  match a with
  | ⟨0, _⟩ =>
    show (k0_off1 k) 0 + 1 * 0 = (k0_off2 k) 0 + 1 * (x 0).val
    rw [k0_off1_eq, k0_off2_eq, h0]; rfl
  | ⟨1, _⟩ =>
    show (k0_off1 k) 1 + 1 * (x 1).val = (k0_off2 k) 1 + 1 * (x 1).val
    rw [k0_off1_eq, k0_off2_eq]; rfl

/-- Loop 1 covers the rows of batch entry 0. -/
theorem cover1 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc : cond0_0 i) (x2 : Vec Ideal S3x5120 .f32) (y : S3x5120x128.Idx) (hy : (y 0).val = 0) :
    ∃ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 hc (harg3.unread x2) (Scf.trips k0_t1_loop.lb k0_t1_loop.ub k0_t1_loop.st), y ∈ p.1.set := by
  have h1 : (y 1).val < 5120 := (y 1).isLt
  have h2 : (y 2).val < 128 := (y 2).isLt
  let k : Fin k0_t1_loop.trips := ⟨(y 1).val / 128, by show _ < Scf.trips _ _ _; rw [trips1]; omega⟩
  have hm := (mem_grown (pb_k0_t1 (F := Ideal) Variants.none c none i arg1 harg1 arg2 harg2 arg3 harg3 arg4 harg4 arg5 harg5 arg6 harg6 arg7 harg7 arg8 harg8 arg9 harg9 arg10 harg10 arg11 harg11 arg12 harg12 hc (harg3.unread x2)) (tripL_k0_t1 (F := Ideal) Variants.none c none i arg1 harg1 arg2 harg2 arg3 harg3 arg4 harg4 arg5 harg5 arg6 harg6 arg7 harg7 arg8 harg8 arg9 harg9 arg10 harg10 arg11 harg11 arg12 harg12 hc (harg3.unread x2)) rfl
    (fun k => pb_k0_t1_succ (F := Ideal) Variants.none c none i arg1 harg1 arg2 harg2 arg3 harg3 arg4 harg4 arg5 harg5 arg6 harg6 arg7 harg7 arg8 harg8 arg9 harg9 arg10 harg10 arg11 harg11 arg12 harg12 hc (harg3.unread x2) k) k0_t1_loop.trips le_rfl)
  refine ⟨_, (hm _).mpr ⟨k, k.isLt, by rw [trip1_eq]; exact List.mem_singleton.mpr rfl⟩, ?_⟩
  rw [Rect.mem_set_unit]
  intro a
  rw [k0_off2_eq]
  match a with
  | ⟨0, _⟩ => show 0 ≤ (y 0).val ∧ (y 0).val < 0 + 1; omega
  | ⟨1, _⟩ => show 128 * ((y 1).val / 128) ≤ (y 1).val ∧ (y 1).val < 128 * ((y 1).val / 128) + 128; omega
  | ⟨2, _⟩ => show 0 ≤ (y 2).val ∧ (y 2).val < 0 + 128; omega

theorem grown1 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc : cond0_0 i) (x2 : Vec Ideal S3x5120 .f32) :
    ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 hc (harg3.unread x2) (Scf.trips k0_t1_loop.lb k0_t1_loop.ub k0_t1_loop.st), ∀ x : p.1.shape.Idx, p.2 x = rows x2 (p.1.emb x) := by
  intro p hp
  have hm := (mem_grown (pb_k0_t1 (F := Ideal) Variants.none c none i arg1 harg1 arg2 harg2 arg3 harg3 arg4 harg4 arg5 harg5 arg6 harg6 arg7 harg7 arg8 harg8 arg9 harg9 arg10 harg10 arg11 harg11 arg12 harg12 hc (harg3.unread x2)) (tripL_k0_t1 (F := Ideal) Variants.none c none i arg1 harg1 arg2 harg2 arg3 harg3 arg4 harg4 arg5 harg5 arg6 harg6 arg7 harg7 arg8 harg8 arg9 harg9 arg10 harg10 arg11 harg11 arg12 harg12 hc (harg3.unread x2)) rfl
    (fun k => pb_k0_t1_succ (F := Ideal) Variants.none c none i arg1 harg1 arg2 harg2 arg3 harg3 arg4 harg4 arg5 harg5 arg6 harg6 arg7 harg7 arg8 harg8 arg9 harg9 arg10 harg10 arg11 harg11 arg12 harg12 hc (harg3.unread x2) k) k0_t1_loop.trips le_rfl)
  obtain ⟨k, _, hk⟩ := (hm p).mp hp
  exact piece1 c i arg1 harg1 arg2 harg2 arg3 harg3 arg4 harg4 arg5 harg5 arg6 harg6 arg7 harg7 arg8 harg8 arg9 harg9 arg10 harg10 arg11 harg11 arg12 harg12 hc x2 k p hk

theorem trips2 : Scf.trips k0_t2_loop.lb k0_t2_loop.ub k0_t2_loop.st = 40 := by decide +kernel

/-- Every piece loop 2 writes is a restriction of the scale rows. -/
theorem piece2 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc : cond0_0 i) (x2 : Vec Ideal S3x5120 .f32) (k : Fin k0_t2_loop.trips) :
    ∀ p ∈ tripL_k0_t2 (F := Ideal) Variants.none c none i arg1 harg1 arg2 harg2 arg3 harg3 arg4 harg4 arg5 harg5 arg6 harg6 arg7 harg7 arg8 harg8 arg9 harg9 arg10 harg10 arg11 harg11 arg12 harg12 hc (harg3.unread x2) k, ∀ x : p.1.shape.Idx, p.2 x = rows x2 (p.1.emb x) := by
  intro p hp
  rw [trip2_eq] at hp
  obtain rfl := List.mem_singleton.mp hp
  intro x
  change S1x128x128.Idx at x
  have h0 : (x 0).val = 0 := by have := (x 0).isLt; change (x 0).val < 1 at this; omega
  have hx : x = ix3 0 (x 1) (x 2) := by
    refine (eq_ix3 x).trans ?_
    congr 1; exact Fin.ext h0
  have hp := pay6_eq (View.readAt (Elt Ideal) arg3.view (Rect.unit (s := S3x5120) (k0_off3 k) S1x128.size (k0_off3_inb i k hc)).toLoadRect (harg3.unread x2)) (x 1) (x 2)
  refine (congrArg (k0_pay7 _) hx).trans (hp.trans ?_)
  unfold rows
  rw [View.readAt_apply, harg3.read_unread]
  refine congrArg (fun z => Ideal.ofBits .f32 0x3F800000#32 + x2 z) (funext fun a => Fin.ext ?_)
  match a with
  | ⟨0, _⟩ =>
    show (k0_off3 k) 0 + 1 * 0 = (k0_off4 k) 0 + 1 * (x 0).val
    rw [k0_off3_eq, k0_off4_eq, h0]; rfl
  | ⟨1, _⟩ =>
    show (k0_off3 k) 1 + 1 * (x 1).val = (k0_off4 k) 1 + 1 * (x 1).val
    rw [k0_off3_eq, k0_off4_eq]; rfl

/-- Loop 2 covers the rows of batch entry 1. -/
theorem cover2 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc : cond0_0 i) (x2 : Vec Ideal S3x5120 .f32) (y : S3x5120x128.Idx) (hy : (y 0).val = 1) :
    ∃ p ∈ pb_k0_t2 (F := Ideal) Variants.none c none i arg1 harg1 arg2 harg2 arg3 harg3 arg4 harg4 arg5 harg5 arg6 harg6 arg7 harg7 arg8 harg8 arg9 harg9 arg10 harg10 arg11 harg11 arg12 harg12 hc (harg3.unread x2) (Scf.trips k0_t2_loop.lb k0_t2_loop.ub k0_t2_loop.st), y ∈ p.1.set := by
  have h1 : (y 1).val < 5120 := (y 1).isLt
  have h2 : (y 2).val < 128 := (y 2).isLt
  let k : Fin k0_t2_loop.trips := ⟨(y 1).val / 128, by show _ < Scf.trips _ _ _; rw [trips2]; omega⟩
  have hm := (mem_grown (pb_k0_t2 (F := Ideal) Variants.none c none i arg1 harg1 arg2 harg2 arg3 harg3 arg4 harg4 arg5 harg5 arg6 harg6 arg7 harg7 arg8 harg8 arg9 harg9 arg10 harg10 arg11 harg11 arg12 harg12 hc (harg3.unread x2)) (tripL_k0_t2 (F := Ideal) Variants.none c none i arg1 harg1 arg2 harg2 arg3 harg3 arg4 harg4 arg5 harg5 arg6 harg6 arg7 harg7 arg8 harg8 arg9 harg9 arg10 harg10 arg11 harg11 arg12 harg12 hc (harg3.unread x2)) rfl
    (fun k => pb_k0_t2_succ (F := Ideal) Variants.none c none i arg1 harg1 arg2 harg2 arg3 harg3 arg4 harg4 arg5 harg5 arg6 harg6 arg7 harg7 arg8 harg8 arg9 harg9 arg10 harg10 arg11 harg11 arg12 harg12 hc (harg3.unread x2) k) k0_t2_loop.trips le_rfl)
  refine ⟨_, (hm _).mpr ⟨k, k.isLt, by rw [trip2_eq]; exact List.mem_singleton.mpr rfl⟩, ?_⟩
  rw [Rect.mem_set_unit]
  intro a
  rw [k0_off4_eq]
  match a with
  | ⟨0, _⟩ => show 1 ≤ (y 0).val ∧ (y 0).val < 1 + 1; omega
  | ⟨1, _⟩ => show 128 * ((y 1).val / 128) ≤ (y 1).val ∧ (y 1).val < 128 * ((y 1).val / 128) + 128; omega
  | ⟨2, _⟩ => show 0 ≤ (y 2).val ∧ (y 2).val < 0 + 128; omega

theorem grown2 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc : cond0_0 i) (x2 : Vec Ideal S3x5120 .f32) :
    ∀ p ∈ pb_k0_t2 (F := Ideal) Variants.none c none i arg1 harg1 arg2 harg2 arg3 harg3 arg4 harg4 arg5 harg5 arg6 harg6 arg7 harg7 arg8 harg8 arg9 harg9 arg10 harg10 arg11 harg11 arg12 harg12 hc (harg3.unread x2) (Scf.trips k0_t2_loop.lb k0_t2_loop.ub k0_t2_loop.st), ∀ x : p.1.shape.Idx, p.2 x = rows x2 (p.1.emb x) := by
  intro p hp
  have hm := (mem_grown (pb_k0_t2 (F := Ideal) Variants.none c none i arg1 harg1 arg2 harg2 arg3 harg3 arg4 harg4 arg5 harg5 arg6 harg6 arg7 harg7 arg8 harg8 arg9 harg9 arg10 harg10 arg11 harg11 arg12 harg12 hc (harg3.unread x2)) (tripL_k0_t2 (F := Ideal) Variants.none c none i arg1 harg1 arg2 harg2 arg3 harg3 arg4 harg4 arg5 harg5 arg6 harg6 arg7 harg7 arg8 harg8 arg9 harg9 arg10 harg10 arg11 harg11 arg12 harg12 hc (harg3.unread x2)) rfl
    (fun k => pb_k0_t2_succ (F := Ideal) Variants.none c none i arg1 harg1 arg2 harg2 arg3 harg3 arg4 harg4 arg5 harg5 arg6 harg6 arg7 harg7 arg8 harg8 arg9 harg9 arg10 harg10 arg11 harg11 arg12 harg12 hc (harg3.unread x2) k) k0_t2_loop.trips le_rfl)
  obtain ⟨k, _, hk⟩ := (hm p).mp hp
  exact piece2 c i arg1 harg1 arg2 harg2 arg3 harg3 arg4 harg4 arg5 harg5 arg6 harg6 arg7 harg7 arg8 harg8 arg9 harg9 arg10 harg10 arg11 harg11 arg12 harg12 hc x2 k p hk

theorem trips3 : Scf.trips k0_t3_loop.lb k0_t3_loop.ub k0_t3_loop.st = 40 := by decide +kernel

/-- Every piece loop 3 writes is a restriction of the scale rows. -/
theorem piece3 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc : cond0_0 i) (x2 : Vec Ideal S3x5120 .f32) (k : Fin k0_t3_loop.trips) :
    ∀ p ∈ tripL_k0_t3 (F := Ideal) Variants.none c none i arg1 harg1 arg2 harg2 arg3 harg3 arg4 harg4 arg5 harg5 arg6 harg6 arg7 harg7 arg8 harg8 arg9 harg9 arg10 harg10 arg11 harg11 arg12 harg12 hc (harg3.unread x2) k, ∀ x : p.1.shape.Idx, p.2 x = rows x2 (p.1.emb x) := by
  intro p hp
  rw [trip3_eq] at hp
  obtain rfl := List.mem_singleton.mp hp
  intro x
  change S1x128x128.Idx at x
  have h0 : (x 0).val = 0 := by have := (x 0).isLt; change (x 0).val < 1 at this; omega
  have hx : x = ix3 0 (x 1) (x 2) := by
    refine (eq_ix3 x).trans ?_
    congr 1; exact Fin.ext h0
  have hp := pay6_eq (View.readAt (Elt Ideal) arg3.view (Rect.unit (s := S3x5120) (k0_off5 k) S1x128.size (k0_off5_inb i k hc)).toLoadRect (harg3.unread x2)) (x 1) (x 2)
  refine (congrArg (k0_pay8 _) hx).trans (hp.trans ?_)
  unfold rows
  rw [View.readAt_apply, harg3.read_unread]
  refine congrArg (fun z => Ideal.ofBits .f32 0x3F800000#32 + x2 z) (funext fun a => Fin.ext ?_)
  match a with
  | ⟨0, _⟩ =>
    show (k0_off5 k) 0 + 1 * 0 = (k0_off6 k) 0 + 1 * (x 0).val
    rw [k0_off5_eq, k0_off6_eq, h0]; rfl
  | ⟨1, _⟩ =>
    show (k0_off5 k) 1 + 1 * (x 1).val = (k0_off6 k) 1 + 1 * (x 1).val
    rw [k0_off5_eq, k0_off6_eq]; rfl

/-- Loop 3 covers the rows of batch entry 2. -/
theorem cover3 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc : cond0_0 i) (x2 : Vec Ideal S3x5120 .f32) (y : S3x5120x128.Idx) (hy : (y 0).val = 2) :
    ∃ p ∈ pb_k0_t3 (F := Ideal) Variants.none c none i arg1 harg1 arg2 harg2 arg3 harg3 arg4 harg4 arg5 harg5 arg6 harg6 arg7 harg7 arg8 harg8 arg9 harg9 arg10 harg10 arg11 harg11 arg12 harg12 hc (harg3.unread x2) (Scf.trips k0_t3_loop.lb k0_t3_loop.ub k0_t3_loop.st), y ∈ p.1.set := by
  have h1 : (y 1).val < 5120 := (y 1).isLt
  have h2 : (y 2).val < 128 := (y 2).isLt
  let k : Fin k0_t3_loop.trips := ⟨(y 1).val / 128, by show _ < Scf.trips _ _ _; rw [trips3]; omega⟩
  have hm := (mem_grown (pb_k0_t3 (F := Ideal) Variants.none c none i arg1 harg1 arg2 harg2 arg3 harg3 arg4 harg4 arg5 harg5 arg6 harg6 arg7 harg7 arg8 harg8 arg9 harg9 arg10 harg10 arg11 harg11 arg12 harg12 hc (harg3.unread x2)) (tripL_k0_t3 (F := Ideal) Variants.none c none i arg1 harg1 arg2 harg2 arg3 harg3 arg4 harg4 arg5 harg5 arg6 harg6 arg7 harg7 arg8 harg8 arg9 harg9 arg10 harg10 arg11 harg11 arg12 harg12 hc (harg3.unread x2)) rfl
    (fun k => pb_k0_t3_succ (F := Ideal) Variants.none c none i arg1 harg1 arg2 harg2 arg3 harg3 arg4 harg4 arg5 harg5 arg6 harg6 arg7 harg7 arg8 harg8 arg9 harg9 arg10 harg10 arg11 harg11 arg12 harg12 hc (harg3.unread x2) k) k0_t3_loop.trips le_rfl)
  refine ⟨_, (hm _).mpr ⟨k, k.isLt, by rw [trip3_eq]; exact List.mem_singleton.mpr rfl⟩, ?_⟩
  rw [Rect.mem_set_unit]
  intro a
  rw [k0_off6_eq]
  match a with
  | ⟨0, _⟩ => show 2 ≤ (y 0).val ∧ (y 0).val < 2 + 1; omega
  | ⟨1, _⟩ => show 128 * ((y 1).val / 128) ≤ (y 1).val ∧ (y 1).val < 128 * ((y 1).val / 128) + 128; omega
  | ⟨2, _⟩ => show 0 ≤ (y 2).val ∧ (y 2).val < 0 + 128; omega

theorem grown3 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc : cond0_0 i) (x2 : Vec Ideal S3x5120 .f32) :
    ∀ p ∈ pb_k0_t3 (F := Ideal) Variants.none c none i arg1 harg1 arg2 harg2 arg3 harg3 arg4 harg4 arg5 harg5 arg6 harg6 arg7 harg7 arg8 harg8 arg9 harg9 arg10 harg10 arg11 harg11 arg12 harg12 hc (harg3.unread x2) (Scf.trips k0_t3_loop.lb k0_t3_loop.ub k0_t3_loop.st), ∀ x : p.1.shape.Idx, p.2 x = rows x2 (p.1.emb x) := by
  intro p hp
  have hm := (mem_grown (pb_k0_t3 (F := Ideal) Variants.none c none i arg1 harg1 arg2 harg2 arg3 harg3 arg4 harg4 arg5 harg5 arg6 harg6 arg7 harg7 arg8 harg8 arg9 harg9 arg10 harg10 arg11 harg11 arg12 harg12 hc (harg3.unread x2)) (tripL_k0_t3 (F := Ideal) Variants.none c none i arg1 harg1 arg2 harg2 arg3 harg3 arg4 harg4 arg5 harg5 arg6 harg6 arg7 harg7 arg8 harg8 arg9 harg9 arg10 harg10 arg11 harg11 arg12 harg12 hc (harg3.unread x2)) rfl
    (fun k => pb_k0_t3_succ (F := Ideal) Variants.none c none i arg1 harg1 arg2 harg2 arg3 harg3 arg4 harg4 arg5 harg5 arg6 harg6 arg7 harg7 arg8 harg8 arg9 harg9 arg10 harg10 arg11 harg11 arg12 harg12 hc (harg3.unread x2) k) k0_t3_loop.trips le_rfl)
  obtain ⟨k, _, hk⟩ := (hm p).mp hp
  exact piece3 c i arg1 harg1 arg2 harg2 arg3 harg3 arg4 harg4 arg5 harg5 arg6 harg6 arg7 harg7 arg8 harg8 arg9 harg9 arg10 harg10 arg11 harg11 arg12 harg12 hc x2 k p hk

/-- After its three loops the first point's scratch buffer holds the scale rows. -/
theorem rows_eq (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (hc : cond0_0 i) (x2 : Vec Ideal S3x5120 .f32) (f : BufTy.Contents (Elt Ideal) arg11.view.ty) :
    arg11.view.read (Elt Ideal) (arg11.view.writes (Elt Ideal) f (pb_k0_t3 (F := Ideal) Variants.none c none i arg1 harg1 arg2 harg2 arg3 harg3 arg4 harg4 arg5 harg5 arg6 harg6 arg7 harg7 arg8 harg8 arg9 harg9 arg10 harg10 arg11 harg11 arg12 harg12 hc (harg3.unread x2) (Scf.trips k0_t3_loop.lb k0_t3_loop.ub k0_t3_loop.st) ++ (pb_k0_t2 (F := Ideal) Variants.none c none i arg1 harg1 arg2 harg2 arg3 harg3 arg4 harg4 arg5 harg5 arg6 harg6 arg7 harg7 arg8 harg8 arg9 harg9 arg10 harg10 arg11 harg11 arg12 harg12 hc (harg3.unread x2) (Scf.trips k0_t2_loop.lb k0_t2_loop.ub k0_t2_loop.st) ++ pb_k0_t1 (F := Ideal) Variants.none c none i arg1 harg1 arg2 harg2 arg3 harg3 arg4 harg4 arg5 harg5 arg6 harg6 arg7 harg7 arg8 harg8 arg9 harg9 arg10 harg10 arg11 harg11 arg12 harg12 hc (harg3.unread x2) (Scf.trips k0_t1_loop.lb k0_t1_loop.ub k0_t1_loop.st)))) = rows x2 := by
  funext y
  refine View.read_writes_apply_of_pieces (v := arg11.view) (f := f) (rows x2) _ ?_ y ?_
  · intro p hp
    rcases List.mem_append.mp hp with hp | hp
    · exact grown3 c i arg1 harg1 arg2 harg2 arg3 harg3 arg4 harg4 arg5 harg5 arg6 harg6 arg7 harg7 arg8 harg8 arg9 harg9 arg10 harg10 arg11 harg11 arg12 harg12 hc x2 p hp
    rcases List.mem_append.mp hp with hp | hp
    · exact grown2 c i arg1 harg1 arg2 harg2 arg3 harg3 arg4 harg4 arg5 harg5 arg6 harg6 arg7 harg7 arg8 harg8 arg9 harg9 arg10 harg10 arg11 harg11 arg12 harg12 hc x2 p hp
    · exact grown1 c i arg1 harg1 arg2 harg2 arg3 harg3 arg4 harg4 arg5 harg5 arg6 harg6 arg7 harg7 arg8 harg8 arg9 harg9 arg10 harg10 arg11 harg11 arg12 harg12 hc x2 p hp
  · have h0 : (y 0).val < 3 := (y 0).isLt
    have h : (y 0).val = 0 ∨ (y 0).val = 1 ∨ (y 0).val = 2 := by omega
    rcases h with h | h | h
    · obtain ⟨p, hp, hy⟩ := cover1 c i arg1 harg1 arg2 harg2 arg3 harg3 arg4 harg4 arg5 harg5 arg6 harg6 arg7 harg7 arg8 harg8 arg9 harg9 arg10 harg10 arg11 harg11 arg12 harg12 hc x2 y h
      exact ⟨p, List.mem_append.mpr (Or.inr (List.mem_append.mpr (Or.inr hp))), hy⟩
    · obtain ⟨p, hp, hy⟩ := cover2 c i arg1 harg1 arg2 harg2 arg3 harg3 arg4 harg4 arg5 harg5 arg6 harg6 arg7 harg7 arg8 harg8 arg9 harg9 arg10 harg10 arg11 harg11 arg12 harg12 hc x2 y h
      exact ⟨p, List.mem_append.mpr (Or.inr (List.mem_append.mpr (Or.inl hp))), hy⟩
    · obtain ⟨p, hp, hy⟩ := cover3 c i arg1 harg1 arg2 harg2 arg3 harg3 arg4 harg4 arg5 harg5 arg6 harg6 arg7 harg7 arg8 harg8 arg9 harg9 arg10 harg10 arg11 harg11 arg12 harg12 hc x2 y h
      exact ⟨p, List.mem_append.mpr (Or.inl hp), hy⟩

end Cert.KernelIdeal.Gen
-- ==== Proof.LoopCodes.lean ====
/- The codes the main kernel's last loop leaves. -/
module

public import proofs.«01_k».proof.Proof.LoopRows

@[expose] public section

set_option maxRecDepth 16384

noncomputable section

namespace Cert.KernelIdeal.Gen

open Idealize.ShloMosaic Idealize.ShloMosaic.TcCoe Idealize.ShloMosaic.Tactic
open Idealize.SL.Sem

/-- A trip's block of codes of batch entry 0 is a restriction of the codes. -/
theorem codesPiece0 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (U : Vec Ideal S3x5120x128 .f32) (x4 : Vec Ideal S5120x512 .fp8e4m3) (v : Fin 3 → FVec Ideal S1x512 .f32) (k : Fin k0_t5_loop.trips)
    (x : (Rect.unit (s := S3x5120x512) (k0_off13 k) S1x128x512.size (k0_off13_inb k)).shape.Idx) :
    k0_pay3 (v 0) (View.readAt (Elt Ideal) arg5.view (Rect.unit (s := S5120x512) (k0_off11 k) S128x512.size (k0_off11_inb k)).toLoadRect (harg5.unread x4)) (View.readAt (Elt Ideal) arg11.view (Rect.unit (s := S3x5120x128) (k0_off12 k) S1x128x128.size (k0_off12_inb k)).toLoadRect (harg11.unread U)) x = codes U x4 v ((Rect.unit (s := S3x5120x512) (k0_off13 k) S1x128x512.size (k0_off13_inb k)).emb x) := by
  change S1x128x512.Idx at x
  have h0 : (x 0).val = 0 := by have := (x 0).isLt; change (x 0).val < 1 at this; omega
  have hx : x = ix3 0 (x 1) (x 2) := by
    refine (eq_ix3 x).trans ?_
    congr 1; exact Fin.ext h0
  have hp := pay3_eq (v 0) (View.readAt (Elt Ideal) arg5.view (Rect.unit (s := S5120x512) (k0_off11 k) S128x512.size (k0_off11_inb k)).toLoadRect (harg5.unread x4)) (View.readAt (Elt Ideal) arg11.view (Rect.unit (s := S3x5120x128) (k0_off12 k) S1x128x128.size (k0_off12_inb k)).toLoadRect (harg11.unread U)) (x 1) (x 2)
  refine (congrArg (k0_pay3 (v 0) (View.readAt (Elt Ideal) arg5.view (Rect.unit (s := S5120x512) (k0_off11 k) S128x512.size (k0_off11_inb k)).toLoadRect (harg5.unread x4)) (View.readAt (Elt Ideal) arg11.view (Rect.unit (s := S3x5120x128) (k0_off12 k) S1x128x128.size (k0_off12_inb k)).toLoadRect (harg11.unread U))) hx).trans (hp.trans ?_)
  unfold codes
  rw [View.readAt_apply, View.readAt_apply, harg5.read_unread, harg11.read_unread]
  have e0 : ((Rect.unit (s := S3x5120x512) (k0_off13 k) S1x128x512.size (k0_off13_inb k)).emb x) 0 = (0 : Fin 3) := Fin.ext (by
    show (k0_off13 k) 0 + 1 * (x 0).val = (0 : Fin 3).val
    rw [k0_off13_eq, h0]; rfl)
  have e1 : (((Rect.unit (s := S3x5120x512) (k0_off13 k) S1x128x512.size (k0_off13_inb k)).emb x) 1).val = 128 * k.val + (x 1).val := by
    show (k0_off13 k) 1 + 1 * (x 1).val = _
    rw [k0_off13_eq, Nat.one_mul]; rfl
  have e2 : ((Rect.unit (s := S3x5120x512) (k0_off13 k) S1x128x512.size (k0_off13_inb k)).emb x) 2 = x 2 := Fin.ext (by
    show (k0_off13 k) 2 + 1 * (x 2).val = _
    rw [k0_off13_eq, Nat.one_mul]; exact Nat.zero_add _)
  rw [e0, e2]
  have eu : ((Rect.unit (s := S3x5120x128) (k0_off12 k) S1x128x128.size (k0_off12_inb k)).toLoadRect.idx (ix3 0 (x 1) (lane (x 2)))) = ix3 0 (((Rect.unit (s := S3x5120x512) (k0_off13 k) S1x128x512.size (k0_off13_inb k)).emb x) 1) (lane (x 2)) := by
    funext a
    refine Fin.ext ?_
    match a with
    | ⟨0, _⟩ => show (k0_off12 k) 0 + 1 * 0 = 0; rw [k0_off12_eq]; rfl
    | ⟨1, _⟩ => refine Eq.trans ?_ e1.symm; show (k0_off12 k) 1 + 1 * (x 1).val = _; rw [k0_off12_eq, Nat.one_mul]; rfl
    | ⟨2, _⟩ => show (k0_off12 k) 2 + 1 * (lane (x 2)).val = (lane (x 2)).val; rw [k0_off12_eq, Nat.one_mul]; exact Nat.zero_add _
  have ew : ((Rect.unit (s := S5120x512) (k0_off11 k) S128x512.size (k0_off11_inb k)).toLoadRect.idx (ix2 (x 1) (x 2))) = ix2 (((Rect.unit (s := S3x5120x512) (k0_off13 k) S1x128x512.size (k0_off13_inb k)).emb x) 1) (x 2) := by
    funext a
    refine Fin.ext ?_
    match a with
    | ⟨0, _⟩ => refine Eq.trans ?_ e1.symm; show (k0_off11 k) 0 + 1 * (x 1).val = _; rw [k0_off11_eq, Nat.one_mul]; rfl
    | ⟨1, _⟩ => show (k0_off11 k) 1 + 1 * (x 2).val = (x 2).val; rw [k0_off11_eq, Nat.one_mul]; exact Nat.zero_add _
  rw [eu, ew]
  first | done | rfl

/-- A trip's block of codes of batch entry 1 is a restriction of the codes. -/
theorem codesPiece1 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (U : Vec Ideal S3x5120x128 .f32) (x4 : Vec Ideal S5120x512 .fp8e4m3) (v : Fin 3 → FVec Ideal S1x512 .f32) (k : Fin k0_t5_loop.trips)
    (x : (Rect.unit (s := S3x5120x512) (k0_off15 k) S1x128x512.size (k0_off15_inb k)).shape.Idx) :
    k0_pay4 (v 1) (View.readAt (Elt Ideal) arg5.view (Rect.unit (s := S5120x512) (k0_off11 k) S128x512.size (k0_off11_inb k)).toLoadRect (harg5.unread x4)) (View.readAt (Elt Ideal) arg11.view (Rect.unit (s := S3x5120x128) (k0_off14 k) S1x128x128.size (k0_off14_inb k)).toLoadRect (harg11.unread U)) x = codes U x4 v ((Rect.unit (s := S3x5120x512) (k0_off15 k) S1x128x512.size (k0_off15_inb k)).emb x) := by
  change S1x128x512.Idx at x
  have h0 : (x 0).val = 0 := by have := (x 0).isLt; change (x 0).val < 1 at this; omega
  have hx : x = ix3 0 (x 1) (x 2) := by
    refine (eq_ix3 x).trans ?_
    congr 1; exact Fin.ext h0
  have hp := pay4_eq (v 1) (View.readAt (Elt Ideal) arg5.view (Rect.unit (s := S5120x512) (k0_off11 k) S128x512.size (k0_off11_inb k)).toLoadRect (harg5.unread x4)) (View.readAt (Elt Ideal) arg11.view (Rect.unit (s := S3x5120x128) (k0_off14 k) S1x128x128.size (k0_off14_inb k)).toLoadRect (harg11.unread U)) (x 1) (x 2)
  refine (congrArg (k0_pay4 (v 1) (View.readAt (Elt Ideal) arg5.view (Rect.unit (s := S5120x512) (k0_off11 k) S128x512.size (k0_off11_inb k)).toLoadRect (harg5.unread x4)) (View.readAt (Elt Ideal) arg11.view (Rect.unit (s := S3x5120x128) (k0_off14 k) S1x128x128.size (k0_off14_inb k)).toLoadRect (harg11.unread U))) hx).trans (hp.trans ?_)
  unfold codes
  rw [View.readAt_apply, View.readAt_apply, harg5.read_unread, harg11.read_unread]
  have e0 : ((Rect.unit (s := S3x5120x512) (k0_off15 k) S1x128x512.size (k0_off15_inb k)).emb x) 0 = (1 : Fin 3) := Fin.ext (by
    show (k0_off15 k) 0 + 1 * (x 0).val = (1 : Fin 3).val
    rw [k0_off15_eq, h0]; rfl)
  have e1 : (((Rect.unit (s := S3x5120x512) (k0_off15 k) S1x128x512.size (k0_off15_inb k)).emb x) 1).val = 128 * k.val + (x 1).val := by
    show (k0_off15 k) 1 + 1 * (x 1).val = _
    rw [k0_off15_eq, Nat.one_mul]; rfl
  have e2 : ((Rect.unit (s := S3x5120x512) (k0_off15 k) S1x128x512.size (k0_off15_inb k)).emb x) 2 = x 2 := Fin.ext (by
    show (k0_off15 k) 2 + 1 * (x 2).val = _
    rw [k0_off15_eq, Nat.one_mul]; exact Nat.zero_add _)
  rw [e0, e2]
  have eu : ((Rect.unit (s := S3x5120x128) (k0_off14 k) S1x128x128.size (k0_off14_inb k)).toLoadRect.idx (ix3 0 (x 1) (lane (x 2)))) = ix3 1 (((Rect.unit (s := S3x5120x512) (k0_off15 k) S1x128x512.size (k0_off15_inb k)).emb x) 1) (lane (x 2)) := by
    funext a
    refine Fin.ext ?_
    match a with
    | ⟨0, _⟩ => show (k0_off14 k) 0 + 1 * 0 = 1; rw [k0_off14_eq]; rfl
    | ⟨1, _⟩ => refine Eq.trans ?_ e1.symm; show (k0_off14 k) 1 + 1 * (x 1).val = _; rw [k0_off14_eq, Nat.one_mul]; rfl
    | ⟨2, _⟩ => show (k0_off14 k) 2 + 1 * (lane (x 2)).val = (lane (x 2)).val; rw [k0_off14_eq, Nat.one_mul]; exact Nat.zero_add _
  have ew : ((Rect.unit (s := S5120x512) (k0_off11 k) S128x512.size (k0_off11_inb k)).toLoadRect.idx (ix2 (x 1) (x 2))) = ix2 (((Rect.unit (s := S3x5120x512) (k0_off15 k) S1x128x512.size (k0_off15_inb k)).emb x) 1) (x 2) := by
    funext a
    refine Fin.ext ?_
    match a with
    | ⟨0, _⟩ => refine Eq.trans ?_ e1.symm; show (k0_off11 k) 0 + 1 * (x 1).val = _; rw [k0_off11_eq, Nat.one_mul]; rfl
    | ⟨1, _⟩ => show (k0_off11 k) 1 + 1 * (x 2).val = (x 2).val; rw [k0_off11_eq, Nat.one_mul]; exact Nat.zero_add _
  rw [eu, ew]
  first | done | rfl

/-- A trip's block of codes of batch entry 2 is a restriction of the codes. -/
theorem codesPiece2 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (U : Vec Ideal S3x5120x128 .f32) (x4 : Vec Ideal S5120x512 .fp8e4m3) (v : Fin 3 → FVec Ideal S1x512 .f32) (k : Fin k0_t5_loop.trips)
    (x : (Rect.unit (s := S3x5120x512) (k0_off17 k) S1x128x512.size (k0_off17_inb k)).shape.Idx) :
    k0_pay30 (v 2) (k0_pay2 (View.readAt (Elt Ideal) arg5.view (Rect.unit (s := S5120x512) (k0_off11 k) S128x512.size (k0_off11_inb k)).toLoadRect (harg5.unread x4))) (k0_pay5 (View.readAt (Elt Ideal) arg11.view (Rect.unit (s := S3x5120x128) (k0_off16 k) S1x128x128.size (k0_off16_inb k)).toLoadRect (harg11.unread U))) x = codes U x4 v ((Rect.unit (s := S3x5120x512) (k0_off17 k) S1x128x512.size (k0_off17_inb k)).emb x) := by
  change S1x128x512.Idx at x
  have h0 : (x 0).val = 0 := by have := (x 0).isLt; change (x 0).val < 1 at this; omega
  have hx : x = ix3 0 (x 1) (x 2) := by
    refine (eq_ix3 x).trans ?_
    congr 1; exact Fin.ext h0
  have hp := pay30_eq (v 2) (View.readAt (Elt Ideal) arg5.view (Rect.unit (s := S5120x512) (k0_off11 k) S128x512.size (k0_off11_inb k)).toLoadRect (harg5.unread x4)) (View.readAt (Elt Ideal) arg11.view (Rect.unit (s := S3x5120x128) (k0_off16 k) S1x128x128.size (k0_off16_inb k)).toLoadRect (harg11.unread U)) (x 1) (x 2)
  refine (congrArg (k0_pay30 (v 2) (k0_pay2 (View.readAt (Elt Ideal) arg5.view (Rect.unit (s := S5120x512) (k0_off11 k) S128x512.size (k0_off11_inb k)).toLoadRect (harg5.unread x4))) (k0_pay5 (View.readAt (Elt Ideal) arg11.view (Rect.unit (s := S3x5120x128) (k0_off16 k) S1x128x128.size (k0_off16_inb k)).toLoadRect (harg11.unread U)))) hx).trans (hp.trans ?_)
  unfold codes
  rw [View.readAt_apply, View.readAt_apply, harg5.read_unread, harg11.read_unread]
  have e0 : ((Rect.unit (s := S3x5120x512) (k0_off17 k) S1x128x512.size (k0_off17_inb k)).emb x) 0 = (2 : Fin 3) := Fin.ext (by
    show (k0_off17 k) 0 + 1 * (x 0).val = (2 : Fin 3).val
    rw [k0_off17_eq, h0]; rfl)
  have e1 : (((Rect.unit (s := S3x5120x512) (k0_off17 k) S1x128x512.size (k0_off17_inb k)).emb x) 1).val = 128 * k.val + (x 1).val := by
    show (k0_off17 k) 1 + 1 * (x 1).val = _
    rw [k0_off17_eq, Nat.one_mul]; rfl
  have e2 : ((Rect.unit (s := S3x5120x512) (k0_off17 k) S1x128x512.size (k0_off17_inb k)).emb x) 2 = x 2 := Fin.ext (by
    show (k0_off17 k) 2 + 1 * (x 2).val = _
    rw [k0_off17_eq, Nat.one_mul]; exact Nat.zero_add _)
  rw [e0, e2]
  have eu : ((Rect.unit (s := S3x5120x128) (k0_off16 k) S1x128x128.size (k0_off16_inb k)).toLoadRect.idx (ix3 0 (x 1) (lane (x 2)))) = ix3 2 (((Rect.unit (s := S3x5120x512) (k0_off17 k) S1x128x512.size (k0_off17_inb k)).emb x) 1) (lane (x 2)) := by
    funext a
    refine Fin.ext ?_
    match a with
    | ⟨0, _⟩ => show (k0_off16 k) 0 + 1 * 0 = 2; rw [k0_off16_eq]; rfl
    | ⟨1, _⟩ => refine Eq.trans ?_ e1.symm; show (k0_off16 k) 1 + 1 * (x 1).val = _; rw [k0_off16_eq, Nat.one_mul]; rfl
    | ⟨2, _⟩ => show (k0_off16 k) 2 + 1 * (lane (x 2)).val = (lane (x 2)).val; rw [k0_off16_eq, Nat.one_mul]; exact Nat.zero_add _
  have ew : ((Rect.unit (s := S5120x512) (k0_off11 k) S128x512.size (k0_off11_inb k)).toLoadRect.idx (ix2 (x 1) (x 2))) = ix2 (((Rect.unit (s := S3x5120x512) (k0_off17 k) S1x128x512.size (k0_off17_inb k)).emb x) 1) (x 2) := by
    funext a
    refine Fin.ext ?_
    match a with
    | ⟨0, _⟩ => refine Eq.trans ?_ e1.symm; show (k0_off11 k) 0 + 1 * (x 1).val = _; rw [k0_off11_eq, Nat.one_mul]; rfl
    | ⟨1, _⟩ => show (k0_off11 k) 1 + 1 * (x 2).val = (x 2).val; rw [k0_off11_eq, Nat.one_mul]; exact Nat.zero_add _
  rw [eu, ew]
  first | done | rfl

theorem trips5 : Scf.trips k0_t5_loop.lb k0_t5_loop.ub k0_t5_loop.st = 40 := by decide +kernel

/-- After the last loop the code block holds the codes. -/
theorem codes_eq (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (U : Vec Ideal S3x5120x128 .f32) (x4 : Vec Ideal S5120x512 .fp8e4m3) (v4 v35 : FVec Ideal S1x512 .f32) (v : Fin 3 → FVec Ideal S1x512 .f32) (f : BufTy.Contents (Elt Ideal) arg9.view.ty) :
    arg9.view.read (Elt Ideal) (arg9.view.writes (Elt Ideal) f (pb_k0_t5 (F := Ideal) Variants.none c none i arg1 harg1 arg2 harg2 arg3 harg3 arg4 harg4 arg5 harg5 arg6 harg6 arg7 harg7 arg8 harg8 arg9 harg9 arg10 harg10 arg11 harg11 arg12 harg12 v4 v35 (v 0) (v 1) (v 2) 0#32 (harg5.unread x4) (harg11.unread U) (Scf.trips k0_t5_loop.lb k0_t5_loop.ub k0_t5_loop.st))) = codes U x4 v := by
  have hm := (mem_grown (pb_k0_t5 (F := Ideal) Variants.none c none i arg1 harg1 arg2 harg2 arg3 harg3 arg4 harg4 arg5 harg5 arg6 harg6 arg7 harg7 arg8 harg8 arg9 harg9 arg10 harg10 arg11 harg11 arg12 harg12 v4 v35 (v 0) (v 1) (v 2) 0#32 (harg5.unread x4) (harg11.unread U)) (tripL_k0_t5 (F := Ideal) Variants.none c none i arg1 harg1 arg2 harg2 arg3 harg3 arg4 harg4 arg5 harg5 arg6 harg6 arg7 harg7 arg8 harg8 arg9 harg9 arg10 harg10 arg11 harg11 arg12 harg12 v4 v35 (v 0) (v 1) (v 2) 0#32 (harg5.unread x4) (harg11.unread U)) rfl
    (fun k => pb_k0_t5_succ (F := Ideal) Variants.none c none i arg1 harg1 arg2 harg2 arg3 harg3 arg4 harg4 arg5 harg5 arg6 harg6 arg7 harg7 arg8 harg8 arg9 harg9 arg10 harg10 arg11 harg11 arg12 harg12 v4 v35 (v 0) (v 1) (v 2) 0#32 (harg5.unread x4) (harg11.unread U) k) k0_t5_loop.trips le_rfl)
  funext y
  refine View.read_writes_apply_of_pieces (v := arg9.view) (f := f) (codes U x4 v) _ ?_ y ?_
  · intro p hp
    obtain ⟨k, _, hk⟩ := (hm p).mp hp
    rw [trip5_eq] at hk
    rcases List.mem_cons.mp hk with rfl | hk
    · exact codesPiece2 c i arg1 harg1 arg2 harg2 arg3 harg3 arg4 harg4 arg5 harg5 arg6 harg6 arg7 harg7 arg8 harg8 arg9 harg9 arg10 harg10 arg11 harg11 arg12 harg12 U x4 v k
    rcases List.mem_cons.mp hk with rfl | hk
    · exact codesPiece1 c i arg1 harg1 arg2 harg2 arg3 harg3 arg4 harg4 arg5 harg5 arg6 harg6 arg7 harg7 arg8 harg8 arg9 harg9 arg10 harg10 arg11 harg11 arg12 harg12 U x4 v k
    · obtain rfl := List.mem_singleton.mp hk
      exact codesPiece0 c i arg1 harg1 arg2 harg2 arg3 harg3 arg4 harg4 arg5 harg5 arg6 harg6 arg7 harg7 arg8 harg8 arg9 harg9 arg10 harg10 arg11 harg11 arg12 harg12 U x4 v k
  · have h0 : (y 0).val < 3 := (y 0).isLt
    have h1 : (y 1).val < 5120 := (y 1).isLt
    have h2 : (y 2).val < 512 := (y 2).isLt
    let k : Fin k0_t5_loop.trips := ⟨(y 1).val / 128, by show _ < Scf.trips _ _ _; rw [trips5]; omega⟩
    have h : (y 0).val = 0 ∨ (y 0).val = 1 ∨ (y 0).val = 2 := by omega
    rcases h with h | h | h
    · refine ⟨_, (hm _).mpr ⟨k, k.isLt, by rw [trip5_eq]; exact List.mem_cons_of_mem _ (List.mem_cons_of_mem _ List.mem_cons_self)⟩, ?_⟩
      rw [Rect.mem_set_unit]
      intro a
      rw [k0_off13_eq]
      match a with
      | ⟨0, _⟩ => show 0 ≤ (y 0).val ∧ (y 0).val < 0 + 1; omega
      | ⟨1, _⟩ => show 128 * ((y 1).val / 128) ≤ (y 1).val ∧ (y 1).val < 128 * ((y 1).val / 128) + 128; omega
      | ⟨2, _⟩ => show 0 ≤ (y 2).val ∧ (y 2).val < 0 + 512; omega
    · refine ⟨_, (hm _).mpr ⟨k, k.isLt, by rw [trip5_eq]; exact List.mem_cons_of_mem _ List.mem_cons_self⟩, ?_⟩
      rw [Rect.mem_set_unit]
      intro a
      rw [k0_off15_eq]
      match a with
      | ⟨0, _⟩ => show 1 ≤ (y 0).val ∧ (y 0).val < 1 + 1; omega
      | ⟨1, _⟩ => show 128 * ((y 1).val / 128) ≤ (y 1).val ∧ (y 1).val < 128 * ((y 1).val / 128) + 128; omega
      | ⟨2, _⟩ => show 0 ≤ (y 2).val ∧ (y 2).val < 0 + 512; omega
    · refine ⟨_, (hm _).mpr ⟨k, k.isLt, by rw [trip5_eq]; exact List.mem_cons_self⟩, ?_⟩
      rw [Rect.mem_set_unit]
      intro a
      rw [k0_off17_eq]
      match a with
      | ⟨0, _⟩ => show 2 ≤ (y 0).val ∧ (y 0).val < 2 + 1; omega
      | ⟨1, _⟩ => show 128 * ((y 1).val / 128) ≤ (y 1).val ∧ (y 1).val < 128 * ((y 1).val / 128) + 128; omega
      | ⟨2, _⟩ => show 0 ≤ (y 2).val ∧ (y 2).val < 0 + 512; omega

end Cert.KernelIdeal.Gen
-- ==== Proof.LoopMax.lean ====
/- The maxima the main kernel's fourth loop carries. -/
module

public import proofs.«01_k».proof.Proof.LoopRows

@[expose] public section

set_option maxRecDepth 16384

noncomputable section

namespace Cert.KernelIdeal.Gen

open Idealize.ShloMosaic Idealize.ShloMosaic.TcCoe Idealize.ShloMosaic.Tactic
open Idealize.SL.Sem

theorem trips4 : Scf.trips k0_t4_loop.lb k0_t4_loop.ub k0_t4_loop.st = 40 := by decide +kernel

/-- Row `128 k + 8 a + s` of the weight. -/
def bigRow (k : Fin 40) (a : Fin 16) (s : Fin 8) : Fin 5120 := ⟨128 * k.val + (8 * a.val + s.val), by omega⟩

/-- One trip's magnitudes of batch entry 0 are those of the trip's rows. -/
theorem magRow0 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (U : Vec Ideal S3x5120x128 .f32) (x4 : Vec Ideal S5120x512 .fp8e4m3) (x5 : Vec Ideal S1x1x512 .f32) (k : Fin k0_t4_loop.trips) (k' : Fin 40) (hk : k'.val = k.val)
    (a : Fin 16) (s : Fin 8) (q : Fin 512) :
    FloatOps.absf (F := Ideal) (φ := .f32) ((View.readAt (Elt Ideal) arg11.view (Rect.unit (s := S3x5120x128) (k0_off8 k) S1x128x128.size (k0_off8_inb k)).toLoadRect (harg11.unread U)) (ix3 0 (row128 a s) (lane q)) * ((View.readAt (Elt Ideal) arg5.view (Rect.unit (s := S5120x512) (k0_off7 k) S128x512.size (k0_off7_inb k)).toLoadRect (harg5.unread x4)) (ix2 (row128 a s) q) * x5 (ix3 0 0 q))) = mag U x4 x5 0 q (bigRow k' a s) := by
  unfold mag
  rw [View.readAt_apply, View.readAt_apply, harg5.read_unread, harg11.read_unread]
  have eu : ((Rect.unit (s := S3x5120x128) (k0_off8 k) S1x128x128.size (k0_off8_inb k)).toLoadRect.idx (ix3 0 (row128 a s) (lane q))) = ix3 0 (bigRow k' a s) (lane q) := by
    funext z
    refine Fin.ext ?_
    match z with
    | ⟨0, _⟩ => show (k0_off8 k) 0 + 1 * 0 = 0; rw [k0_off8_eq]; rfl
    | ⟨1, _⟩ => show (k0_off8 k) 1 + 1 * (row128 a s).val = 128 * k'.val + (8 * a.val + s.val); rw [k0_off8_eq, Nat.one_mul, hk]; rfl
    | ⟨2, _⟩ => show (k0_off8 k) 2 + 1 * (lane q).val = (lane q).val; rw [k0_off8_eq, Nat.one_mul]; exact Nat.zero_add _
  have ew : ((Rect.unit (s := S5120x512) (k0_off7 k) S128x512.size (k0_off7_inb k)).toLoadRect.idx (ix2 (row128 a s) q)) = ix2 (bigRow k' a s) q := by
    funext z
    refine Fin.ext ?_
    match z with
    | ⟨0, _⟩ => show (k0_off7 k) 0 + 1 * (row128 a s).val = 128 * k'.val + (8 * a.val + s.val); rw [k0_off7_eq, Nat.one_mul, hk]; rfl
    | ⟨1, _⟩ => show (k0_off7 k) 1 + 1 * q.val = q.val; rw [k0_off7_eq, Nat.one_mul]; exact Nat.zero_add _
  rw [eu, ew]

/-- The running maximum of batch entry 0 before trip `n`, by its upper bounds. -/
theorem st0_le (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (U : Vec Ideal S3x5120x128 .f32) (x4 : Vec Ideal S5120x512 .fp8e4m3) (x5 : Vec Ideal S1x1x512 .f32) (s : Fin 8) (q : Fin 512) (z : EReal) (n : ℕ) (hn : n ≤ 40) :
    (st_k0_t4 (F := Ideal) Variants.none c none i arg1 harg1 arg2 harg2 arg3 harg3 arg4 harg4 arg5 harg5 arg6 harg6 arg7 harg7 arg8 harg8 arg9 harg9 arg10 harg10 arg11 harg11 arg12 harg12 x5 (harg5.unread x4) (harg11.unread U) (k0_pay11, k0_pay12, k0_pay13) n).1 (ix2 s q) ≤ z ↔ 0 ≤ z ∧ ∀ k : Fin 40, k.val < n → ∀ a : Fin 16, mag U x4 x5 0 q (bigRow k a s) ≤ z := by
  induction n with
  | zero =>
    rw [st_k0_t4_zero]
    dsimp only
    have : (k0_pay11 (F := Ideal)) (ix2 s q) = (0 : EReal) := by
      show Ideal.ofBits .f32 0x00000000#32 = 0
      simp [Ideal.ofBits, Ideal.ieee]
    rw [this]
    simp
  | succ n ih =>
    have hlt : n < k0_t4_loop.trips := by show _ < Scf.trips _ _ _; rw [trips4]; omega
    have hs := st_k0_t4_succ (F := Ideal) Variants.none c none i arg1 harg1 arg2 harg2 arg3 harg3 arg4 harg4 arg5 harg5 arg6 harg6 arg7 harg7 arg8 harg8 arg9 harg9 arg10 harg10 arg11 harg11 arg12 harg12 x5 (harg5.unread x4) (harg11.unread U) (k0_pay11, k0_pay12, k0_pay13) ⟨n, hlt⟩
    rw [show (st_k0_t4 (F := Ideal) Variants.none c none i arg1 harg1 arg2 harg2 arg3 harg3 arg4 harg4 arg5 harg5 arg6 harg6 arg7 harg7 arg8 harg8 arg9 harg9 arg10 harg10 arg11 harg11 arg12 harg12 x5 (harg5.unread x4) (harg11.unread U) (k0_pay11, k0_pay12, k0_pay13) (n + 1)) = _ from hs, trip4_eq]
    dsimp only
    rw [pay15_eq, max_le_iff, ih (by omega), Finset.fold_max_le]
    simp only [magRow0 c i arg1 harg1 arg2 harg2 arg3 harg3 arg4 harg4 arg5 harg5 arg6 harg6 arg7 harg7 arg8 harg8 arg9 harg9 arg10 harg10 arg11 harg11 arg12 harg12 U x4 x5 ⟨n, hlt⟩ ⟨n, by omega⟩ rfl]
    constructor
    · rintro ⟨⟨h0, h1⟩, _, h2⟩
      refine ⟨h0, fun k hk a => ?_⟩
      rcases Nat.lt_succ_iff_lt_or_eq.mp hk with hk | hk
      · exact h1 k hk a
      · have : k = ⟨n, by omega⟩ := Fin.ext hk
        rw [this]
        exact h2 a (Finset.mem_univ _)
    · rintro ⟨h0, h1⟩
      exact ⟨⟨h0, fun k hk a => h1 k (by omega) a⟩, bot_le, fun a _ => h1 ⟨n, by omega⟩ (Nat.lt_succ_self _) a⟩

/-- The largest of the eight sublanes' running maxima after the loop is the column's largest magnitude. -/
theorem stMax0 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (U : Vec Ideal S3x5120x128 .f32) (x4 : Vec Ideal S5120x512 .fp8e4m3) (x5 : Vec Ideal S1x1x512 .f32) (q : Fin 512) :
    (Finset.univ.fold max ⊥ fun s : Fin 8 => (st_k0_t4 (F := Ideal) Variants.none c none i arg1 harg1 arg2 harg2 arg3 harg3 arg4 harg4 arg5 harg5 arg6 harg6 arg7 harg7 arg8 harg8 arg9 harg9 arg10 harg10 arg11 harg11 arg12 harg12 x5 (harg5.unread x4) (harg11.unread U) (k0_pay11, k0_pay12, k0_pay13) (Scf.trips k0_t4_loop.lb k0_t4_loop.ub k0_t4_loop.st)).1 (ix2 s q))
      = Finset.univ.fold max ⊥ fun k : Fin 5120 => mag U x4 x5 0 q k := by
  rw [trips4]
  refine eq_of_forall_ge_iff fun z => ?_
  rw [Finset.fold_max_le, Finset.fold_max_le]
  simp only [st0_le c i arg1 harg1 arg2 harg2 arg3 harg3 arg4 harg4 arg5 harg5 arg6 harg6 arg7 harg7 arg8 harg8 arg9 harg9 arg10 harg10 arg11 harg11 arg12 harg12 U x4 x5 _ q z 40 le_rfl]
  constructor
  · rintro ⟨_, h⟩
    refine ⟨bot_le, fun k _ => ?_⟩
    have hk := k.isLt
    have := (h ⟨k.val % 8, by omega⟩ (Finset.mem_univ _)).2 ⟨k.val / 128, by omega⟩ (by show k.val / 128 < 40; omega) ⟨k.val % 128 / 8, by omega⟩
    have e : bigRow ⟨k.val / 128, by omega⟩ ⟨k.val % 128 / 8, by omega⟩ ⟨k.val % 8, by omega⟩ = k := Fin.ext (by show 128 * (k.val / 128) + (8 * (k.val % 128 / 8) + k.val % 8) = k.val; omega)
    rwa [e] at this
  · rintro ⟨_, h⟩
    refine ⟨bot_le, fun s _ => ⟨?_, fun k _ a => h _ (Finset.mem_univ _)⟩⟩
    refine le_trans ?_ (h ⟨0, by norm_num⟩ (Finset.mem_univ _))
    unfold mag
    generalize (_ * _ : EReal) = w
    show (0 : EReal) ≤ max w (-w)
    rcases le_total 0 w with hw | hw
    · exact le_max_of_le_left hw
    · exact le_max_of_le_right (EReal.neg_nonneg.mpr hw)

/-- One trip's magnitudes of batch entry 1 are those of the trip's rows. -/
theorem magRow1 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (U : Vec Ideal S3x5120x128 .f32) (x4 : Vec Ideal S5120x512 .fp8e4m3) (x5 : Vec Ideal S1x1x512 .f32) (k : Fin k0_t4_loop.trips) (k' : Fin 40) (hk : k'.val = k.val)
    (a : Fin 16) (s : Fin 8) (q : Fin 512) :
    FloatOps.absf (F := Ideal) (φ := .f32) ((View.readAt (Elt Ideal) arg11.view (Rect.unit (s := S3x5120x128) (k0_off9 k) S1x128x128.size (k0_off9_inb k)).toLoadRect (harg11.unread U)) (ix3 0 (row128 a s) (lane q)) * ((View.readAt (Elt Ideal) arg5.view (Rect.unit (s := S5120x512) (k0_off7 k) S128x512.size (k0_off7_inb k)).toLoadRect (harg5.unread x4)) (ix2 (row128 a s) q) * x5 (ix3 0 0 q))) = mag U x4 x5 1 q (bigRow k' a s) := by
  unfold mag
  rw [View.readAt_apply, View.readAt_apply, harg5.read_unread, harg11.read_unread]
  have eu : ((Rect.unit (s := S3x5120x128) (k0_off9 k) S1x128x128.size (k0_off9_inb k)).toLoadRect.idx (ix3 0 (row128 a s) (lane q))) = ix3 1 (bigRow k' a s) (lane q) := by
    funext z
    refine Fin.ext ?_
    match z with
    | ⟨0, _⟩ => show (k0_off9 k) 0 + 1 * 0 = 1; rw [k0_off9_eq]; rfl
    | ⟨1, _⟩ => show (k0_off9 k) 1 + 1 * (row128 a s).val = 128 * k'.val + (8 * a.val + s.val); rw [k0_off9_eq, Nat.one_mul, hk]; rfl
    | ⟨2, _⟩ => show (k0_off9 k) 2 + 1 * (lane q).val = (lane q).val; rw [k0_off9_eq, Nat.one_mul]; exact Nat.zero_add _
  have ew : ((Rect.unit (s := S5120x512) (k0_off7 k) S128x512.size (k0_off7_inb k)).toLoadRect.idx (ix2 (row128 a s) q)) = ix2 (bigRow k' a s) q := by
    funext z
    refine Fin.ext ?_
    match z with
    | ⟨0, _⟩ => show (k0_off7 k) 0 + 1 * (row128 a s).val = 128 * k'.val + (8 * a.val + s.val); rw [k0_off7_eq, Nat.one_mul, hk]; rfl
    | ⟨1, _⟩ => show (k0_off7 k) 1 + 1 * q.val = q.val; rw [k0_off7_eq, Nat.one_mul]; exact Nat.zero_add _
  rw [eu, ew]

/-- The running maximum of batch entry 1 before trip `n`, by its upper bounds. -/
theorem st1_le (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (U : Vec Ideal S3x5120x128 .f32) (x4 : Vec Ideal S5120x512 .fp8e4m3) (x5 : Vec Ideal S1x1x512 .f32) (s : Fin 8) (q : Fin 512) (z : EReal) (n : ℕ) (hn : n ≤ 40) :
    (st_k0_t4 (F := Ideal) Variants.none c none i arg1 harg1 arg2 harg2 arg3 harg3 arg4 harg4 arg5 harg5 arg6 harg6 arg7 harg7 arg8 harg8 arg9 harg9 arg10 harg10 arg11 harg11 arg12 harg12 x5 (harg5.unread x4) (harg11.unread U) (k0_pay11, k0_pay12, k0_pay13) n).2.1 (ix2 s q) ≤ z ↔ 0 ≤ z ∧ ∀ k : Fin 40, k.val < n → ∀ a : Fin 16, mag U x4 x5 1 q (bigRow k a s) ≤ z := by
  induction n with
  | zero =>
    rw [st_k0_t4_zero]
    dsimp only
    have : (k0_pay12 (F := Ideal)) (ix2 s q) = (0 : EReal) := by
      show Ideal.ofBits .f32 0x00000000#32 = 0
      simp [Ideal.ofBits, Ideal.ieee]
    rw [this]
    simp
  | succ n ih =>
    have hlt : n < k0_t4_loop.trips := by show _ < Scf.trips _ _ _; rw [trips4]; omega
    have hs := st_k0_t4_succ (F := Ideal) Variants.none c none i arg1 harg1 arg2 harg2 arg3 harg3 arg4 harg4 arg5 harg5 arg6 harg6 arg7 harg7 arg8 harg8 arg9 harg9 arg10 harg10 arg11 harg11 arg12 harg12 x5 (harg5.unread x4) (harg11.unread U) (k0_pay11, k0_pay12, k0_pay13) ⟨n, hlt⟩
    rw [show (st_k0_t4 (F := Ideal) Variants.none c none i arg1 harg1 arg2 harg2 arg3 harg3 arg4 harg4 arg5 harg5 arg6 harg6 arg7 harg7 arg8 harg8 arg9 harg9 arg10 harg10 arg11 harg11 arg12 harg12 x5 (harg5.unread x4) (harg11.unread U) (k0_pay11, k0_pay12, k0_pay13) (n + 1)) = _ from hs, trip4_eq]
    dsimp only
    rw [pay16_eq, max_le_iff, ih (by omega), Finset.fold_max_le]
    simp only [magRow1 c i arg1 harg1 arg2 harg2 arg3 harg3 arg4 harg4 arg5 harg5 arg6 harg6 arg7 harg7 arg8 harg8 arg9 harg9 arg10 harg10 arg11 harg11 arg12 harg12 U x4 x5 ⟨n, hlt⟩ ⟨n, by omega⟩ rfl]
    constructor
    · rintro ⟨⟨h0, h1⟩, _, h2⟩
      refine ⟨h0, fun k hk a => ?_⟩
      rcases Nat.lt_succ_iff_lt_or_eq.mp hk with hk | hk
      · exact h1 k hk a
      · have : k = ⟨n, by omega⟩ := Fin.ext hk
        rw [this]
        exact h2 a (Finset.mem_univ _)
    · rintro ⟨h0, h1⟩
      exact ⟨⟨h0, fun k hk a => h1 k (by omega) a⟩, bot_le, fun a _ => h1 ⟨n, by omega⟩ (Nat.lt_succ_self _) a⟩

/-- The largest of the eight sublanes' running maxima after the loop is the column's largest magnitude. -/
theorem stMax1 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (U : Vec Ideal S3x5120x128 .f32) (x4 : Vec Ideal S5120x512 .fp8e4m3) (x5 : Vec Ideal S1x1x512 .f32) (q : Fin 512) :
    (Finset.univ.fold max ⊥ fun s : Fin 8 => (st_k0_t4 (F := Ideal) Variants.none c none i arg1 harg1 arg2 harg2 arg3 harg3 arg4 harg4 arg5 harg5 arg6 harg6 arg7 harg7 arg8 harg8 arg9 harg9 arg10 harg10 arg11 harg11 arg12 harg12 x5 (harg5.unread x4) (harg11.unread U) (k0_pay11, k0_pay12, k0_pay13) (Scf.trips k0_t4_loop.lb k0_t4_loop.ub k0_t4_loop.st)).2.1 (ix2 s q))
      = Finset.univ.fold max ⊥ fun k : Fin 5120 => mag U x4 x5 1 q k := by
  rw [trips4]
  refine eq_of_forall_ge_iff fun z => ?_
  rw [Finset.fold_max_le, Finset.fold_max_le]
  simp only [st1_le c i arg1 harg1 arg2 harg2 arg3 harg3 arg4 harg4 arg5 harg5 arg6 harg6 arg7 harg7 arg8 harg8 arg9 harg9 arg10 harg10 arg11 harg11 arg12 harg12 U x4 x5 _ q z 40 le_rfl]
  constructor
  · rintro ⟨_, h⟩
    refine ⟨bot_le, fun k _ => ?_⟩
    have hk := k.isLt
    have := (h ⟨k.val % 8, by omega⟩ (Finset.mem_univ _)).2 ⟨k.val / 128, by omega⟩ (by show k.val / 128 < 40; omega) ⟨k.val % 128 / 8, by omega⟩
    have e : bigRow ⟨k.val / 128, by omega⟩ ⟨k.val % 128 / 8, by omega⟩ ⟨k.val % 8, by omega⟩ = k := Fin.ext (by show 128 * (k.val / 128) + (8 * (k.val % 128 / 8) + k.val % 8) = k.val; omega)
    rwa [e] at this
  · rintro ⟨_, h⟩
    refine ⟨bot_le, fun s _ => ⟨?_, fun k _ a => h _ (Finset.mem_univ _)⟩⟩
    refine le_trans ?_ (h ⟨0, by norm_num⟩ (Finset.mem_univ _))
    unfold mag
    generalize (_ * _ : EReal) = w
    show (0 : EReal) ≤ max w (-w)
    rcases le_total 0 w with hw | hw
    · exact le_max_of_le_left hw
    · exact le_max_of_le_right (EReal.neg_nonneg.mpr hw)

/-- One trip's magnitudes of batch entry 2 are those of the trip's rows. -/
theorem magRow2 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (U : Vec Ideal S3x5120x128 .f32) (x4 : Vec Ideal S5120x512 .fp8e4m3) (x5 : Vec Ideal S1x1x512 .f32) (k : Fin k0_t4_loop.trips) (k' : Fin 40) (hk : k'.val = k.val)
    (a : Fin 16) (s : Fin 8) (q : Fin 512) :
    FloatOps.absf (F := Ideal) (φ := .f32) ((View.readAt (Elt Ideal) arg11.view (Rect.unit (s := S3x5120x128) (k0_off10 k) S1x128x128.size (k0_off10_inb k)).toLoadRect (harg11.unread U)) (ix3 0 (row128 a s) (lane q)) * ((View.readAt (Elt Ideal) arg5.view (Rect.unit (s := S5120x512) (k0_off7 k) S128x512.size (k0_off7_inb k)).toLoadRect (harg5.unread x4)) (ix2 (row128 a s) q) * x5 (ix3 0 0 q))) = mag U x4 x5 2 q (bigRow k' a s) := by
  unfold mag
  rw [View.readAt_apply, View.readAt_apply, harg5.read_unread, harg11.read_unread]
  have eu : ((Rect.unit (s := S3x5120x128) (k0_off10 k) S1x128x128.size (k0_off10_inb k)).toLoadRect.idx (ix3 0 (row128 a s) (lane q))) = ix3 2 (bigRow k' a s) (lane q) := by
    funext z
    refine Fin.ext ?_
    match z with
    | ⟨0, _⟩ => show (k0_off10 k) 0 + 1 * 0 = 2; rw [k0_off10_eq]; rfl
    | ⟨1, _⟩ => show (k0_off10 k) 1 + 1 * (row128 a s).val = 128 * k'.val + (8 * a.val + s.val); rw [k0_off10_eq, Nat.one_mul, hk]; rfl
    | ⟨2, _⟩ => show (k0_off10 k) 2 + 1 * (lane q).val = (lane q).val; rw [k0_off10_eq, Nat.one_mul]; exact Nat.zero_add _
  have ew : ((Rect.unit (s := S5120x512) (k0_off7 k) S128x512.size (k0_off7_inb k)).toLoadRect.idx (ix2 (row128 a s) q)) = ix2 (bigRow k' a s) q := by
    funext z
    refine Fin.ext ?_
    match z with
    | ⟨0, _⟩ => show (k0_off7 k) 0 + 1 * (row128 a s).val = 128 * k'.val + (8 * a.val + s.val); rw [k0_off7_eq, Nat.one_mul, hk]; rfl
    | ⟨1, _⟩ => show (k0_off7 k) 1 + 1 * q.val = q.val; rw [k0_off7_eq, Nat.one_mul]; exact Nat.zero_add _
  rw [eu, ew]

/-- The running maximum of batch entry 2 before trip `n`, by its upper bounds. -/
theorem st2_le (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (U : Vec Ideal S3x5120x128 .f32) (x4 : Vec Ideal S5120x512 .fp8e4m3) (x5 : Vec Ideal S1x1x512 .f32) (s : Fin 8) (q : Fin 512) (z : EReal) (n : ℕ) (hn : n ≤ 40) :
    (st_k0_t4 (F := Ideal) Variants.none c none i arg1 harg1 arg2 harg2 arg3 harg3 arg4 harg4 arg5 harg5 arg6 harg6 arg7 harg7 arg8 harg8 arg9 harg9 arg10 harg10 arg11 harg11 arg12 harg12 x5 (harg5.unread x4) (harg11.unread U) (k0_pay11, k0_pay12, k0_pay13) n).2.2 (ix2 s q) ≤ z ↔ 0 ≤ z ∧ ∀ k : Fin 40, k.val < n → ∀ a : Fin 16, mag U x4 x5 2 q (bigRow k a s) ≤ z := by
  induction n with
  | zero =>
    rw [st_k0_t4_zero]
    dsimp only
    have : (k0_pay13 (F := Ideal)) (ix2 s q) = (0 : EReal) := by
      show Ideal.ofBits .f32 0x00000000#32 = 0
      simp [Ideal.ofBits, Ideal.ieee]
    rw [this]
    simp
  | succ n ih =>
    have hlt : n < k0_t4_loop.trips := by show _ < Scf.trips _ _ _; rw [trips4]; omega
    have hs := st_k0_t4_succ (F := Ideal) Variants.none c none i arg1 harg1 arg2 harg2 arg3 harg3 arg4 harg4 arg5 harg5 arg6 harg6 arg7 harg7 arg8 harg8 arg9 harg9 arg10 harg10 arg11 harg11 arg12 harg12 x5 (harg5.unread x4) (harg11.unread U) (k0_pay11, k0_pay12, k0_pay13) ⟨n, hlt⟩
    rw [show (st_k0_t4 (F := Ideal) Variants.none c none i arg1 harg1 arg2 harg2 arg3 harg3 arg4 harg4 arg5 harg5 arg6 harg6 arg7 harg7 arg8 harg8 arg9 harg9 arg10 harg10 arg11 harg11 arg12 harg12 x5 (harg5.unread x4) (harg11.unread U) (k0_pay11, k0_pay12, k0_pay13) (n + 1)) = _ from hs, trip4_eq]
    dsimp only
    rw [pay17_eq, max_le_iff, ih (by omega), Finset.fold_max_le]
    simp only [magRow2 c i arg1 harg1 arg2 harg2 arg3 harg3 arg4 harg4 arg5 harg5 arg6 harg6 arg7 harg7 arg8 harg8 arg9 harg9 arg10 harg10 arg11 harg11 arg12 harg12 U x4 x5 ⟨n, hlt⟩ ⟨n, by omega⟩ rfl]
    constructor
    · rintro ⟨⟨h0, h1⟩, _, h2⟩
      refine ⟨h0, fun k hk a => ?_⟩
      rcases Nat.lt_succ_iff_lt_or_eq.mp hk with hk | hk
      · exact h1 k hk a
      · have : k = ⟨n, by omega⟩ := Fin.ext hk
        rw [this]
        exact h2 a (Finset.mem_univ _)
    · rintro ⟨h0, h1⟩
      exact ⟨⟨h0, fun k hk a => h1 k (by omega) a⟩, bot_le, fun a _ => h1 ⟨n, by omega⟩ (Nat.lt_succ_self _) a⟩

/-- The largest of the eight sublanes' running maxima after the loop is the column's largest magnitude. -/
theorem stMax2 (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (U : Vec Ideal S3x5120x128 .f32) (x4 : Vec Ideal S5120x512 .fp8e4m3) (x5 : Vec Ideal S1x1x512 .f32) (q : Fin 512) :
    (Finset.univ.fold max ⊥ fun s : Fin 8 => (st_k0_t4 (F := Ideal) Variants.none c none i arg1 harg1 arg2 harg2 arg3 harg3 arg4 harg4 arg5 harg5 arg6 harg6 arg7 harg7 arg8 harg8 arg9 harg9 arg10 harg10 arg11 harg11 arg12 harg12 x5 (harg5.unread x4) (harg11.unread U) (k0_pay11, k0_pay12, k0_pay13) (Scf.trips k0_t4_loop.lb k0_t4_loop.ub k0_t4_loop.st)).2.2 (ix2 s q))
      = Finset.univ.fold max ⊥ fun k : Fin 5120 => mag U x4 x5 2 q k := by
  rw [trips4]
  refine eq_of_forall_ge_iff fun z => ?_
  rw [Finset.fold_max_le, Finset.fold_max_le]
  simp only [st2_le c i arg1 harg1 arg2 harg2 arg3 harg3 arg4 harg4 arg5 harg5 arg6 harg6 arg7 harg7 arg8 harg8 arg9 harg9 arg10 harg10 arg11 harg11 arg12 harg12 U x4 x5 _ q z 40 le_rfl]
  constructor
  · rintro ⟨_, h⟩
    refine ⟨bot_le, fun k _ => ?_⟩
    have hk := k.isLt
    have := (h ⟨k.val % 8, by omega⟩ (Finset.mem_univ _)).2 ⟨k.val / 128, by omega⟩ (by show k.val / 128 < 40; omega) ⟨k.val % 128 / 8, by omega⟩
    have e : bigRow ⟨k.val / 128, by omega⟩ ⟨k.val % 128 / 8, by omega⟩ ⟨k.val % 8, by omega⟩ = k := Fin.ext (by show 128 * (k.val / 128) + (8 * (k.val % 128 / 8) + k.val % 8) = k.val; omega)
    rwa [e] at this
  · rintro ⟨_, h⟩
    refine ⟨bot_le, fun s _ => ⟨?_, fun k _ a => h _ (Finset.mem_univ _)⟩⟩
    refine le_trans ?_ (h ⟨0, by norm_num⟩ (Finset.mem_univ _))
    unfold mag
    generalize (_ * _ : EReal) = w
    show (0 : EReal) ≤ max w (-w)
    rcases le_total 0 w with hw | hw
    · exact le_max_of_le_left hw
    · exact le_max_of_le_right (EReal.neg_nonneg.mpr hw)

end Cert.KernelIdeal.Gen
-- ==== Proof.PayScale.lean ====
/- A column's exponent word, scale and reciprocal as the main kernel computes them, read at an index. -/
module
public import proofs.«01_k».proof.Proof.Gen.KernelIdeal.Skeleton
public import proofs.«01_k».proof.Proof.Scale
public import Idealize.ShloMosaic.Lib.ValueIdx
public import Idealize.ShloMosaic.Lib.Pipeline.Value
public import Idealize.ShloMosaic.Lib.Pointwise
@[expose] public section
set_option maxRecDepth 16384
noncomputable section
namespace Cert.KernelIdeal.Gen
open Idealize.ShloMosaic
open Cert.Scale (count scale inv c448 pw)

/-- A column's count of the thresholds at most its quotient, as the kernel takes it. -/
def cnt (T : FVec Ideal S1x512 .f32) : IVec S512 32 :=
  multiReductionI .add [0] S512 (extui 32 (cmpf (F := Ideal) .oge (broadcastTo S252x512 T broadcasts_S1x512_S252x512) (bitcastToFloat .f32 (shli (addi (iota .tc S252x512 32 [0] iota_S252x512_d0_w32) (broadcast S252x512 1#32)) (broadcast S252x512 23#32)))) natLt_1_32) 0#32 reduces_S252x512_S512 rfl

/-- The kernel's count is the number of thresholds at most the quotient. -/
theorem cnt_eq (T : FVec Ideal S1x512 .f32) (j : Fin 512) : cnt T (ix1 j) = BitVec.ofNat 32 (count (T (ix2 0 j))) := by
  unfold cnt
  refine (multiReductionI_eq_fold _ _ _ _ _ _).trans ?_
  refine (Shape.Reduces.fold_fiber_r2_a0 _ _ _ _ _).trans ?_
  have e : ∀ k : Fin 252, cmpf (F := Ideal) .oge (broadcastTo S252x512 T broadcasts_S1x512_S252x512) (bitcastToFloat .f32 (shli (addi (iota .tc S252x512 32 [0] iota_S252x512_d0_w32) (broadcast S252x512 1#32)) (broadcast S252x512 23#32))) (ix2 k j) = BitVec.ofBool (decide (pw (k.val + 1) ≤ T (ix2 0 j))) := by
    intro k
    pointwise
    rw [← Cert.Scale.ofBits_threshold k.val k.isLt]
    rfl
  refine Eq.trans ?_ (IndicatorCount.fold_addi_setWidth_eq_card (fun k : Fin 252 => BitVec.ofBool (decide (pw (k.val + 1) ≤ T (ix2 0 j)))) Finset.univ |>.trans ?_)
  · refine congrArg (fun f => Finset.fold IntOp.addi 0#32 f Finset.univ) (funext fun k => ?_)
    show BitVec.setWidth 32 _ = BitVec.setWidth 32 _
    exact congrArg _ (e k)
  · unfold Cert.Scale.count
    congr 2
    ext k
    simp only [Finset.mem_filter, Finset.mem_univ, true_and]
    by_cases h : pw (k.val + 1) ≤ T (ix2 0 j) <;> simp [h]

/-- The exponent word of a column: zero where the quotient is zero, else the count less 126. -/
theorem pay18_eq (M : FVec Ideal S8x512 .f32) (j : Fin 512) :
    k0_pay18 M (ix2 0 j) = (if (Finset.univ.fold max ⊥ fun s : Fin 8 => M (ix2 s j)) * c448 = 0 then 0#32 else BitVec.ofNat 32 (count ((Finset.univ.fold max ⊥ fun s : Fin 8 => M (ix2 s j)) * c448)) - 126#32) := by
  have e10 : ∀ j, multiReduction (F := Ideal) .maximumf [0] S512 M 0xFF800000#32 reduces_S8x512_S512 (.inl rfl) rfl (ix1 j) = (Finset.univ.fold max ⊥ fun s : Fin 8 => M (ix2 s j)) := by
    intro j
    refine (multiReduction_maximumf_eq_fold _ _ _ _ _ _).trans ?_
    rw [Shape.Reduces.fold_fiber_r2_a0]
    have : FloatOps.ofBits (F := Ideal) .f32 0xFF800000#32 = (⊥ : EReal) := by
      show Ideal.ofBits .f32 0xFF800000#32 = _
      simp [Ideal.ofBits, Ideal.ieee]
    rw [this]; rfl
  generalize hv : multiReduction (F := Ideal) .maximumf [0] S512 M 0xFF800000#32 reduces_S8x512_S512 (.inl rfl) rfl = v10 at e10
  have e13 : ∀ j, mulf (shapeCast S1x512 v10 shapeCasts_S512_S1x512) (broadcast S1x512 (Scalar.ofBits .f32 0x3B124925#32)) (ix2 0 j) = (Finset.univ.fold max ⊥ fun s : Fin 8 => M (ix2 s j)) * c448 := by
    intro j; rw [← e10]; pointwise; rfl
  have : k0_pay18 M = select (cmpf (F := Ideal) .oeq (mulf (shapeCast S1x512 v10 shapeCasts_S512_S1x512) (broadcast S1x512 (Scalar.ofBits .f32 0x3B124925#32))) (broadcast S1x512 (Scalar.ofBits .f32 0x00000000#32))) (broadcast S1x512 0#32) (subi (shapeCast S1x512 (cnt (mulf (shapeCast S1x512 v10 shapeCasts_S512_S1x512) (broadcast S1x512 (Scalar.ofBits .f32 0x3B124925#32)))) shapeCasts_S512_S1x512) (broadcast S1x512 126#32)) := by
    rw [← hv]; rfl
  rw [this]
  generalize mulf (shapeCast S1x512 v10 shapeCasts_S512_S1x512) (broadcast S1x512 (Scalar.ofBits .f32 0x3B124925#32)) = T at e13
  rw [← e13]
  have ec := cnt_eq T j
  generalize cnt T = C at ec
  pointwise
  rw [ec]; rfl

/-- The quotient of column `j`'s largest magnitude, from the running maxima of the eight sublanes. -/
def quot (M : FVec Ideal S8x512 .f32) (j : Fin 512) : EReal := (Finset.univ.fold max ⊥ fun s : Fin 8 => M (ix2 s j)) * c448

/-- The scale of a column is the power of two of its quotient. -/
theorem pay19_eq (M : FVec Ideal S8x512 .f32) (j : Fin 512) : k0_pay19 M (ix2 0 j) = scale (quot M j) := by
  have h := pay18_eq M j
  have : k0_pay19 M (ix2 0 j) = Ideal.ofBits .f32 ((k0_pay18 M (ix2 0 j) + 127#32) <<< 23) := by
    unfold k0_pay19
    generalize k0_pay18 M = W
    pointwise
    rfl
  rw [this, h]
  unfold scale quot
  split
  · exact (Cert.Scale.ofBits_field 127 (by norm_num) (by norm_num)).trans Cert.Scale.pw_127
  · exact Cert.Scale.ofBits_scale _ (Cert.Scale.count_le _)

/-- The column factor is the weight's scale times the reciprocal of the column's scale. -/
theorem pay20_eq (v4 : FVec Ideal S1x512 .f32) (M : FVec Ideal S8x512 .f32) (j : Fin 512) :
    k0_pay20 v4 (k0_pay18 M) (ix2 0 j) = v4 (ix2 0 j) * inv (quot M j) := by
  have h := pay18_eq M j
  have : k0_pay20 v4 (k0_pay18 M) (ix2 0 j) = v4 (ix2 0 j) * Ideal.ofBits .f32 ((127#32 - k0_pay18 M (ix2 0 j)) <<< 23) := by
    unfold k0_pay20
    generalize k0_pay18 M = W
    pointwise
    rfl
  rw [this, h]
  unfold Cert.Scale.inv quot
  congr 1
  split
  · exact (Cert.Scale.ofBits_field 127 (by norm_num) (by norm_num)).trans Cert.Scale.pw_127
  · exact Cert.Scale.ofBits_inv _ (Cert.Scale.count_le _)

/-- The same for the second and the third batch. -/
theorem pay23_eq (M : FVec Ideal S8x512 .f32) (j : Fin 512) : k0_pay23 M (ix2 0 j) = scale (quot M j) := pay19_eq M j
theorem pay27_eq (M : FVec Ideal S8x512 .f32) (j : Fin 512) : k0_pay27 M (ix2 0 j) = scale (quot M j) := pay19_eq M j
theorem pay24_eq (v4 : FVec Ideal S1x512 .f32) (M : FVec Ideal S8x512 .f32) (j : Fin 512) :
    k0_pay24 v4 M (ix2 0 j) = v4 (ix2 0 j) * inv (quot M j) := pay20_eq v4 M j
theorem pay28_eq (v4 : FVec Ideal S1x512 .f32) (M : FVec Ideal S8x512 .f32) (j : Fin 512) :
    k0_pay28 v4 M (ix2 0 j) = v4 (ix2 0 j) * inv (quot M j) := pay20_eq v4 M j
end Cert.KernelIdeal.Gen
end
-- ==== Proof.BlockDots.lean ====
/- The main kernel's products read at an index: the shift's row times the weights, and the result's block. -/
module
public import proofs.«01_k».proof.Proof.Gen.KernelIdeal.Skeleton
public import proofs.«01_k».proof.Proof.BlockMath
public import Idealize.ShloMosaic.Lib.ValueIdx
public import Idealize.ShloMosaic.Lib.Pipeline.Value
public import Idealize.ShloMosaic.Lib.Pointwise
@[expose] public section
set_option maxRecDepth 16384
noncomputable section
namespace Cert.KernelIdeal.Gen
open Idealize.ShloMosaic

/-- Row `r` of the split shift times column `q` of the weights. -/
def dotP (P : Vec Ideal S16x5120 .bf16) (x4 : Vec Ideal S5120x512 .fp8e4m3) (r : Fin 16) (q : Fin 512) : EReal :=
  ∑ k : Fin 5120, P (ix2 r k) * x4 (ix2 k q)

/-- The shift's contribution to row block `b` at column `q`. -/
def shiftAt (P : Vec Ideal S16x5120 .bf16) (x4 : Vec Ideal S5120x512 .fp8e4m3) (x5 x6 : Vec Ideal S1x1x512 .f32) (b : Fin 3) (q : Fin 512) : EReal :=
  (dotP P x4 ⟨b.val, by omega⟩ q + dotP P x4 ⟨b.val + 3, by omega⟩ q + dotP P x4 ⟨b.val + 6, by omega⟩ q) * x5 (ix3 0 0 q) + x6 (ix3 0 0 q)

/-- The kernel's small product of the split shift with the weights, at an index. -/
theorem dot16_eq (P : Vec Ideal S16x5120 .bf16) (x4 : Vec Ideal S5120x512 .fp8e4m3) (r : Fin 16) (q : Fin 512) :
    matmul (F := Ideal) (φ₁ := .bf16) (φ₂ := .bf16) dot_S16x5120_S5120x512_S16x512_1_0_0_1_n_n none P (extf .bf16 x4 bitsLt_fp8e4m3_bf16) (constant S16x512 .f32 0x00000000#32) (ix2 r q) = dotP P x4 r q := by
  unfold dotP
  have e : ∀ y, (extf .bf16 x4 bitsLt_fp8e4m3_bf16 : FVec Ideal S5120x512 .bf16) y = x4 y := fun _ => rfl
  generalize (extf .bf16 x4 bitsLt_fp8e4m3_bf16 : FVec Ideal S5120x512 .bf16) = W at e
  simp only [← e]
  pointwise

/-- The kernel's large product of the activations with the codes, at an index. -/
theorem dot384_eq (X : Vec Ideal S384x5120 .fp8e4m3) (C : Vec Ideal S5120x512 .fp8e4m3) (r : Fin 384) (q : Fin 512) :
    matmul (F := Ideal) (φ₁ := .fp8e4m3) (φ₂ := .fp8e4m3) dot_S384x5120_S5120x512_S384x512_1_0_0_1_n_n none X C (constant S384x512 .f32 0x00000000#32) (ix2 r q) = ∑ k : Fin 5120, X (ix2 r k) * C (ix2 k q) := by
  pointwise

/-- The shift's contribution, at an index. -/
theorem pay31_eq (v4 : FVec Ideal S1x512 .f32) (P : Vec Ideal S16x5120 .bf16) (x4 : Vec Ideal S5120x512 .fp8e4m3) (x6 : Vec Ideal S1x1x512 .f32) (b : Fin 3) (q : Fin 512) :
    k0_pay31 v4 P x4 x6 (ix2 b q) = (dotP P x4 ⟨b.val, by omega⟩ q + dotP P x4 ⟨b.val + 3, by omega⟩ q + dotP P x4 ⟨b.val + 6, by omega⟩ q) * v4 (ix2 0 q) + x6 (ix3 0 0 q) := by
  simp only [← dot16_eq]
  unfold k0_pay31
  generalize matmul (F := Ideal) (φ₁ := .bf16) (φ₂ := .bf16) dot_S16x5120_S5120x512_S16x512_1_0_0_1_n_n none P (extf .bf16 x4 bitsLt_fp8e4m3_bf16) (constant S16x512 .f32 0x00000000#32) = D
  pointwise
  simp only [Nat.zero_add, Nat.add_comm]

/-- The first block's payload takes the shift's row from the shared one. -/
theorem pay32_split (v4 s : FVec Ideal S1x512 .f32) (P : Vec Ideal S16x5120 .bf16) (x4 : Vec Ideal S5120x512 .fp8e4m3) (x6 : Vec Ideal S1x1x512 .f32) (X : Vec Ideal S1x384x5120 .fp8e4m3) (C : Vec Ideal S1x5120x512 .fp8e4m3) (H : Vec Ideal S1x384x128 .f32) (r : Fin 384) (q : Fin 512) :
    k0_pay32 v4 s P x4 x6 X C H (ix3 0 r q)
      = (∑ k : Fin 5120, X (ix3 0 r k) * C (ix3 0 k q)) * H (ix3 0 r 0) * s (ix2 0 q) + k0_pay31 v4 P x4 x6 (ix2 0 q) := by
  unfold k0_pay32
  generalize k0_pay31 v4 P x4 x6 = V
  pointwise

/-- The result's block 1: the product times the two scales, plus the shift's row. -/
theorem pay33_eq (s : FVec Ideal S1x512 .f32) (V : FVec Ideal S3x512 .f32) (X : Vec Ideal S1x384x5120 .fp8e4m3) (C : Vec Ideal S1x5120x512 .fp8e4m3) (H : Vec Ideal S1x384x128 .f32) (r : Fin 384) (q : Fin 512) :
    k0_pay33 s V X C H (ix3 0 r q)
      = (∑ k : Fin 5120, X (ix3 0 r k) * C (ix3 0 k q)) * H (ix3 0 r 0) * s (ix2 0 q) + V (ix2 1 q) := by
  unfold k0_pay33
  pointwise

/-- The result's block 2: the product times the two scales, plus the shift's row. -/
theorem pay34_eq (s : FVec Ideal S1x512 .f32) (V : FVec Ideal S3x512 .f32) (X : Vec Ideal S1x384x5120 .fp8e4m3) (C : Vec Ideal S1x5120x512 .fp8e4m3) (H : Vec Ideal S1x384x128 .f32) (r : Fin 384) (q : Fin 512) :
    k0_pay1 (k0_pay34 s V X C H) (ix3 0 r q)
      = (∑ k : Fin 5120, X (ix3 0 r k) * C (ix3 0 k q)) * H (ix3 0 r 0) * s (ix2 0 q) + V (ix2 2 q) := by
  unfold k0_pay1 k0_pay34
  pointwise

end Cert.KernelIdeal.Gen
-- ==== Proof.BlockValues.lean ====
/- What the main kernel's body leaves in its three outputs' blocks, index by index. -/
module
public import proofs.«01_k».proof.Proof.Body
public import proofs.«01_k».proof.Proof.LoopRows
public import proofs.«01_k».proof.Proof.LoopCodes
public import proofs.«01_k».proof.Proof.LoopMax
public import proofs.«01_k».proof.Proof.PayScale
public import proofs.«01_k».proof.Proof.BlockDots
@[expose] public section
set_option maxRecDepth 16384
noncomputable section
namespace Cert.KernelIdeal.Gen
open Idealize.ShloMosaic
open Cert.Scale (scale c448)

/-- The quotient whose power of two is the scale of column `q` of row block `b`. -/
def quo (U : Vec Ideal S3x5120x128 .f32) (x4 : Vec Ideal S5120x512 .fp8e4m3) (x5 : Vec Ideal S1x1x512 .f32) (b : Fin 3) (q : Fin 512) : EReal :=
  (Finset.univ.fold max ⊥ fun k : Fin 5120 => mag U x4 x5 b q k) * c448

/-- The codes' block. -/
def cv (U : Vec Ideal S3x5120x128 .f32) (x4 : Vec Ideal S5120x512 .fp8e4m3) (x5 : Vec Ideal S1x1x512 .f32) : Vec Ideal S3x5120x512 .fp8e4m3 :=
  fun y => clip (U (ix3 (y 0) (y 1) (lane (y 2))) * (x4 (ix2 (y 1) (y 2)) * (x5 (ix3 0 0 (y 2)) * Cert.Scale.inv (quo U x4 x5 (y 0) (y 2)))))

/-- The scales' block. -/
def sv (U : Vec Ideal S3x5120x128 .f32) (x4 : Vec Ideal S5120x512 .fp8e4m3) (x5 : Vec Ideal S1x1x512 .f32) : Vec Ideal S1x3x512 .f32 :=
  fun y => scale (quo U x4 x5 (y 1) (y 2))

/-- The result's block. -/
def yv (x0 : Vec Ideal S3x384x5120 .fp8e4m3) (x1 : Vec Ideal S3x384x128 .f32) (x4 : Vec Ideal S5120x512 .fp8e4m3) (x5 x6 : Vec Ideal S1x1x512 .f32)
    (U : Vec Ideal S3x5120x128 .f32) (P : Vec Ideal S16x5120 .bf16) (C : Vec Ideal S3x5120x512 .fp8e4m3) : Vec Ideal S3x384x512 .bf16 :=
  fun y => (∑ k : Fin 5120, x0 (ix3 (y 0) (y 1) k) * C (ix3 (y 0) k (y 2))) * x1 (ix3 (y 0) (y 1) 0) * scale (quo U x4 x5 (y 0) (y 2)) + shiftAt P x4 x5 x6 (y 0) (y 2)

/-- A load of a whole window of scales reads it. -/
theorem ldv_eq (x : Vec Ideal S1x1x512 .f32) : View.ld x (Rect.unit (s := S1x1x512) ![0, 0, 0] S1x1x512.size inb_S1x1x512_S1x1x512_0_0_0) = x :=
  View.ld_unit_zero (funext fun a => by fin_cases a <;> rfl) _ x
/-- A load of the whole block of weights reads it. -/
theorem ldw_eq (x : Vec Ideal S5120x512 .fp8e4m3) : View.ld x (Rect.unit (s := S5120x512) ![0, 0] S5120x512.size inb_S5120x512_S5120x512_0_0) = x :=
  View.ld_unit_zero (funext fun a => by fin_cases a <;> rfl) _ x
/-- A load of the whole split shift reads it. -/
theorem ldp_eq (x : Vec Ideal S16x5120 .bf16) : View.ld x (Rect.unit (s := S16x5120) ![0, 0] S16x5120.size inb_S16x5120_S16x5120_0_0) = x :=
  View.ld_unit_zero (funext fun a => by fin_cases a <;> rfl) _ x
/-- A load of the whole shift reads it. -/
theorem lds_eq (x : Vec Ideal S3x5120 .f32) : View.ld x (Rect.unit (s := S3x5120) ![0, 0] S3x5120.size inb_S3x5120_S3x5120_0_0) = x :=
  View.ld_unit_zero (funext fun a => by fin_cases a <;> rfl) _ x

/-- The window of weight scales as one row. -/
theorem pay10_apply (x5 : Vec Ideal S1x1x512 .f32) (q : Fin 512) : k0_pay10 x5 (ix2 0 q) = x5 (ix3 0 0 q) := by
  unfold k0_pay10
  pointwise

/-- A row of scales stored as a row of the scales' block. -/
theorem row3_apply (v : FVec Ideal S1x512 .f32) (q : Fin 512) : k0_pay21 v (ix3 0 0 q) = v (ix2 0 q) := by
  unfold k0_pay21
  pointwise

/-- Three rows stored into the scales' block. -/
theorem rowsS_eq (a : Memref sig .tc .vmem S1x3x512 .f32) (f : BufTy.Contents (Elt Ideal) a.view.ty) (G : Vec Ideal S1x3x512 .f32) (p0 p1 p2 : Vec Ideal S1x1x512 .f32)
    (h0 : ∀ q, p0 (ix3 0 0 q) = G (ix3 0 0 q))
    (h1 : ∀ q, p1 (ix3 0 0 q) = G (ix3 0 1 q))
    (h2 : ∀ q, p2 (ix3 0 0 q) = G (ix3 0 2 q))
    : a.view.read (Elt Ideal) (a.view.writes (Elt Ideal) f [⟨(Rect.unit (s := S1x3x512) ![0, 2, 0] S1x1x512.size inb_S1x3x512_S1x1x512_0_2_0), p2⟩, ⟨(Rect.unit (s := S1x3x512) ![0, 1, 0] S1x1x512.size inb_S1x3x512_S1x1x512_0_1_0), p1⟩, ⟨(Rect.unit (s := S1x3x512) ![0, 0, 0] S1x1x512.size inb_S1x3x512_S1x1x512_0_0_0), p0⟩]) = G := by
  funext y
  refine View.read_writes_apply_of_pieces (v := a.view) (f := f) G _ ?_ y ?_
  · intro p hp
    rcases List.mem_cons.mp hp with rfl | hp
    · intro x
      have e : (Rect.unit (s := S1x3x512) ![0, 2, 0] S1x1x512.size inb_S1x3x512_S1x1x512_0_2_0).emb x = ix3 0 2 (x 2) := by
        have hx0 : (x 0).val < 1 := (x 0).isLt
        have hx1 : (x 1).val < 1 := (x 1).isLt
        funext k; refine Fin.ext ?_
        match k with
        | ⟨0, _⟩ => show 0 + 1 * (x 0).val = _; first | (show _ = 0; omega) | omega
        | ⟨1, _⟩ => show 2 + 1 * (x 1).val = _; first | (show _ = (x 1).val; omega) | (show _ = 2; omega)
        | ⟨2, _⟩ => show 0 + 1 * (x 2).val = (x 2).val; omega
      have ex : x = ix3 0 0 (x 2) := by
        have hx0 : (x 0).val < 1 := (x 0).isLt
        have hx1 : (x 1).val < 1 := (x 1).isLt
        funext k; refine Fin.ext ?_
        match k with
        | ⟨0, _⟩ => show (x 0).val = 0; omega
        | ⟨1, _⟩ => first | (show (x 1).val = (x 1).val; rfl) | (show (x 1).val = 0; omega)
        | ⟨2, _⟩ => rfl
      exact (congrArg p2 ex).trans ((h2 (x 2)).trans (congrArg G e).symm)
    rcases List.mem_cons.mp hp with rfl | hp
    · intro x
      have e : (Rect.unit (s := S1x3x512) ![0, 1, 0] S1x1x512.size inb_S1x3x512_S1x1x512_0_1_0).emb x = ix3 0 1 (x 2) := by
        have hx0 : (x 0).val < 1 := (x 0).isLt
        have hx1 : (x 1).val < 1 := (x 1).isLt
        funext k; refine Fin.ext ?_
        match k with
        | ⟨0, _⟩ => show 0 + 1 * (x 0).val = _; first | (show _ = 0; omega) | omega
        | ⟨1, _⟩ => show 1 + 1 * (x 1).val = _; first | (show _ = (x 1).val; omega) | (show _ = 1; omega)
        | ⟨2, _⟩ => show 0 + 1 * (x 2).val = (x 2).val; omega
      have ex : x = ix3 0 0 (x 2) := by
        have hx0 : (x 0).val < 1 := (x 0).isLt
        have hx1 : (x 1).val < 1 := (x 1).isLt
        funext k; refine Fin.ext ?_
        match k with
        | ⟨0, _⟩ => show (x 0).val = 0; omega
        | ⟨1, _⟩ => first | (show (x 1).val = (x 1).val; rfl) | (show (x 1).val = 0; omega)
        | ⟨2, _⟩ => rfl
      exact (congrArg p1 ex).trans ((h1 (x 2)).trans (congrArg G e).symm)
    rcases List.mem_cons.mp hp with rfl | hp
    · intro x
      have e : (Rect.unit (s := S1x3x512) ![0, 0, 0] S1x1x512.size inb_S1x3x512_S1x1x512_0_0_0).emb x = ix3 0 0 (x 2) := by
        have hx0 : (x 0).val < 1 := (x 0).isLt
        have hx1 : (x 1).val < 1 := (x 1).isLt
        funext k; refine Fin.ext ?_
        match k with
        | ⟨0, _⟩ => show 0 + 1 * (x 0).val = _; first | (show _ = 0; omega) | omega
        | ⟨1, _⟩ => show 0 + 1 * (x 1).val = _; first | (show _ = (x 1).val; omega) | (show _ = 0; omega)
        | ⟨2, _⟩ => show 0 + 1 * (x 2).val = (x 2).val; omega
      have ex : x = ix3 0 0 (x 2) := by
        have hx0 : (x 0).val < 1 := (x 0).isLt
        have hx1 : (x 1).val < 1 := (x 1).isLt
        funext k; refine Fin.ext ?_
        match k with
        | ⟨0, _⟩ => show (x 0).val = 0; omega
        | ⟨1, _⟩ => first | (show (x 1).val = (x 1).val; rfl) | (show (x 1).val = 0; omega)
        | ⟨2, _⟩ => rfl
      exact (congrArg p0 ex).trans ((h0 (x 2)).trans (congrArg G e).symm)
    nomatch hp
  · exact View.cover_of_tiled [⟨(Rect.unit (s := S1x3x512) ![0, 2, 0] S1x1x512.size inb_S1x3x512_S1x1x512_0_2_0), p2⟩, ⟨(Rect.unit (s := S1x3x512) ![0, 1, 0] S1x1x512.size inb_S1x3x512_S1x1x512_0_1_0), p1⟩, ⟨(Rect.unit (s := S1x3x512) ![0, 0, 0] S1x1x512.size inb_S1x3x512_S1x1x512_0_0_0), p0⟩] S1x1x512.size (by rfl) y

/-- Three row blocks stored into the result's block. -/
theorem rowsY_eq (a : Memref sig .tc .vmem S3x384x512 .bf16) (f : BufTy.Contents (Elt Ideal) a.view.ty) (G : Vec Ideal S3x384x512 .bf16) (p0 p1 p2 : Vec Ideal S1x384x512 .bf16)
    (h0 : ∀ r q, p0 (ix3 0 r q) = G (ix3 0 r q))
    (h1 : ∀ r q, p1 (ix3 0 r q) = G (ix3 1 r q))
    (h2 : ∀ r q, p2 (ix3 0 r q) = G (ix3 2 r q))
    : a.view.read (Elt Ideal) (a.view.writes (Elt Ideal) f [⟨(Rect.unit (s := S3x384x512) ![2, 0, 0] S1x384x512.size inb_S3x384x512_S1x384x512_2_0_0), p2⟩, ⟨(Rect.unit (s := S3x384x512) ![1, 0, 0] S1x384x512.size inb_S3x384x512_S1x384x512_1_0_0), p1⟩, ⟨(Rect.unit (s := S3x384x512) ![0, 0, 0] S1x384x512.size inb_S3x384x512_S1x384x512_0_0_0), p0⟩]) = G := by
  funext y
  refine View.read_writes_apply_of_pieces (v := a.view) (f := f) G _ ?_ y ?_
  · intro p hp
    rcases List.mem_cons.mp hp with rfl | hp
    · intro x
      have e : (Rect.unit (s := S3x384x512) ![2, 0, 0] S1x384x512.size inb_S3x384x512_S1x384x512_2_0_0).emb x = ix3 2 (x 1) (x 2) := by
        have hx0 : (x 0).val < 1 := (x 0).isLt
        have hx1 : (x 1).val < 384 := (x 1).isLt
        funext k; refine Fin.ext ?_
        match k with
        | ⟨0, _⟩ => show 2 + 1 * (x 0).val = _; first | (show _ = 2; omega) | omega
        | ⟨1, _⟩ => show 0 + 1 * (x 1).val = _; first | (show _ = (x 1).val; omega) | (show _ = 0; omega)
        | ⟨2, _⟩ => show 0 + 1 * (x 2).val = (x 2).val; omega
      have ex : x = ix3 0 (x 1) (x 2) := by
        have hx0 : (x 0).val < 1 := (x 0).isLt
        have hx1 : (x 1).val < 384 := (x 1).isLt
        funext k; refine Fin.ext ?_
        match k with
        | ⟨0, _⟩ => show (x 0).val = 0; omega
        | ⟨1, _⟩ => first | (show (x 1).val = (x 1).val; rfl) | (show (x 1).val = 0; omega)
        | ⟨2, _⟩ => rfl
      exact (congrArg p2 ex).trans ((h2 (x 1) (x 2)).trans (congrArg G e).symm)
    rcases List.mem_cons.mp hp with rfl | hp
    · intro x
      have e : (Rect.unit (s := S3x384x512) ![1, 0, 0] S1x384x512.size inb_S3x384x512_S1x384x512_1_0_0).emb x = ix3 1 (x 1) (x 2) := by
        have hx0 : (x 0).val < 1 := (x 0).isLt
        have hx1 : (x 1).val < 384 := (x 1).isLt
        funext k; refine Fin.ext ?_
        match k with
        | ⟨0, _⟩ => show 1 + 1 * (x 0).val = _; first | (show _ = 1; omega) | omega
        | ⟨1, _⟩ => show 0 + 1 * (x 1).val = _; first | (show _ = (x 1).val; omega) | (show _ = 0; omega)
        | ⟨2, _⟩ => show 0 + 1 * (x 2).val = (x 2).val; omega
      have ex : x = ix3 0 (x 1) (x 2) := by
        have hx0 : (x 0).val < 1 := (x 0).isLt
        have hx1 : (x 1).val < 384 := (x 1).isLt
        funext k; refine Fin.ext ?_
        match k with
        | ⟨0, _⟩ => show (x 0).val = 0; omega
        | ⟨1, _⟩ => first | (show (x 1).val = (x 1).val; rfl) | (show (x 1).val = 0; omega)
        | ⟨2, _⟩ => rfl
      exact (congrArg p1 ex).trans ((h1 (x 1) (x 2)).trans (congrArg G e).symm)
    rcases List.mem_cons.mp hp with rfl | hp
    · intro x
      have e : (Rect.unit (s := S3x384x512) ![0, 0, 0] S1x384x512.size inb_S3x384x512_S1x384x512_0_0_0).emb x = ix3 0 (x 1) (x 2) := by
        have hx0 : (x 0).val < 1 := (x 0).isLt
        have hx1 : (x 1).val < 384 := (x 1).isLt
        funext k; refine Fin.ext ?_
        match k with
        | ⟨0, _⟩ => show 0 + 1 * (x 0).val = _; first | (show _ = 0; omega) | omega
        | ⟨1, _⟩ => show 0 + 1 * (x 1).val = _; first | (show _ = (x 1).val; omega) | (show _ = 0; omega)
        | ⟨2, _⟩ => show 0 + 1 * (x 2).val = (x 2).val; omega
      have ex : x = ix3 0 (x 1) (x 2) := by
        have hx0 : (x 0).val < 1 := (x 0).isLt
        have hx1 : (x 1).val < 384 := (x 1).isLt
        funext k; refine Fin.ext ?_
        match k with
        | ⟨0, _⟩ => show (x 0).val = 0; omega
        | ⟨1, _⟩ => first | (show (x 1).val = (x 1).val; rfl) | (show (x 1).val = 0; omega)
        | ⟨2, _⟩ => rfl
      exact (congrArg p0 ex).trans ((h0 (x 1) (x 2)).trans (congrArg G e).symm)
    nomatch hp
  · exact View.cover_of_tiled [⟨(Rect.unit (s := S3x384x512) ![2, 0, 0] S1x384x512.size inb_S3x384x512_S1x384x512_2_0_0), p2⟩, ⟨(Rect.unit (s := S3x384x512) ![1, 0, 0] S1x384x512.size inb_S3x384x512_S1x384x512_1_0_0), p1⟩, ⟨(Rect.unit (s := S3x384x512) ![0, 0, 0] S1x384x512.size inb_S3x384x512_S1x384x512_0_0_0), p0⟩] S1x384x512.size (by rfl) y

/-- A load of row block 0 reads it. -/
theorem ldx0_eq (x : Vec Ideal S3x384x5120 .fp8e4m3) (r) (k) : View.ld x (Rect.unit (s := S3x384x5120) ![0, 0, 0] S1x384x5120.size inb_S3x384x5120_S1x384x5120_0_0_0) (ix3 0 r k) = x (ix3 0 r k) := by
  refine congrArg x ?_
  funext a; refine Fin.ext ?_
  match a with
  | ⟨0, _⟩ => rfl
  | ⟨1, _⟩ => show 0 + 1 * r.val = r.val; omega
  | ⟨2, _⟩ => show 0 + 1 * k.val = k.val; omega

/-- A load of row block 0 reads it. -/
theorem ldh0_eq (x : Vec Ideal S3x384x128 .f32) (r) (k) : View.ld x (Rect.unit (s := S3x384x128) ![0, 0, 0] S1x384x128.size inb_S3x384x128_S1x384x128_0_0_0) (ix3 0 r k) = x (ix3 0 r k) := by
  refine congrArg x ?_
  funext a; refine Fin.ext ?_
  match a with
  | ⟨0, _⟩ => rfl
  | ⟨1, _⟩ => show 0 + 1 * r.val = r.val; omega
  | ⟨2, _⟩ => show 0 + 1 * k.val = k.val; omega

/-- A load of row block 0 reads it. -/
theorem ldc0_eq (x : Vec Ideal S3x5120x512 .fp8e4m3) (r) (k) : View.ld x (Rect.unit (s := S3x5120x512) ![0, 0, 0] S1x5120x512.size inb_S3x5120x512_S1x5120x512_0_0_0) (ix3 0 r k) = x (ix3 0 r k) := by
  refine congrArg x ?_
  funext a; refine Fin.ext ?_
  match a with
  | ⟨0, _⟩ => rfl
  | ⟨1, _⟩ => show 0 + 1 * r.val = r.val; omega
  | ⟨2, _⟩ => show 0 + 1 * k.val = k.val; omega

/-- A load of row block 1 reads it. -/
theorem ldx1_eq (x : Vec Ideal S3x384x5120 .fp8e4m3) (r) (k) : View.ld x (Rect.unit (s := S3x384x5120) ![1, 0, 0] S1x384x5120.size inb_S3x384x5120_S1x384x5120_1_0_0) (ix3 0 r k) = x (ix3 1 r k) := by
  refine congrArg x ?_
  funext a; refine Fin.ext ?_
  match a with
  | ⟨0, _⟩ => rfl
  | ⟨1, _⟩ => show 0 + 1 * r.val = r.val; omega
  | ⟨2, _⟩ => show 0 + 1 * k.val = k.val; omega

/-- A load of row block 1 reads it. -/
theorem ldh1_eq (x : Vec Ideal S3x384x128 .f32) (r) (k) : View.ld x (Rect.unit (s := S3x384x128) ![1, 0, 0] S1x384x128.size inb_S3x384x128_S1x384x128_1_0_0) (ix3 0 r k) = x (ix3 1 r k) := by
  refine congrArg x ?_
  funext a; refine Fin.ext ?_
  match a with
  | ⟨0, _⟩ => rfl
  | ⟨1, _⟩ => show 0 + 1 * r.val = r.val; omega
  | ⟨2, _⟩ => show 0 + 1 * k.val = k.val; omega

/-- A load of row block 1 reads it. -/
theorem ldc1_eq (x : Vec Ideal S3x5120x512 .fp8e4m3) (r) (k) : View.ld x (Rect.unit (s := S3x5120x512) ![1, 0, 0] S1x5120x512.size inb_S3x5120x512_S1x5120x512_1_0_0) (ix3 0 r k) = x (ix3 1 r k) := by
  refine congrArg x ?_
  funext a; refine Fin.ext ?_
  match a with
  | ⟨0, _⟩ => rfl
  | ⟨1, _⟩ => show 0 + 1 * r.val = r.val; omega
  | ⟨2, _⟩ => show 0 + 1 * k.val = k.val; omega

/-- A load of row block 2 reads it. -/
theorem ldx2_eq (x : Vec Ideal S3x384x5120 .fp8e4m3) (r) (k) : View.ld x (Rect.unit (s := S3x384x5120) ![2, 0, 0] S1x384x5120.size inb_S3x384x5120_S1x384x5120_2_0_0) (ix3 0 r k) = x (ix3 2 r k) := by
  refine congrArg x ?_
  funext a; refine Fin.ext ?_
  match a with
  | ⟨0, _⟩ => rfl
  | ⟨1, _⟩ => show 0 + 1 * r.val = r.val; omega
  | ⟨2, _⟩ => show 0 + 1 * k.val = k.val; omega

/-- A load of row block 2 reads it. -/
theorem ldh2_eq (x : Vec Ideal S3x384x128 .f32) (r) (k) : View.ld x (Rect.unit (s := S3x384x128) ![2, 0, 0] S1x384x128.size inb_S3x384x128_S1x384x128_2_0_0) (ix3 0 r k) = x (ix3 2 r k) := by
  refine congrArg x ?_
  funext a; refine Fin.ext ?_
  match a with
  | ⟨0, _⟩ => rfl
  | ⟨1, _⟩ => show 0 + 1 * r.val = r.val; omega
  | ⟨2, _⟩ => show 0 + 1 * k.val = k.val; omega

/-- A load of row block 2 reads it. -/
theorem ldc2_eq (x : Vec Ideal S3x5120x512 .fp8e4m3) (r) (k) : View.ld x (Rect.unit (s := S3x5120x512) ![2, 0, 0] S1x5120x512.size inb_S3x5120x512_S1x5120x512_2_0_0) (ix3 0 r k) = x (ix3 2 r k) := by
  refine congrArg x ?_
  funext a; refine Fin.ext ?_
  match a with
  | ⟨0, _⟩ => rfl
  | ⟨1, _⟩ => show 0 + 1 * r.val = r.val; omega
  | ⟨2, _⟩ => show 0 + 1 * k.val = k.val; omega

/-- The quotient from the running maxima of row block 0. -/
theorem quot0_eq (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (x4 : Vec Ideal S5120x512 .fp8e4m3) (x5 : Vec Ideal S1x1x512 .f32) (U : Vec Ideal S3x5120x128 .f32) (q : Fin 512) : quot (amaxs (F := Ideal) c i arg1 harg1 arg2 harg2 arg3 harg3 arg4 harg4 arg5 harg5 arg6 harg6 arg7 harg7 arg8 harg8 arg9 harg9 arg10 harg10 arg11 harg11 arg12 harg12 x4 x5 U).1 q = quo U x4 x5 0 q := by
  unfold quot quo amaxs
  rw [ldv_eq, stMax0 c i arg1 harg1 arg2 harg2 arg3 harg3 arg4 harg4 arg5 harg5 arg6 harg6 arg7 harg7 arg8 harg8 arg9 harg9 arg10 harg10 arg11 harg11 arg12 harg12 U x4 x5 q]

/-- The quotient from the running maxima of row block 1. -/
theorem quot1_eq (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (x4 : Vec Ideal S5120x512 .fp8e4m3) (x5 : Vec Ideal S1x1x512 .f32) (U : Vec Ideal S3x5120x128 .f32) (q : Fin 512) : quot (amaxs (F := Ideal) c i arg1 harg1 arg2 harg2 arg3 harg3 arg4 harg4 arg5 harg5 arg6 harg6 arg7 harg7 arg8 harg8 arg9 harg9 arg10 harg10 arg11 harg11 arg12 harg12 x4 x5 U).2.1 q = quo U x4 x5 1 q := by
  unfold quot quo amaxs
  rw [ldv_eq, stMax1 c i arg1 harg1 arg2 harg2 arg3 harg3 arg4 harg4 arg5 harg5 arg6 harg6 arg7 harg7 arg8 harg8 arg9 harg9 arg10 harg10 arg11 harg11 arg12 harg12 U x4 x5 q]

/-- The quotient from the running maxima of row block 2. -/
theorem quot2_eq (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (x4 : Vec Ideal S5120x512 .fp8e4m3) (x5 : Vec Ideal S1x1x512 .f32) (U : Vec Ideal S3x5120x128 .f32) (q : Fin 512) : quot (amaxs (F := Ideal) c i arg1 harg1 arg2 harg2 arg3 harg3 arg4 harg4 arg5 harg5 arg6 harg6 arg7 harg7 arg8 harg8 arg9 harg9 arg10 harg10 arg11 harg11 arg12 harg12 x4 x5 U).2.2 q = quo U x4 x5 2 q := by
  unfold quot quo amaxs
  rw [ldv_eq, stMax2 c i arg1 harg1 arg2 harg2 arg3 harg3 arg4 harg4 arg5 harg5 arg6 harg6 arg7 harg7 arg8 harg8 arg9 harg9 arg10 harg10 arg11 harg11 arg12 harg12 U x4 x5 q]

/-- After the stores the scales' block holds the scales. -/
theorem sPieces_eq (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (x4 : Vec Ideal S5120x512 .fp8e4m3) (x5 : Vec Ideal S1x1x512 .f32) (U : Vec Ideal S3x5120x128 .f32) (f : BufTy.Contents (Elt Ideal) arg10.view.ty) :
    arg10.view.read (Elt Ideal) (arg10.view.writes (Elt Ideal) f (sPieces (F := Ideal) c i arg1 harg1 arg2 harg2 arg3 harg3 arg4 harg4 arg5 harg5 arg6 harg6 arg7 harg7 arg8 harg8 arg9 harg9 arg10 harg10 arg11 harg11 arg12 harg12 x4 x5 U)) = sv U x4 x5 := by
  unfold sPieces
  refine rowsS_eq arg10 f _ _ _ _ (fun q => ?_) (fun q => ?_) (fun q => ?_)
  · refine (row3_apply (k0_pay19 (amaxs (F := Ideal) c i arg1 harg1 arg2 harg2 arg3 harg3 arg4 harg4 arg5 harg5 arg6 harg6 arg7 harg7 arg8 harg8 arg9 harg9 arg10 harg10 arg11 harg11 arg12 harg12 x4 x5 U).1) q).trans ?_
    rw [pay19_eq, quot0_eq]; rfl
  · refine (row3_apply (k0_pay23 (amaxs (F := Ideal) c i arg1 harg1 arg2 harg2 arg3 harg3 arg4 harg4 arg5 harg5 arg6 harg6 arg7 harg7 arg8 harg8 arg9 harg9 arg10 harg10 arg11 harg11 arg12 harg12 x4 x5 U).2.1) q).trans ?_
    rw [pay23_eq, quot1_eq]; rfl
  · refine (row3_apply (k0_pay27 (amaxs (F := Ideal) c i arg1 harg1 arg2 harg2 arg3 harg3 arg4 harg4 arg5 harg5 arg6 harg6 arg7 harg7 arg8 harg8 arg9 harg9 arg10 harg10 arg11 harg11 arg12 harg12 x4 x5 U).2.2) q).trans ?_
    rw [pay27_eq, quot2_eq]; rfl

/-- After the stores the result's block holds the result. -/
theorem yPieces_eq (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (x0 : Vec Ideal S3x384x5120 .fp8e4m3) (x1 : Vec Ideal S3x384x128 .f32) (x4 : Vec Ideal S5120x512 .fp8e4m3) (x5 : Vec Ideal S1x1x512 .f32) (x6 : Vec Ideal S1x1x512 .f32) (U : Vec Ideal S3x5120x128 .f32) (P : Vec Ideal S16x5120 .bf16) (C : Vec Ideal S3x5120x512 .fp8e4m3) (f : BufTy.Contents (Elt Ideal) arg8.view.ty) :
    arg8.view.read (Elt Ideal) (arg8.view.writes (Elt Ideal) f (yPieces (F := Ideal) c i arg1 harg1 arg2 harg2 arg3 harg3 arg4 harg4 arg5 harg5 arg6 harg6 arg7 harg7 arg8 harg8 arg9 harg9 arg10 harg10 arg11 harg11 arg12 harg12 x0 x1 x4 x5 x6 U P C)) = yv x0 x1 x4 x5 x6 U P C := by
  unfold yPieces
  refine rowsY_eq arg8 f _ _ _ _ (fun r q => ?_) (fun r q => ?_) (fun r q => ?_)
  · rw [pay32_split, pay31_eq, pay19_eq, quot0_eq]
    refine congrArg₂ (· + ·) (congrArg₂ (· * ·) (congrArg₂ (· * ·) (Finset.sum_congr rfl fun k _ => congrArg₂ (· * ·) (ldx0_eq x0 r k) (ldc0_eq C k q)) (ldh0_eq x1 r 0)) rfl) ?_
    rw [ldv_eq x5, ldv_eq x6, ldw_eq, ldp_eq, pay10_apply]
    rfl
  · rw [pay33_eq, pay31_eq, pay23_eq, quot1_eq]
    refine congrArg₂ (· + ·) (congrArg₂ (· * ·) (congrArg₂ (· * ·) (Finset.sum_congr rfl fun k _ => congrArg₂ (· * ·) (ldx1_eq x0 r k) (ldc1_eq C k q)) (ldh1_eq x1 r 0)) rfl) ?_
    rw [ldv_eq x5, ldv_eq x6, ldw_eq, ldp_eq, pay10_apply]
    rfl
  · rw [pay34_eq, pay31_eq, pay27_eq, quot2_eq]
    refine congrArg₂ (· + ·) (congrArg₂ (· * ·) (congrArg₂ (· * ·) (Finset.sum_congr rfl fun k _ => congrArg₂ (· * ·) (ldx2_eq x0 r k) (ldc2_eq C k q)) (ldh2_eq x1 r 0)) rfl) ?_
    rw [ldv_eq x5, ldv_eq x6, ldw_eq, ldp_eq, pay10_apply]
    rfl

/-- After the last loop the codes' block holds the codes. -/
theorem cPieces_eq (c : Dev nD) (i : grid0.Coords) (arg1 : Memref sig .tc .vmem S3x384x5120 .fp8e4m3) (harg1 : arg1.IsWhole) (arg2 : Memref sig .tc .vmem S3x384x128 .f32) (harg2 : arg2.IsWhole) (arg3 : Memref sig .tc .vmem S3x5120 .f32) (harg3 : arg3.IsWhole) (arg4 : Memref sig .tc .vmem S3x5120 .f32) (harg4 : arg4.IsWhole) (arg5 : Memref sig .tc .vmem S5120x512 .fp8e4m3) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S3x384x512 .bf16) (harg8 : arg8.IsWhole) (arg9 : Memref sig .tc .vmem S3x5120x512 .fp8e4m3) (harg9 : arg9.IsWhole) (arg10 : Memref sig .tc .vmem S1x3x512 .f32) (harg10 : arg10.IsWhole) (arg11 : Memref sig .tc .vmem S3x5120x128 .f32) (harg11 : arg11.IsWhole) (arg12 : Memref sig .tc .vmem S16x5120 .bf16) (harg12 : arg12.IsWhole) (x4 : Vec Ideal S5120x512 .fp8e4m3) (x5 : Vec Ideal S1x1x512 .f32) (U : Vec Ideal S3x5120x128 .f32) (f : BufTy.Contents (Elt Ideal) arg9.view.ty) :
    arg9.view.read (Elt Ideal) (arg9.view.writes (Elt Ideal) f (cPieces (F := Ideal) c i arg1 harg1 arg2 harg2 arg3 harg3 arg4 harg4 arg5 harg5 arg6 harg6 arg7 harg7 arg8 harg8 arg9 harg9 arg10 harg10 arg11 harg11 arg12 harg12 x4 x5 U)) = cv U x4 x5 := by
  have h := codes_eq c i arg1 harg1 arg2 harg2 arg3 harg3 arg4 harg4 arg5 harg5 arg6 harg6 arg7 harg7 arg8 harg8 arg9 harg9 arg10 harg10 arg11 harg11 arg12 harg12 U x4 (k0_pay10 x5) (k0_pay19 (amaxs (F := Ideal) c i arg1 harg1 arg2 harg2 arg3 harg3 arg4 harg4 arg5 harg5 arg6 harg6 arg7 harg7 arg8 harg8 arg9 harg9 arg10 harg10 arg11 harg11 arg12 harg12 x4 x5 U).1) ![k0_pay20 (k0_pay10 x5) (k0_pay18 (amaxs (F := Ideal) c i arg1 harg1 arg2 harg2 arg3 harg3 arg4 harg4 arg5 harg5 arg6 harg6 arg7 harg7 arg8 harg8 arg9 harg9 arg10 harg10 arg11 harg11 arg12 harg12 x4 x5 U).1), k0_pay24 (k0_pay10 x5) (amaxs (F := Ideal) c i arg1 harg1 arg2 harg2 arg3 harg3 arg4 harg4 arg5 harg5 arg6 harg6 arg7 harg7 arg8 harg8 arg9 harg9 arg10 harg10 arg11 harg11 arg12 harg12 x4 x5 U).2.1, k0_pay28 (k0_pay10 x5) (amaxs (F := Ideal) c i arg1 harg1 arg2 harg2 arg3 harg3 arg4 harg4 arg5 harg5 arg6 harg6 arg7 harg7 arg8 harg8 arg9 harg9 arg10 harg10 arg11 harg11 arg12 harg12 x4 x5 U).2.2] f
  unfold cPieces
  rw [ldv_eq]
  refine Eq.trans h ?_
  funext y
  have hv : ∀ b : Fin 3, ∀ q, (![k0_pay20 (k0_pay10 x5) (k0_pay18 (amaxs (F := Ideal) c i arg1 harg1 arg2 harg2 arg3 harg3 arg4 harg4 arg5 harg5 arg6 harg6 arg7 harg7 arg8 harg8 arg9 harg9 arg10 harg10 arg11 harg11 arg12 harg12 x4 x5 U).1), k0_pay24 (k0_pay10 x5) (amaxs (F := Ideal) c i arg1 harg1 arg2 harg2 arg3 harg3 arg4 harg4 arg5 harg5 arg6 harg6 arg7 harg7 arg8 harg8 arg9 harg9 arg10 harg10 arg11 harg11 arg12 harg12 x4 x5 U).2.1, k0_pay28 (k0_pay10 x5) (amaxs (F := Ideal) c i arg1 harg1 arg2 harg2 arg3 harg3 arg4 harg4 arg5 harg5 arg6 harg6 arg7 harg7 arg8 harg8 arg9 harg9 arg10 harg10 arg11 harg11 arg12 harg12 x4 x5 U).2.2] : Fin 3 → FVec Ideal S1x512 .f32) b (ix2 0 q) = x5 (ix3 0 0 q) * Cert.Scale.inv (quo U x4 x5 b q) := by
    intro b q
    match b with
    | ⟨0, _⟩ => exact (pay20_eq _ _ q).trans (by rw [pay10_apply, quot0_eq]; rfl)
    | ⟨1, _⟩ => exact (pay24_eq _ _ q).trans (by rw [pay10_apply, quot1_eq]; rfl)
    | ⟨2, _⟩ => exact (pay28_eq _ _ q).trans (by rw [pay10_apply, quot2_eq]; rfl)
  exact congrArg (fun t => clip (U (ix3 (y 0) (y 1) (lane (y 2))) * (x4 (ix2 (y 1) (y 2)) * t))) (hv (y 0) (y 2))

end Cert.KernelIdeal.Gen
-- ==== Proof.KernelFrame.lean ====
/- The main kernel's pipeline over the extended reals with its outputs' contents named: what each window holds after each grid
   point, the body's triple at every point, and the run. -/
module
public import proofs.«01_k».proof.Proof.BlockValues
public import proofs.«01_k».proof.Proof.Gen.KernelIdeal.Frame
public import Idealize.ShloMosaic.Lib.Claim
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The grid's first point. -/
def p0 : Fin cfg0.N := ⟨0, by decide⟩

/-- The rows `1 + scale` the first point leaves in the first scratch buffer. -/
def Um (c : Dev nD) : Vec Ideal S3x5120x128 .f32 := rows (iblk m c 2 p0)
/-- The split shift the first point leaves in the second scratch buffer. -/
def Pm (c : Dev nD) : Vec Ideal S16x5120 .bf16 := k0_pay9 (iblk m c 3 p0)

/-- The codes' block after point `t`. -/
def Cm (c : Dev nD) (t : Fin cfg0.N) : Vec Ideal S3x5120x512 .fp8e4m3 := cv (Um m c) (iblk m c 4 t) (iblk m c 5 t)
/-- The scales' block after point `t`. -/
def Sm (c : Dev nD) (t : Fin cfg0.N) : Vec Ideal S1x3x512 .f32 := sv (Um m c) (iblk m c 4 t) (iblk m c 5 t)
/-- The result's block after point `t`. -/
def Ym (c : Dev nD) (t : Fin cfg0.N) : Vec Ideal S3x384x512 .bf16 :=
  yv (iblk m c 0 t) (iblk m c 1 t) (iblk m c 4 t) (iblk m c 5 t) (iblk m c 6 t) (Um m c) (Pm m c) (Cm m c t)

/-- What is true of the scratch before position `n`: anything before the first point, afterwards the rows and the split shift. -/
def PhiS (c : Dev nD) : (n : ℕ) → n ≤ cfg0.N → sProp 𝕄
  | 0, _ => Pipeline.ΦA spec0 c
  | n + 1, hn => iprop(iprop(owns (c : Thread nD τ) scM0_0 fullShare (Um m c) ∗ owns (c : Thread nD τ) scM0_1 fullShare (Pm m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (Um m c) ∗ owns (c : Thread nD τ) scM0_1 fullShare (Pm m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (Um m c) ∗ owns (c : Thread nD τ) scM0_1 fullShare (Pm m c)) ∗ (∃ r, prngReg c r)) := by
  cases n with
  | zero => exact absurd rfl hz
  | succ n => rfl

/-- The pipeline's proof data: each input's buffer keeps its block, the outputs hold the blocks named above. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Ym m c t
    | ⟨8, _⟩ => Cm m c t
    | ⟨9, _⟩ => Sm m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = Ym m c t := by dsimp only [dats]
theorem after0_8 (c : Dev nD) (t : Fin cfg0.N) : (dats m 0 c).after 8 t = Cm m c t := by dsimp only [dats]
theorem after0_9 (c : Dev nD) (t : Fin cfg0.N) : (dats m 0 c).after 9 t = Sm m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- One store over the whole second scratch buffer leaves the split shift. -/
theorem split_eq (x3 : Vec Ideal S3x5120 .f32) (a : Memref sig .tc .vmem S16x5120 .bf16) (f : BufTy.Contents (Elt Ideal) a.view.ty) :
    a.view.read (Elt Ideal) (a.view.writes (Elt Ideal) f [⟨(Rect.unit (s := S16x5120) ![0, 0] S16x5120.size inb_S16x5120_S16x5120_0_0), k0_pay9 (View.ld x3 (Rect.unit (s := S3x5120) ![0, 0] S3x5120.size inb_S3x5120_S3x5120_0_0))⟩]) = k0_pay9 x3 := by
  rw [lds_eq]
  generalize k0_pay9 x3 = w
  exact View.read_writes_full a.view f inb_S16x5120_S16x5120_0_0 w []

set_option maxHeartbeats 9600000 in
/-- The body at any point takes what it is called with to what it returns. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 30 := lt_of_lt_of_eq t.isLt (show cfg0.N = 30 from N_0)
  by_cases hz : t.val = 0
  · have h0 : t.val % 30 = 0 := by omega
    have ht : t = p0 := Fin.ext hz
    have hU : rows (iblk m c 2 t) = Um m c := by rw [ht]; rfl
    have hP : k0_pay9 (F := Ideal) (iblk m c 3 t) = Pm m c := by rw [ht]; rfl
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyA_spec (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 4 t) (iblk m c 5 t) (iblk m c 6 t) (Um m c) (Pm m c) (iblk m c 2 t) (iblk m c 3 t) (Ym m c t) (Cm m c t) (Sm m c t) (fun f => cPieces_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 4 t) (iblk m c 5 t) (Um m c) f) (fun f => sPieces_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 4 t) (iblk m c 5 t) (Um m c) f) (fun f => yPieces_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 4 t) (iblk m c 5 t) (iblk m c 6 t) (Um m c) (Pm m c) (Cm m c t) f) (fun f => (rows_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 2 t) f).trans hU) (fun f => (split_eq (iblk m c 3 t) scM0_1 f).trans hP) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have h0 : ¬t.val % 30 = 0 := by omega
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyB_spec (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 4 t) (iblk m c 5 t) (iblk m c 6 t) (Um m c) (Pm m c) (iblk m c 2 t) (iblk m c 3 t) (Ym m c t) (Cm m c t) (Sm m c t) (fun f => cPieces_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 4 t) (iblk m c 5 t) (Um m c) f) (fun f => sPieces_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 4 t) (iblk m c 5 t) (Um m c) f) (fun f => yPieces_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 4 t) (iblk m c 5 t) (iblk m c 6 t) (Um m c) (Pm m c) (Cm m c t) f) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 30 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The run: every final state has the pipeline's arrays as the proof data leave them, and every semaphore counter at zero. -/
theorem run_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they began, and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Gen

end
-- ==== Proof.KernelIn.lean ====
/- What the main kernel's input blocks hold, as entries of the argument arrays, and the split shift's rows. -/
module
public import proofs.«01_k».proof.Proof.KernelFrame
public import Idealize.ShloMosaic.Lib.Pipeline.Value
public import Idealize.ShloMosaic.Lib.Pointwise
public import Idealize.ShloMosaic.Lib.ValueIdx
@[expose] public section
set_option maxRecDepth 16384
noncomputable section
namespace Cert.KernelIdeal.Gen
open Idealize.ShloMosaic Idealize.ShloMosaic.TcCoe Idealize.SL.Sem

variable (m : (ℓ : Loc nD τ sig) → Buf (Elt Ideal) ℓ)

/-- Column `q` of block `t`, counted over the whole width. -/
def col (t : Fin cfg0.N) (q : Fin 512) : Fin 15360 := ⟨t.val * 512 + q.val, by have := t.isLt; have : cfg0.N = 30 := N_0; omega⟩
/-- A grid point as a block number. -/
def blkNo (t : Fin cfg0.N) : Fin 30 := ⟨t.val, lt_of_lt_of_eq t.isLt (show cfg0.N = 30 from N_0)⟩

theorem at0 : ∀ t : Fin cfg0.N, win0_0.index t (0 : Fin 3) = 0 ∧ win0_0.index t (1 : Fin 3) = 0 ∧ win0_0.index t (2 : Fin 3) = 0 :=
  (by decide +kernel : ∀ t : Fin grid0.N, _)
theorem at1 : ∀ t : Fin cfg0.N, win0_1.index t (0 : Fin 3) = 0 ∧ win0_1.index t (1 : Fin 3) = 0 ∧ win0_1.index t (2 : Fin 3) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = 0 ∧ win0_4.index t (1 : Fin 2) = t.val :=
  (by decide +kernel : ∀ t : Fin grid0.N, _)
theorem at5 : ∀ t : Fin cfg0.N, win0_5.index t (0 : Fin 3) = t.val ∧ win0_5.index t (1 : Fin 3) = 0 ∧ win0_5.index t (2 : Fin 3) = 0 :=
  (by decide +kernel : ∀ t : Fin grid0.N, _)
theorem at6 : ∀ t : Fin cfg0.N, win0_6.index t (0 : Fin 3) = t.val ∧ win0_6.index t (1 : Fin 3) = 0 ∧ win0_6.index t (2 : Fin 3) = 0 :=
  (by decide +kernel : ∀ t : Fin grid0.N, _)
theorem at7 : ∀ t : Fin cfg0.N, win0_7.index t (0 : Fin 3) = 0 ∧ win0_7.index t (1 : Fin 3) = 0 ∧ win0_7.index t (2 : Fin 3) = t.val :=
  (by decide +kernel : ∀ t : Fin grid0.N, _)
theorem at8 : ∀ t : Fin cfg0.N, win0_8.index t (0 : Fin 3) = 0 ∧ win0_8.index t (1 : Fin 3) = 0 ∧ win0_8.index t (2 : Fin 3) = t.val :=
  (by decide +kernel : ∀ t : Fin grid0.N, _)
theorem at9 : ∀ t : Fin cfg0.N, win0_9.index t (0 : Fin 3) = t.val ∧ win0_9.index t (1 : Fin 3) = 0 ∧ win0_9.index t (2 : Fin 3) = 0 :=
  (by decide +kernel : ∀ t : Fin grid0.N, _)

/-- A row of 15360 cut into 30 rows of 512, at an index. -/
theorem rows30 (x : Vec Ideal S15360 .f32) (t : Fin 30) (q : Fin 512) :
    shapeCast S30x1x512 x shapeCasts_S15360_S30x1x512 (ix3 t 0 q) = x (ix1 (⟨t.val * 512 + q.val, by omega⟩ : Fin 15360)) := by
  refine shapeCast_apply _ _ _ _ ?_
  simp [Shape.rowMajor_val_three, Shape.rowMajor_val_one]
/-- The array window 5 stages is the weight scales cut into 30 rows of 512. -/
theorem V_v0 (c : Dev nD) : V m c main_v0 = shapeCast S30x1x512 (m ((c : Thread nD τ).loc main_arg5) : Vec Ideal S15360 .f32) shapeCasts_S15360_S30x1x512 := rfl
/-- The array window 6 stages is the bias cut into 30 rows of 512. -/
theorem V_v1 (c : Dev nD) : V m c main_v1 = shapeCast S30x1x512 (m ((c : Thread nD τ).loc main_arg6) : Vec Ideal S15360 .f32) shapeCasts_S15360_S30x1x512 := rfl

theorem in0 (c : Dev nD) (t : Fin cfg0.N) (j : S3x384x5120.Idx) : (iblk m c 0 t : Vec Ideal S3x384x5120 .fp8e4m3) j = (m ((c : Thread nD τ).loc main_arg0) : Vec Ideal S3x384x5120 .fp8e4m3) j := by
  obtain ⟨e0, e1, e2⟩ := at0 t
  have h : ((cfg0.win 0).blk t).view.emb j = j := by
    funext a; apply Fin.ext
    match a with
    | ⟨0, _⟩ => show win0_0.index t (0 : Fin 3) * 3 + 1 * (j 0).val = (j 0).val; omega
    | ⟨1, _⟩ => show win0_0.index t (1 : Fin 3) * 384 + 1 * (j 1).val = (j 1).val; omega
    | ⟨2, _⟩ => show win0_0.index t (2 : Fin 3) * 5120 + 1 * (j 2).val = (j 2).val; omega
  show V m c main_arg0 (((cfg0.win 0).blk t).view.emb j) = _
  rw [h, V_main_arg0]
theorem in1 (c : Dev nD) (t : Fin cfg0.N) (j : S3x384x128.Idx) : (iblk m c 1 t : Vec Ideal S3x384x128 .f32) j = (m ((c : Thread nD τ).loc main_arg1) : Vec Ideal S3x384x128 .f32) j := by
  obtain ⟨e0, e1, e2⟩ := at1 t
  have h : ((cfg0.win 1).blk t).view.emb j = j := by
    funext a; apply Fin.ext
    match a with
    | ⟨0, _⟩ => show win0_1.index t (0 : Fin 3) * 3 + 1 * (j 0).val = (j 0).val; omega
    | ⟨1, _⟩ => show win0_1.index t (1 : Fin 3) * 384 + 1 * (j 1).val = (j 1).val; omega
    | ⟨2, _⟩ => show win0_1.index t (2 : Fin 3) * 128 + 1 * (j 2).val = (j 2).val; omega
  show V m c main_arg1 (((cfg0.win 1).blk t).view.emb j) = _
  rw [h, V_main_arg1]
theorem in2 (c : Dev nD) (t : Fin cfg0.N) (j : S3x5120.Idx) : (iblk m c 2 t : Vec Ideal S3x5120 .f32) j = (m ((c : Thread nD τ).loc main_arg2) : Vec Ideal S3x5120 .f32) j := by
  obtain ⟨e0, e1⟩ := at2 t
  have h : ((cfg0.win 2).blk t).view.emb j = j := by
    funext a; apply Fin.ext
    match a with
    | ⟨0, _⟩ => show win0_2.index t (0 : Fin 2) * 3 + 1 * (j 0).val = (j 0).val; omega
    | ⟨1, _⟩ => show win0_2.index t (1 : Fin 2) * 5120 + 1 * (j 1).val = (j 1).val; omega
  show V m c main_arg2 (((cfg0.win 2).blk t).view.emb j) = _
  rw [h, V_main_arg2]
theorem in3 (c : Dev nD) (t : Fin cfg0.N) (j : S3x5120.Idx) : (iblk m c 3 t : Vec Ideal S3x5120 .f32) j = (m ((c : Thread nD τ).loc main_arg3) : Vec Ideal S3x5120 .f32) j := by
  obtain ⟨e0, e1⟩ := at3 t
  have h : ((cfg0.win 3).blk t).view.emb j = j := by
    funext a; apply Fin.ext
    match a with
    | ⟨0, _⟩ => show win0_3.index t (0 : Fin 2) * 3 + 1 * (j 0).val = (j 0).val; omega
    | ⟨1, _⟩ => show win0_3.index t (1 : Fin 2) * 5120 + 1 * (j 1).val = (j 1).val; omega
  show V m c main_arg3 (((cfg0.win 3).blk t).view.emb j) = _
  rw [h, V_main_arg3]
theorem in4 (c : Dev nD) (t : Fin cfg0.N) (k : Fin 5120) (q : Fin 512) : (iblk m c 4 t : Vec Ideal S5120x512 .fp8e4m3) (ix2 k q) = (m ((c : Thread nD τ).loc main_arg4) : Vec Ideal S5120x15360 .fp8e4m3) (ix2 k (col t q)) := by
  obtain ⟨e0, e1⟩ := at4 t
  have h : ((cfg0.win 4).blk t).view.emb (ix2 k q : S5120x512.Idx) = (ix2 k (col t q) : S5120x15360.Idx) := by
    funext a; apply Fin.ext
    match a with
    | ⟨0, _⟩ => show win0_4.index t (0 : Fin 2) * 5120 + 1 * k.val = k.val; omega
    | ⟨1, _⟩ => show win0_4.index t (1 : Fin 2) * 512 + 1 * q.val = t.val * 512 + q.val; omega
  show V m c main_arg4 (((cfg0.win 4).blk t).view.emb (ix2 k q : S5120x512.Idx)) = _
  rw [h, V_main_arg4]
theorem in5 (c : Dev nD) (t : Fin cfg0.N) (q : Fin 512) : (iblk m c 5 t : Vec Ideal S1x1x512 .f32) (ix3 0 0 q) = (m ((c : Thread nD τ).loc main_arg5) : Vec Ideal S15360 .f32) (ix1 (col t q)) := by
  obtain ⟨e0, e1, e2⟩ := at5 t
  have h : ((cfg0.win 5).blk t).view.emb (ix3 0 0 q : S1x1x512.Idx) = (ix3 (blkNo t) 0 q : S30x1x512.Idx) := by
    funext a; apply Fin.ext
    match a with
    | ⟨0, _⟩ => show win0_5.index t (0 : Fin 3) * 1 + 1 * 0 = t.val; omega
    | ⟨1, _⟩ => show win0_5.index t (1 : Fin 3) * 1 + 1 * 0 = 0; omega
    | ⟨2, _⟩ => show win0_5.index t (2 : Fin 3) * 512 + 1 * q.val = q.val; omega
  show V m c main_v0 (((cfg0.win 5).blk t).view.emb (ix3 0 0 q : S1x1x512.Idx)) = _
  rw [h, V_v0]
  exact rows30 _ (blkNo t) q
theorem in6 (c : Dev nD) (t : Fin cfg0.N) (q : Fin 512) : (iblk m c 6 t : Vec Ideal S1x1x512 .f32) (ix3 0 0 q) = (m ((c : Thread nD τ).loc main_arg6) : Vec Ideal S15360 .f32) (ix1 (col t q)) := by
  obtain ⟨e0, e1, e2⟩ := at6 t
  have h : ((cfg0.win 6).blk t).view.emb (ix3 0 0 q : S1x1x512.Idx) = (ix3 (blkNo t) 0 q : S30x1x512.Idx) := by
    funext a; apply Fin.ext
    match a with
    | ⟨0, _⟩ => show win0_6.index t (0 : Fin 3) * 1 + 1 * 0 = t.val; omega
    | ⟨1, _⟩ => show win0_6.index t (1 : Fin 3) * 1 + 1 * 0 = 0; omega
    | ⟨2, _⟩ => show win0_6.index t (2 : Fin 3) * 512 + 1 * q.val = q.val; omega
  show V m c main_v1 (((cfg0.win 6).blk t).view.emb (ix3 0 0 q : S1x1x512.Idx)) = _
  rw [h, V_v1]
  exact rows30 _ (blkNo t) q

/-- Where block `t` of the result lies in the result. -/
theorem out7 (t : Fin cfg0.N) (b : Fin 3) (r : Fin 384) (q : Fin 512) : ((cfg0.win 7).blk t).view.emb (ix3 b r q : S3x384x512.Idx) = (ix3 b r (col t q) : S3x384x15360.Idx) := by
  obtain ⟨e0, e1, e2⟩ := at7 t
  funext a; apply Fin.ext
  match a with
  | ⟨0, _⟩ => show win0_7.index t (0 : Fin 3) * 3 + 1 * b.val = b.val; omega
  | ⟨1, _⟩ => show win0_7.index t (1 : Fin 3) * 384 + 1 * r.val = r.val; omega
  | ⟨2, _⟩ => show win0_7.index t (2 : Fin 3) * 512 + 1 * q.val = t.val * 512 + q.val; omega
/-- Where block `t` of the codes lies in the codes. -/
theorem out8 (t : Fin cfg0.N) (b : Fin 3) (k : Fin 5120) (q : Fin 512) : ((cfg0.win 8).blk t).view.emb (ix3 b k q : S3x5120x512.Idx) = (ix3 b k (col t q) : S3x5120x15360.Idx) := by
  obtain ⟨e0, e1, e2⟩ := at8 t
  funext a; apply Fin.ext
  match a with
  | ⟨0, _⟩ => show win0_8.index t (0 : Fin 3) * 3 + 1 * b.val = b.val; omega
  | ⟨1, _⟩ => show win0_8.index t (1 : Fin 3) * 5120 + 1 * k.val = k.val; omega
  | ⟨2, _⟩ => show win0_8.index t (2 : Fin 3) * 512 + 1 * q.val = t.val * 512 + q.val; omega
/-- Where block `t` of the scales lies in the scales. -/
theorem out9 (t : Fin cfg0.N) (b : Fin 3) (q : Fin 512) : ((cfg0.win 9).blk t).view.emb (ix3 0 b q : S1x3x512.Idx) = (ix3 (blkNo t) b q : S30x3x512.Idx) := by
  obtain ⟨e0, e1, e2⟩ := at9 t
  funext a; apply Fin.ext
  match a with
  | ⟨0, _⟩ => show win0_9.index t (0 : Fin 3) * 1 + 1 * 0 = t.val; omega
  | ⟨1, _⟩ => show win0_9.index t (1 : Fin 3) * 3 + 1 * b.val = b.val; omega
  | ⟨2, _⟩ => show win0_9.index t (2 : Fin 3) * 512 + 1 * q.val = q.val; omega

/-- The block and the column within it of a column of the whole width. -/
theorem col_split (n : Fin 15360) : ∃ t : Fin cfg0.N, ∃ q : Fin 512, n = col t q :=
  ⟨⟨n.val / 512, by show n.val / 512 < grid0.N; rw [N_0]; omega⟩, ⟨n.val % 512, by omega⟩, Fin.ext (by show n.val = n.val / 512 * 512 + n.val % 512; omega)⟩

theorem covered7 (i : S3x384x15360.Idx) : ∃ t : Fin cfg0.N, (cfg0.win 7).flush t = true ∧ i ∈ ((cfg0.win 7).blk t).view.set := by
  obtain ⟨t, q, h⟩ := col_split (i 2)
  refine ⟨t, flush0_7 t, ?_⟩
  have h' := ((cfg0.win 7).blk t).view.emb_mem_set (ix3 (i 0) (i 1) q : S3x384x512.Idx)
  rw [out7 t (i 0) (i 1) q, ← h] at h'
  rwa [← eq_ix3 i] at h'
theorem covered8 (i : S3x5120x15360.Idx) : ∃ t : Fin cfg0.N, (cfg0.win 8).flush t = true ∧ i ∈ ((cfg0.win 8).blk t).view.set := by
  obtain ⟨t, q, h⟩ := col_split (i 2)
  refine ⟨t, flush0_8 t, ?_⟩
  have h' := ((cfg0.win 8).blk t).view.emb_mem_set (ix3 (i 0) (i 1) q : S3x5120x512.Idx)
  rw [out8 t (i 0) (i 1) q, ← h] at h'
  rwa [← eq_ix3 i] at h'
theorem covered9 (i : S30x3x512.Idx) : ∃ t : Fin cfg0.N, (cfg0.win 9).flush t = true ∧ i ∈ ((cfg0.win 9).blk t).view.set := by
  let t : Fin cfg0.N := ⟨(i 0).val, by show (i 0).val < grid0.N; rw [N_0]; exact (i 0).isLt⟩
  refine ⟨t, flush0_9 t, ?_⟩
  have h' := ((cfg0.win 9).blk t).view.emb_mem_set (ix3 0 (i 1) (i 2) : S1x3x512.Idx)
  rw [out9 t (i 1) (i 2)] at h'
  have e : (ix3 (blkNo t) (i 1) (i 2) : S30x3x512.Idx) = i := (eq_ix3 i).symm
  rwa [e] at h'

/-- Three triples of rows and seven more stacked, read at a row of the first, second or third triple. -/
theorem stack0 (x y z : FVec Ideal S3x5120 .bf16) (w : FVec Ideal S7x5120 .bf16) (b : Fin 3) (k : Fin 5120) :
    concatenate S16x5120 0 [⟨S3x5120, x⟩, ⟨S3x5120, y⟩, ⟨S3x5120, z⟩, ⟨S7x5120, w⟩] concatenates_S3x5120_S3x5120_S3x5120_S7x5120_S16x5120_d0 (ix2 (⟨b.val, by omega⟩ : Fin 16) k) = x (ix2 b k) := by
  refine concatenate_apply_piece (α := Ideal .bf16) (t := S16x5120) (0 : Fin S16x5120.rank) [⟨S3x5120, x⟩, ⟨S3x5120, y⟩, ⟨S3x5120, z⟩, ⟨S7x5120, w⟩] concatenates_S3x5120_S3x5120_S3x5120_S7x5120_S16x5120_d0 (ix2 (⟨b.val, by omega⟩ : Fin 16) k) 0 (by show 0 < 4; decide) S3x5120 x rfl rfl 0 rfl (ix2 b k) (fun a ha => ?_) ?_
  · match a with
    | ⟨0, _⟩ => exact absurd rfl ha
    | ⟨1, _⟩ => rfl
  · show 0 + b.val = b.val; omega
theorem stack1 (x y z : FVec Ideal S3x5120 .bf16) (w : FVec Ideal S7x5120 .bf16) (b : Fin 3) (k : Fin 5120) :
    concatenate S16x5120 0 [⟨S3x5120, x⟩, ⟨S3x5120, y⟩, ⟨S3x5120, z⟩, ⟨S7x5120, w⟩] concatenates_S3x5120_S3x5120_S3x5120_S7x5120_S16x5120_d0 (ix2 (⟨b.val + 3, by omega⟩ : Fin 16) k) = y (ix2 b k) := by
  refine concatenate_apply_piece (α := Ideal .bf16) (t := S16x5120) (0 : Fin S16x5120.rank) [⟨S3x5120, x⟩, ⟨S3x5120, y⟩, ⟨S3x5120, z⟩, ⟨S7x5120, w⟩] concatenates_S3x5120_S3x5120_S3x5120_S7x5120_S16x5120_d0 (ix2 (⟨b.val + 3, by omega⟩ : Fin 16) k) 1 (by show 1 < 4; decide) S3x5120 y rfl rfl 3 rfl (ix2 b k) (fun a ha => ?_) ?_
  · match a with
    | ⟨0, _⟩ => exact absurd rfl ha
    | ⟨1, _⟩ => rfl
  · show 3 + b.val = b.val + 3; omega
theorem stack2 (x y z : FVec Ideal S3x5120 .bf16) (w : FVec Ideal S7x5120 .bf16) (b : Fin 3) (k : Fin 5120) :
    concatenate S16x5120 0 [⟨S3x5120, x⟩, ⟨S3x5120, y⟩, ⟨S3x5120, z⟩, ⟨S7x5120, w⟩] concatenates_S3x5120_S3x5120_S3x5120_S7x5120_S16x5120_d0 (ix2 (⟨b.val + 6, by omega⟩ : Fin 16) k) = z (ix2 b k) := by
  refine concatenate_apply_piece (α := Ideal .bf16) (t := S16x5120) (0 : Fin S16x5120.rank) [⟨S3x5120, x⟩, ⟨S3x5120, y⟩, ⟨S3x5120, z⟩, ⟨S7x5120, w⟩] concatenates_S3x5120_S3x5120_S3x5120_S7x5120_S16x5120_d0 (ix2 (⟨b.val + 6, by omega⟩ : Fin 16) k) 2 (by show 2 < 4; decide) S3x5120 z rfl rfl 6 rfl (ix2 b k) (fun a ha => ?_) ?_
  · match a with
    | ⟨0, _⟩ => exact absurd rfl ha
    | ⟨1, _⟩ => rfl
  · show 6 + b.val = b.val + 6; omega
/-- A row of the split shift's first triple is the shift. -/
theorem pay9_hi (x3 : Vec Ideal S3x5120 .f32) (b : Fin 3) (k : Fin 5120) : k0_pay9 x3 (ix2 (⟨b.val, by omega⟩ : Fin 16) k) = x3 (ix2 b k) := by
  unfold k0_pay9
  rw [shapeCast_self]
  exact stack0 _ _ _ _ b k
/-- A row of its second triple is the shift less itself. -/
theorem pay9_mid (x3 : Vec Ideal S3x5120 .f32) (b : Fin 3) (k : Fin 5120) : k0_pay9 x3 (ix2 (⟨b.val + 3, by omega⟩ : Fin 16) k) = x3 (ix2 b k) - x3 (ix2 b k) := by
  unfold k0_pay9
  rw [shapeCast_self]
  exact stack1 _ _ _ _ b k
/-- A row of its third triple is that less itself. -/
theorem pay9_lo (x3 : Vec Ideal S3x5120 .f32) (b : Fin 3) (k : Fin 5120) : k0_pay9 x3 (ix2 (⟨b.val + 6, by omega⟩ : Fin 16) k) = (x3 (ix2 b k) - x3 (ix2 b k)) - (x3 (ix2 b k) - x3 (ix2 b k)) := by
  unfold k0_pay9
  rw [shapeCast_self]
  exact stack2 _ _ _ _ b k

end Cert.KernelIdeal.Gen
end
-- ==== Proof.RefRun.lean ====
/- The run of the main reference with its three results named: the array each window leaves is the body's
   payload of the argument arrays, the grid having one point and every window's block being its whole array. -/
module

public import proofs.«01_k».proof.Proof.Gen.ReferenceIdeal.Frame
public import Idealize.ShloMosaic.Lib.Pipeline.Value

@[expose] public section

noncomputable section

namespace Cert.ReferenceIdeal.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t) (iblk m c 6 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S3x384x15360.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t) (iblk m c 6 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S3x5120x15360.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t) (iblk m c 6 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S30x3x512.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_2) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c,
      post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S3x384x5120.Idx) : ((cfg0.win 0).blk t).view.emb j = j := by
  obtain ⟨e0, e1, e2⟩ := idx_zero0 t
  funext a; apply Fin.ext
  match a with
  | ⟨0, _⟩ => show win0_0.index t (0 : Fin 3) * 3 + 1 * (j 0).val = (j 0).val; omega
  | ⟨1, _⟩ => show win0_0.index t (1 : Fin 3) * 384 + 1 * (j 1).val = (j 1).val; omega
  | ⟨2, _⟩ => show win0_0.index t (2 : Fin 3) * 5120 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S3x384x128.Idx) : ((cfg0.win 1).blk t).view.emb j = j := by
  obtain ⟨e0, e1, e2⟩ := idx_zero1 t
  funext a; apply Fin.ext
  match a with
  | ⟨0, _⟩ => show win0_1.index t (0 : Fin 3) * 3 + 1 * (j 0).val = (j 0).val; omega
  | ⟨1, _⟩ => show win0_1.index t (1 : Fin 3) * 384 + 1 * (j 1).val = (j 1).val; omega
  | ⟨2, _⟩ => show win0_1.index t (2 : Fin 3) * 128 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S3x5120.Idx) : ((cfg0.win 2).blk t).view.emb j = j := by
  obtain ⟨e0, e1⟩ := idx_zero2 t
  funext a; apply Fin.ext
  match a with
  | ⟨0, _⟩ => show win0_2.index t (0 : Fin 2) * 3 + 1 * (j 0).val = (j 0).val; omega
  | ⟨1, _⟩ => show win0_2.index t (1 : Fin 2) * 5120 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S3x5120.Idx) : ((cfg0.win 3).blk t).view.emb j = j := by
  obtain ⟨e0, e1⟩ := idx_zero3 t
  funext a; apply Fin.ext
  match a with
  | ⟨0, _⟩ => show win0_3.index t (0 : Fin 2) * 3 + 1 * (j 0).val = (j 0).val; omega
  | ⟨1, _⟩ => show win0_3.index t (1 : Fin 2) * 5120 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S5120x15360.Idx) : ((cfg0.win 4).blk t).view.emb j = j := by
  obtain ⟨e0, e1⟩ := idx_zero4 t
  funext a; apply Fin.ext
  match a with
  | ⟨0, _⟩ => show win0_4.index t (0 : Fin 2) * 5120 + 1 * (j 0).val = (j 0).val; omega
  | ⟨1, _⟩ => show win0_4.index t (1 : Fin 2) * 15360 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S15360.Idx) : ((cfg0.win 5).blk t).view.emb j = j := by
  have e0 := idx_zero5 t
  funext a; apply Fin.ext
  match a with
  | ⟨0, _⟩ => show win0_5.index t (0 : Fin 1) * 15360 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S15360.Idx) : ((cfg0.win 6).blk t).view.emb j = j := by
  have e0 := idx_zero6 t
  funext a; apply Fin.ext
  match a with
  | ⟨0, _⟩ => show win0_6.index t (0 : Fin 1) * 15360 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S3x384x15360.Idx) : ((cfg0.win 7).blk t).view.emb j = j := by
  obtain ⟨e0, e1, e2⟩ := idx_zero7 t
  funext a; apply Fin.ext
  match a with
  | ⟨0, _⟩ => show win0_7.index t (0 : Fin 3) * 3 + 1 * (j 0).val = (j 0).val; omega
  | ⟨1, _⟩ => show win0_7.index t (1 : Fin 3) * 384 + 1 * (j 1).val = (j 1).val; omega
  | ⟨2, _⟩ => show win0_7.index t (2 : Fin 3) * 15360 + 1 * (j 2).val = (j 2).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S3x5120x15360.Idx) : ((cfg0.win 8).blk t).view.emb j = j := by
  obtain ⟨e0, e1, e2⟩ := idx_zero8 t
  funext a; apply Fin.ext
  match a with
  | ⟨0, _⟩ => show win0_8.index t (0 : Fin 3) * 3 + 1 * (j 0).val = (j 0).val; omega
  | ⟨1, _⟩ => show win0_8.index t (1 : Fin 3) * 5120 + 1 * (j 1).val = (j 1).val; omega
  | ⟨2, _⟩ => show win0_8.index t (2 : Fin 3) * 15360 + 1 * (j 2).val = (j 2).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S30x3x512.Idx) : ((cfg0.win 9).blk t).view.emb j = j := by
  obtain ⟨e0, e1, e2⟩ := idx_zero9 t
  funext a; apply Fin.ext
  match a with
  | ⟨0, _⟩ => show win0_9.index t (0 : Fin 3) * 30 + 1 * (j 0).val = (j 0).val; omega
  | ⟨1, _⟩ => show win0_9.index t (1 : Fin 3) * 3 + 1 * (j 1).val = (j 1).val; omega
  | ⟨2, _⟩ => show win0_9.index t (2 : Fin 3) * 512 + 1 * (j 2).val = (j 2).val; omega

/-! ### Output window 7: the array after the run -/

/-- What the window's array ends holding: `out0_7` applied to the argument arrays in place of the input blocks (a value that the
    frame states apart, `kK_payN a…`, keeps its loads inside its own definition). -/
abbrev G7 (a0 : Vec F S3x384x5120 .fp8e4m3) (a1 : Vec F S3x384x128 .f32) (a2 : Vec F S3x5120 .f32) (a3 : Vec F S3x5120 .f32) (a4 : Vec F S5120x15360 .fp8e4m3) (a5 : Vec F S15360 .f32) (a6 : Vec F S15360 .f32) : Vec F S3x384x15360 .bf16 :=
  k0_pay2 (k0_pay4 a1) a5 (k0_pay5 a4) (k0_pay9 a0 a1 a2 a3 a4 a5 a6) (k0_pay10 a0 a1 a2 a3 a4 a5 a6) (Scalar.ofBits .f32 0xC3E00000#32) (Scalar.ofBits .f32 0x43E00000#32) a0 a3 a6

/-- A load of the whole of a block reads the block, and the one store through the whole rectangle leaves its payload. -/
theorem out7_eq (a0 : Vec F S3x384x5120 .fp8e4m3) (a1 : Vec F S3x384x128 .f32) (a2 : Vec F S3x5120 .f32) (a3 : Vec F S3x5120 .f32) (a4 : Vec F S5120x15360 .fp8e4m3) (a5 : Vec F S15360 .f32) (a6 : Vec F S15360 .f32) : out0_7 (F := F) a0 a1 a2 a3 a4 a5 a6 = G7 a0 a1 a2 a3 a4 a5 a6 := by
  unfold out0_7
  rw [View.canon_unit_zero hz7, View.ld_unit_zero (S := S3x384x128) hz1 _ a1, View.ld_unit_zero (S := S15360) hz5 _ a5, View.ld_unit_zero (S := S5120x15360) hz4 _ a4, View.ld_unit_zero (S := S3x384x5120) hz0 _ a0, View.ld_unit_zero (S := S3x5120) hz3 _ a3, View.ld_unit_zero (S := S15360) hz6 _ a6]

/-- Cutting the point's block out of `X` and reading `X` through the block's view give the same. -/
theorem cut7_eq (t : Fin cfg0.N) (X : Vec F S3x384x15360 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5) (V m c main_arg6)) := by
  show (cfg0.win 7).cut (grid0.coords t) ((dats m 0 c).after 7 t) = _
  rw [after0_7, out7_eq, iblk0_eq, iblk1_eq, iblk2_eq, iblk3_eq, iblk4_eq, iblk5_eq, iblk6_eq]
  exact cut7_eq t _

/-- Every index of the array is in the point's block. -/
theorem covered7 (i : S3x384x15360.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 7 (G7 (V m c main_arg0) (V m c main_arg1) (V m c main_arg2) (V m c main_arg3) (V m c main_arg4) (V m c main_arg5) (V m c main_arg6)) (fun t _ => flushed7_eq m c t) covered7).trans (by rw [V_main_arg0, V_main_arg1, V_main_arg2, V_main_arg3, V_main_arg4, V_main_arg5, V_main_arg6])

/-! ### Output window 8: the array after the run -/

/-- What the window's array ends holding: `out0_8` applied to the argument arrays in place of the input blocks (a value that the
    frame states apart, `kK_payN a…`, keeps its loads inside its own definition). -/
abbrev G8 (a0 : Vec F S3x384x5120 .fp8e4m3) (a1 : Vec F S3x384x128 .f32) (a2 : Vec F S3x5120 .f32) (a3 : Vec F S3x5120 .f32) (a4 : Vec F S5120x15360 .fp8e4m3) (a5 : Vec F S15360 .f32) (a6 : Vec F S15360 .f32) : Vec F S3x5120x15360 .fp8e4m3 :=
  k0_pay1 (k0_pay10 a0 a1 a2 a3 a4 a5 a6) (Scalar.ofBits .f32 0xC3E00000#32) (Scalar.ofBits .f32 0x43E00000#32)

/-- The one store through the whole rectangle leaves its payload. -/
theorem out8_eq (a0 : Vec F S3x384x5120 .fp8e4m3) (a1 : Vec F S3x384x128 .f32) (a2 : Vec F S3x5120 .f32) (a3 : Vec F S3x5120 .f32) (a4 : Vec F S5120x15360 .fp8e4m3) (a5 : Vec F S15360 .f32) (a6 : Vec F S15360 .f32) : out0_8 (F := F) a0 a1 a2 a3 a4 a5 a6 = G8 a0 a1 a2 a3 a4 a5 a6 := by
  unfold out0_8
  rw [View.canon_unit_zero hz8]

/-- Cutting the point's block out of `X` and reading `X` through the block's view give the same. -/
theorem cut8_eq (t : Fin cfg0.N) (X : Vec F S3x5120x15360 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5) (V m c main_arg6)) := by
  show (cfg0.win 8).cut (grid0.coords t) ((dats m 0 c).after 8 t) = _
  rw [after0_8, out8_eq, iblk0_eq, iblk1_eq, iblk2_eq, iblk3_eq, iblk4_eq, iblk5_eq, iblk6_eq]
  exact cut8_eq t _

/-- Every index of the array is in the point's block. -/
theorem covered8 (i : S3x5120x15360.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 8 (G8 (V m c main_arg0) (V m c main_arg1) (V m c main_arg2) (V m c main_arg3) (V m c main_arg4) (V m c main_arg5) (V m c main_arg6)) (fun t _ => flushed8_eq m c t) covered8).trans (by rw [V_main_arg0, V_main_arg1, V_main_arg2, V_main_arg3, V_main_arg4, V_main_arg5, V_main_arg6])

/-! ### Output window 9: the array after the run -/

/-- What the window's array ends holding: `out0_9` applied to the argument arrays in place of the input blocks (a value that the
    frame states apart, `kK_payN a…`, keeps its loads inside its own definition). -/
abbrev G9 (a0 : Vec F S3x384x5120 .fp8e4m3) (a1 : Vec F S3x384x128 .f32) (a2 : Vec F S3x5120 .f32) (a3 : Vec F S3x5120 .f32) (a4 : Vec F S5120x15360 .fp8e4m3) (a5 : Vec F S15360 .f32) (a6 : Vec F S15360 .f32) : Vec F S30x3x512 .f32 :=
  k0_pay3 (k0_pay9 a0 a1 a2 a3 a4 a5 a6)

/-- The one store through the whole rectangle leaves its payload. -/
theorem out9_eq (a0 : Vec F S3x384x5120 .fp8e4m3) (a1 : Vec F S3x384x128 .f32) (a2 : Vec F S3x5120 .f32) (a3 : Vec F S3x5120 .f32) (a4 : Vec F S5120x15360 .fp8e4m3) (a5 : Vec F S15360 .f32) (a6 : Vec F S15360 .f32) : out0_9 (F := F) a0 a1 a2 a3 a4 a5 a6 = G9 a0 a1 a2 a3 a4 a5 a6 := by
  unfold out0_9
  rw [View.canon_unit_zero hz9]

/-- Cutting the point's block out of `X` and reading `X` through the block's view give the same. -/
theorem cut9_eq (t : Fin cfg0.N) (X : Vec F S30x3x512 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5) (V m c main_arg6)) := by
  show (cfg0.win 9).cut (grid0.coords t) ((dats m 0 c).after 9 t) = _
  rw [after0_9, out9_eq, iblk0_eq, iblk1_eq, iblk2_eq, iblk3_eq, iblk4_eq, iblk5_eq, iblk6_eq]
  exact cut9_eq t _

/-- Every index of the array is in the point's block. -/
theorem covered9 (i : S30x3x512.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((dats m 0 c).arrAt_eq_of_cover 9 (G9 (V m c main_arg0) (V m c main_arg1) (V m c main_arg2) (V m c main_arg3) (V m c main_arg4) (V m c main_arg5) (V m c main_arg6)) (fun t _ => flushed9_eq m c t) covered9).trans (by rw [V_main_arg0, V_main_arg1, V_main_arg2, V_main_arg3, V_main_arg4, V_main_arg5, V_main_arg6])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_2) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.RefRun

end
-- ==== Proof.RefValues.lean ====
/- The reference of the main kernel, read at an index: modulated weights, column maxima, scales, codes and result. -/
module
public import proofs.«01_k».proof.Proof.RefRun
public import proofs.«01_k».proof.Proof.Scale
public import Idealize.ShloMosaic.Lib.ValueIdx
public import Idealize.ShloMosaic.Lib.Pipeline.Value
public import Idealize.ShloMosaic.Lib.Pointwise
@[expose] public section
set_option maxRecDepth 16384
noncomputable section
namespace Cert.ReferenceIdeal.Gen
open Idealize.ShloMosaic
open Cert.Scale (scale c448 pw)

/-- A modulated weight: `(1 + mod_scale) * (w * w_scale)`. -/
def wm (a2 : Vec Ideal S3x5120 .f32) (a4 : Vec Ideal S5120x15360 .fp8e4m3) (a5 : Vec Ideal S15360 .f32) (b : Fin 3) (k : Fin 5120) (n : Fin 15360) : EReal :=
  (FloatOps.ofBits (F := Ideal) .f32 0x3F800000#32 + a2 (ix2 b k)) * (a4 (ix2 k n) * a5 (ix1 n))

/-- The largest absolute value of a column of modulated weights. -/
def cmax (a2 : Vec Ideal S3x5120 .f32) (a4 : Vec Ideal S5120x15360 .fp8e4m3) (a5 : Vec Ideal S15360 .f32) (b : Fin 3) (n : Fin 15360) : EReal :=
  Finset.univ.fold max ⊥ fun k : Fin 5120 => FloatOps.absf (F := Ideal) (φ := .f32) (wm a2 a4 a5 b k n)

/-- The modulated weights of the reference, at an index. -/
theorem pay6_eq (a2 : Vec Ideal S3x5120 .f32) (a4 : Vec Ideal S5120x15360 .fp8e4m3) (a5 : Vec Ideal S15360 .f32) (b : Fin 3) (k : Fin 5120) (n : Fin 15360) :
    k0_pay6 a5 a4 a2 (ix3 b k n) = wm a2 a4 a5 b k n := by
  unfold k0_pay6 k0_pay5 wm
  pointwise

/-- The column maxima of the reference, at an index. -/
theorem cmax_eq (a2 : Vec Ideal S3x5120 .f32) (a4 : Vec Ideal S5120x15360 .fp8e4m3) (a5 : Vec Ideal S15360 .f32) (b : Fin 3) (n : Fin 15360) :
    multiReduction (F := Ideal) .maximumf [1] S3x15360 (absf (k0_pay6 a5 a4 a2)) 0xFF800000#32 reduces_S3x5120x15360_S3x15360 (.inl rfl) rfl (ix2 b n) = cmax a2 a4 a5 b n := by
  have e := pay6_eq a2 a4 a5
  generalize k0_pay6 a5 a4 a2 = M at e
  refine (multiReduction_maximumf_eq_fold _ _ _ _ _ _).trans ?_
  refine (Shape.Reduces.fold_fiber_r3_a1 _ _ _ _ _).trans ?_
  have h1 : FloatOps.ofBits (F := Ideal) .f32 0xFF800000#32 = (⊥ : EReal) := by
    show Ideal.ofBits .f32 0xFF800000#32 = _
    simp [Ideal.ofBits, Ideal.ieee]
  rw [h1]
  unfold cmax
  refine congrArg (fun f => Finset.fold max ⊥ f Finset.univ) (funext fun k => ?_)
  exact congrArg (FloatOps.absf (F := Ideal) (φ := .f32)) (e b k n)

/-- A candidate power of the reference's search. -/
theorem power_eq (i : Fin 253) (b : Fin 3) (n : Fin 15360) :
    exp2 (F := Ideal) (subf (sitofp .f32 (iota .tc S253x3x15360 32 [0] iota_S253x3x15360_d0_w32)) (broadcast S253x3x15360 (Scalar.ofBits .f32 0x42FC0000#32))) (ix3 i b n) = pw (i.val + 1) := by
  have h : (FloatOps.ofBits (F := Ideal) .f32 0x42FC0000#32 : EReal) = ((126 : ℝ) : EReal) := by
    show Ideal.ofBits .f32 0x42FC0000#32 = _
    simp [Ideal.ofBits, Ideal.ieee]; norm_num
    rw [← EReal.coe_mul]; norm_num
  refine Eq.trans ?_ (Cert.Scale.exp2_power i.val)
  have hi : (iota .tc S253x3x15360 32 [0] iota_S253x3x15360_d0_w32 (ix3 i b n)).toInt = (i.val : ℤ) := by
    pointwise
    exact (by decide +kernel : ∀ i : Fin 253, (BitVec.ofNat 32 i.val).toInt = (i.val : ℤ)) i
  show Ideal.exp2 (((((iota .tc S253x3x15360 32 [0] iota_S253x3x15360_d0_w32 (ix3 i b n)).toInt : ℤ) : ℝ) : EReal) - (FloatOps.ofBits (F := Ideal) .f32 0x42FC0000#32 : EReal)) = _
  rw [hi, h]; norm_cast

/-- The reference's search: the least candidate power above a quotient. -/
def search (E : FVec Ideal S253x3x15360 .f32) (A : FVec Ideal S3x15360 .f32) : FVec Ideal S3x15360 .f32 :=
  multiReduction (F := Ideal) .minimumf [0] S3x15360 (select (cmpf .ogt E (broadcastTo S253x3x15360 (shapeCast S1x3x15360 (mulf A (broadcast S3x15360 (Scalar.ofBits .f32 0x3B124925#32))) shapeCasts_S3x15360_S1x3x15360) broadcasts_S1x3x15360_S253x3x15360)) E (broadcast S253x3x15360 (Scalar.ofBits .f32 0x7E800000#32))) 0x7F800000#32 reduces_S253x3x15360_S3x15360 (.inl rfl) rfl

/-- The quotient that is compared with a candidate. -/
theorem quot_eq (A : FVec Ideal S3x15360 .f32) (i : Fin 253) (b : Fin 3) (n : Fin 15360) :
    broadcastTo S253x3x15360 (shapeCast S1x3x15360 (mulf A (broadcast S3x15360 (Scalar.ofBits .f32 0x3B124925#32))) shapeCasts_S3x15360_S1x3x15360) broadcasts_S1x3x15360_S253x3x15360 (ix3 i b n) = A (ix2 b n) * c448 := by
  pointwise
  rfl

/-- The search finds the power of two just above the quotient. -/
theorem search_eq (E : FVec Ideal S253x3x15360 .f32) (A : FVec Ideal S3x15360 .f32)
    (hE : ∀ i b n, E (ix3 i b n) = pw (i.val + 1)) (b : Fin 3) (n : Fin 15360) :
    search E A (ix2 b n) = pw (Cert.Scale.count (A (ix2 b n) * c448) + 1) := by
  rw [← Cert.Scale.fold_min]
  unfold search
  have hq := quot_eq A
  generalize broadcastTo S253x3x15360 (shapeCast S1x3x15360 (mulf A (broadcast S3x15360 (Scalar.ofBits .f32 0x3B124925#32))) shapeCasts_S3x15360_S1x3x15360) broadcasts_S1x3x15360_S253x3x15360 = Q at hq
  refine (multiReduction_minimumf_eq_fold _ _ _ _ _ _).trans ?_
  refine (Shape.Reduces.fold_fiber_r3_a0 _ _ _ _ _).trans ?_
  have h1 : FloatOps.ofBits (F := Ideal) .f32 0x7F800000#32 = (⊤ : EReal) := by
    show Ideal.ofBits .f32 0x7F800000#32 = _
    simp [Ideal.ofBits, Ideal.ieee]
  rw [h1]
  refine congrArg (fun f => Finset.fold min ⊤ f Finset.univ) (funext fun k => ?_)
  have h2 : FloatOps.ofBits (F := Ideal) .f32 0x7E800000#32 = pw 253 := Cert.Scale.ofBits_scale 252 le_rfl
  have hs : select (cmpf .ogt E Q) E (broadcast S253x3x15360 (Scalar.ofBits .f32 0x7E800000#32)) (ix3 k b n) = if A (ix2 b n) * c448 < pw (k.val + 1) then pw (k.val + 1) else pw 253 := by
    rw [← hE k b n, ← hq k b n, ← h2]
    show (if BitVec.ofBool (decide (Q (ix3 k b n) < E (ix3 k b n))) = 1#1 then _ else _) = _
    by_cases h : Q (ix3 k b n) < E (ix3 k b n) <;> simp [h] <;> rfl
  exact hs

/-- The reference's scales from the column maxima and the search. -/
theorem pay7_split (a2 : Vec Ideal S3x5120 .f32) (a4 : Vec Ideal S5120x15360 .fp8e4m3) (a5 : Vec Ideal S15360 .f32) :
    k0_pay7 a5 a4 a2 = select (cmpf .oeq (multiReduction (F := Ideal) .maximumf [1] S3x15360 (absf (k0_pay6 a5 a4 a2)) 0xFF800000#32 reduces_S3x5120x15360_S3x15360 (.inl rfl) rfl) (broadcast S3x15360 (Scalar.ofBits .f32 0x00000000#32))) (broadcast S3x15360 (Scalar.ofBits .f32 0x3F800000#32))
      (search (exp2 (F := Ideal) (subf (sitofp .f32 (iota .tc S253x3x15360 32 [0] iota_S253x3x15360_d0_w32)) (broadcast S253x3x15360 (Scalar.ofBits .f32 0x42FC0000#32)))) (multiReduction (F := Ideal) .maximumf [1] S3x15360 (absf (k0_pay6 a5 a4 a2)) 0xFF800000#32 reduces_S3x5120x15360_S3x15360 (.inl rfl) rfl)) := by
  unfold k0_pay7 search
  rfl

/-- The constant one of the kernels. -/
theorem one_eq : FloatOps.ofBits (F := Ideal) .f32 0x3F800000#32 = (1 : EReal) := by
  show Ideal.ofBits .f32 0x3F800000#32 = _
  simp [Ideal.ofBits, Ideal.ieee]
  rw [← EReal.coe_mul]; norm_num

/-- The choice between one and the searched power. -/
theorem select_eq (A X : FVec Ideal S3x15360 .f32) (b : Fin 3) (n : Fin 15360) (m : EReal) (e : A (ix2 b n) = m)
    (hX : X (ix2 b n) = pw (Cert.Scale.count (A (ix2 b n) * c448) + 1)) :
    select (cmpf (F := Ideal) .oeq A (broadcast S3x15360 (Scalar.ofBits .f32 0x00000000#32))) (broadcast S3x15360 (Scalar.ofBits .f32 0x3F800000#32)) X (ix2 b n) = scale (m * c448) := by
  have h0 : FloatOps.ofBits (F := Ideal) .f32 0x00000000#32 = (0 : EReal) := Ideal.ofBits_zero_f32
  show (if BitVec.ofBool (decide (A (ix2 b n) = FloatOps.ofBits (F := Ideal) .f32 0x00000000#32)) = 1#1 then FloatOps.ofBits (F := Ideal) .f32 0x3F800000#32 else X (ix2 b n)) = _
  rw [hX, e, h0, one_eq]
  unfold Cert.Scale.scale
  by_cases h : m = 0
  · simp [h]
  · have h' : ¬ m * c448 = 0 := fun h'' => h ((Cert.Scale.mul_c448_eq_zero _).mp h'')
    simp [h, h']

/-- The scales of the reference, at an index: the power of two of the column's maximum. -/
theorem pay7_eq (a2 : Vec Ideal S3x5120 .f32) (a4 : Vec Ideal S5120x15360 .fp8e4m3) (a5 : Vec Ideal S15360 .f32) (b : Fin 3) (n : Fin 15360) :
    k0_pay7 a5 a4 a2 (ix2 b n) = scale (cmax a2 a4 a5 b n * c448) := by
  rw [pay7_split]
  exact select_eq _ _ b n _ (cmax_eq a2 a4 a5 b n) (search_eq _ _ power_eq b n)

/-- The product of a modulated weight with the inverse of its scale. -/
theorem mul_inv_eq (M : FVec Ideal S3x5120x15360 .f32) (S : FVec Ideal S3x15360 .f32) (b : Fin 3) (k : Fin 5120) (n : Fin 15360) :
    mulf M (broadcastTo S3x5120x15360 (shapeCast S3x1x15360 (divf (broadcast S3x15360 (Scalar.ofBits .f32 0x3F800000#32)) S) shapeCasts_S3x15360_S3x1x15360) broadcasts_S3x1x15360_S3x5120x15360) (ix3 b k n)
      = M (ix3 b k n) * Ideal.div 1 (S (ix2 b n)) := by
  rw [← one_eq]
  pointwise

/-- The value a code is cut from, at an index. -/
theorem pay8_eq (a2 : Vec Ideal S3x5120 .f32) (a4 : Vec Ideal S5120x15360 .fp8e4m3) (a5 : Vec Ideal S15360 .f32) (b : Fin 3) (k : Fin 5120) (n : Fin 15360) :
    k0_pay8 a5 a4 a2 (ix3 b k n) = wm a2 a4 a5 b k n * Cert.Scale.inv (cmax a2 a4 a5 b n * c448) := by
  rw [← Cert.Scale.div_scale, ← pay7_eq a2 a4 a5 b n, ← pay6_eq a2 a4 a5 b k n]
  unfold k0_pay8
  exact mul_inv_eq _ _ b k n

end Cert.ReferenceIdeal.Gen
-- ==== Proof.RefOut.lean ====
/- The three results of the main reference, index by index. -/
module
public import proofs.«01_k».proof.Proof.RefValues
public import proofs.«01_k».proof.Proof.BlockMath
@[expose] public section
set_option maxRecDepth 16384
noncomputable section
namespace Cert.ReferenceIdeal.Gen
open Idealize.ShloMosaic
open Cert.Scale (scale c448 pw)
open Cert.KernelIdeal.Gen (clip lim nlim)

variable (a0 : Vec Ideal S3x384x5120 .fp8e4m3) (a1 : Vec Ideal S3x384x128 .f32) (a2 a3 : Vec Ideal S3x5120 .f32)
  (a4 : Vec Ideal S5120x15360 .fp8e4m3) (a5 a6 : Vec Ideal S15360 .f32)

/-- The scales are computed from whole arrays. -/
theorem pay9_eq : k0_pay9 a0 a1 a2 a3 a4 a5 a6 = k0_pay7 a5 a4 a2 := by
  unfold k0_pay9
  rw [View.ld_unit_zero (S := S15360) RefRun.hz5 _ a5, View.ld_unit_zero (S := S5120x15360) RefRun.hz4 _ a4, View.ld_unit_zero (S := S3x5120) RefRun.hz2 _ a2]

/-- The values the codes are cut from are computed from whole arrays. -/
theorem pay10_eq : k0_pay10 a0 a1 a2 a3 a4 a5 a6 = k0_pay8 a5 a4 a2 := by
  unfold k0_pay10
  rw [View.ld_unit_zero (S := S15360) RefRun.hz5 _ a5, View.ld_unit_zero (S := S5120x15360) RefRun.hz4 _ a4, View.ld_unit_zero (S := S3x5120) RefRun.hz2 _ a2]

/-- A code of the reference. -/
def code (b : Fin 3) (k : Fin 5120) (n : Fin 15360) : EReal := clip (wm a2 a4 a5 b k n * Cert.Scale.inv (cmax a2 a4 a5 b n * c448))

/-- The second result: the codes. -/
theorem codes_apply (b : Fin 3) (k : Fin 5120) (n : Fin 15360) :
    RefRun.G8 a0 a1 a2 a3 a4 a5 a6 (ix3 b k n) = code a2 a4 a5 b k n := by
  show k0_pay1 (k0_pay10 a0 a1 a2 a3 a4 a5 a6) _ _ _ = _
  rw [pay10_eq]
  unfold code
  rw [← pay8_eq]
  unfold k0_pay1 clip
  generalize k0_pay8 a5 a4 a2 = M
  rfl

/-- The third result: the scales, by groups of 512 columns. -/
theorem scales_apply (j : Fin 30) (b : Fin 3) (q : Fin 512) :
    RefRun.G9 a0 a1 a2 a3 a4 a5 a6 (ix3 j b q) = scale (cmax a2 a4 a5 b ⟨j.val * 512 + q.val, by omega⟩ * c448) := by
  show k0_pay3 (k0_pay9 a0 a1 a2 a3 a4 a5 a6) _ = _
  rw [pay9_eq, ← pay7_eq]
  unfold k0_pay3
  generalize k0_pay7 a5 a4 a2 = M
  refine (transpose_apply [1, 0, 2] _ _ (ix3 j b q) (ix3 b j q) (fun a => match a with | ⟨0, _⟩ => rfl | ⟨1, _⟩ => rfl | ⟨2, _⟩ => rfl)).trans ?_
  refine shapeCast_apply _ _ _ (ix2 b ⟨j.val * 512 + q.val, by omega⟩) ?_
  simp [Shape.rowMajor_val_three, Shape.rowMajor_val_two]; omega

/-- The result's formula, for any codes and scales. -/
theorem pay2_eq (M : FVec Ideal S3x5120x15360 .f32) (S : FVec Ideal S3x15360 .f32) (b : Fin 3) (r : Fin 384) (n : Fin 15360) :
    k0_pay2 (k0_pay4 a1) a5 (k0_pay5 a4) S M (Scalar.ofBits .f32 0xC3E00000#32) (Scalar.ofBits .f32 0x43E00000#32) a0 a3 a6 (ix3 b r n)
      = (∑ k : Fin 5120, a0 (ix3 b r k) * clip (M (ix3 b k n))) * a1 (ix3 b r 0) * S (ix2 b n)
        + ((∑ k : Fin 5120, a3 (ix2 b k) * a4 (ix2 k n)) * a5 (ix1 n) + a6 (ix1 n)) := by
  have hc : ∀ k, clip (M (ix3 b k n)) = k0_pay1 M (Scalar.ofBits .f32 0xC3E00000#32) (Scalar.ofBits .f32 0x43E00000#32) (ix3 b k n) := fun _ => rfl
  simp only [hc]
  have h5 : ∀ k, a4 (ix2 k n) = k0_pay5 a4 (ix2 k n) := fun _ => rfl
  simp only [h5]
  unfold k0_pay2
  generalize k0_pay1 M (Scalar.ofBits .f32 0xC3E00000#32) (Scalar.ofBits .f32 0x43E00000#32) = C
  generalize k0_pay5 a4 = W
  unfold k0_pay4
  pointwise

/-- The first result. -/
theorem result_apply (b : Fin 3) (r : Fin 384) (n : Fin 15360) :
    RefRun.G7 a0 a1 a2 a3 a4 a5 a6 (ix3 b r n)
      = (∑ k : Fin 5120, a0 (ix3 b r k) * code a2 a4 a5 b k n) * a1 (ix3 b r 0) * scale (cmax a2 a4 a5 b n * c448)
        + ((∑ k : Fin 5120, a3 (ix2 b k) * a4 (ix2 k n)) * a5 (ix1 n) + a6 (ix1 n)) := by
  show k0_pay2 _ _ _ (k0_pay9 a0 a1 a2 a3 a4 a5 a6) (k0_pay10 a0 a1 a2 a3 a4 a5 a6) _ _ _ _ _ _ = _
  rw [pay9_eq, pay10_eq, pay2_eq, pay7_eq]
  unfold code
  simp only [pay8_eq]

end Cert.ReferenceIdeal.Gen
-- ==== Proof.KernelOut.lean ====
/- The main kernel's three output arrays are the reference's of the same arguments, the shift being finite. -/
module
public import proofs.«01_k».proof.Proof.KernelIn
public import proofs.«01_k».proof.Proof.RefOut
@[expose] public section
set_option maxRecDepth 16384
noncomputable section
namespace Cert.KernelIdeal.Gen
open Idealize.ShloMosaic Idealize.ShloMosaic.TcCoe Idealize.SL.Sem
open Cert.Scale (scale c448)

variable (m : (ℓ : Loc nD τ sig) → Buf (Elt Ideal) ℓ) (ρ : Dev nD → PrngReg)

abbrev A0 (c : Dev nD) : Vec Ideal S3x384x5120 .fp8e4m3 := m ((c : Thread nD τ).loc main_arg0)
abbrev A1 (c : Dev nD) : Vec Ideal S3x384x128 .f32 := m ((c : Thread nD τ).loc main_arg1)
abbrev A2 (c : Dev nD) : Vec Ideal S3x5120 .f32 := m ((c : Thread nD τ).loc main_arg2)
abbrev A3 (c : Dev nD) : Vec Ideal S3x5120 .f32 := m ((c : Thread nD τ).loc main_arg3)
abbrev A4 (c : Dev nD) : Vec Ideal S5120x15360 .fp8e4m3 := m ((c : Thread nD τ).loc main_arg4)
abbrev A5 (c : Dev nD) : Vec Ideal S15360 .f32 := m ((c : Thread nD τ).loc main_arg5)
abbrev A6 (c : Dev nD) : Vec Ideal S15360 .f32 := m ((c : Thread nD τ).loc main_arg6)
/-- The reference's result, codes and scales of the kernel's arguments. -/
abbrev R7 (c : Dev nD) : Vec Ideal S3x384x15360 .bf16 := Cert.ReferenceIdeal.RefRun.G7 (A0 m c) (A1 m c) (A2 m c) (A3 m c) (A4 m c) (A5 m c) (A6 m c)
abbrev R8 (c : Dev nD) : Vec Ideal S3x5120x15360 .fp8e4m3 := Cert.ReferenceIdeal.RefRun.G8 (A0 m c) (A1 m c) (A2 m c) (A3 m c) (A4 m c) (A5 m c) (A6 m c)
abbrev R9 (c : Dev nD) : Vec Ideal S30x3x512 .f32 := Cert.ReferenceIdeal.RefRun.G9 (A0 m c) (A1 m c) (A2 m c) (A3 m c) (A4 m c) (A5 m c) (A6 m c)

/-- An entry of the scratch rows. -/
theorem Um_apply (c : Dev nD) (b : Fin 3) (k : Fin 5120) (l : Fin 128) : Um m c (ix3 b k l) = Ideal.ofBits .f32 0x3F800000#32 + A2 m c (ix2 b k) :=
  congrArg (fun z => Ideal.ofBits .f32 0x3F800000#32 + z) (in2 m c p0 (ix2 b k))

/-- The magnitude of a modulated weight, as in the reference. -/
theorem mag_eq (c : Dev nD) (t : Fin cfg0.N) (b : Fin 3) (q : Fin 512) (k : Fin 5120) :
    mag (Um m c) (iblk m c 4 t) (iblk m c 5 t) b q k = FloatOps.absf (F := Ideal) (φ := .f32) (Cert.ReferenceIdeal.Gen.wm (A2 m c) (A4 m c) (A5 m c) b k (col t q)) := by
  unfold mag
  rw [Um_apply, in4, in5]
  rfl

/-- The quotient under the scale, as in the reference. -/
theorem quo_eq (c : Dev nD) (t : Fin cfg0.N) (b : Fin 3) (q : Fin 512) :
    quo (Um m c) (iblk m c 4 t) (iblk m c 5 t) b q = Cert.ReferenceIdeal.Gen.cmax (A2 m c) (A4 m c) (A5 m c) b (col t q) * c448 := by
  unfold quo Cert.ReferenceIdeal.Gen.cmax
  rw [show (fun k : Fin 5120 => mag (Um m c) (iblk m c 4 t) (iblk m c 5 t) b q k) = _ from funext fun k => mag_eq m c t b q k]

/-- An entry of a block of codes. -/
theorem cv_apply (U : Vec Ideal S3x5120x128 .f32) (x4 : Vec Ideal S5120x512 .fp8e4m3) (x5 : Vec Ideal S1x1x512 .f32) (b : Fin 3) (k : Fin 5120) (q : Fin 512) :
    cv U x4 x5 (ix3 b k q) = clip (U (ix3 b k (lane q)) * (x4 (ix2 k q) * (x5 (ix3 0 0 q) * Cert.Scale.inv (quo U x4 x5 b q)))) := rfl

/-- An entry of a block of the result. -/
theorem yv_apply (x0 : Vec Ideal S3x384x5120 .fp8e4m3) (x1 : Vec Ideal S3x384x128 .f32) (x4 : Vec Ideal S5120x512 .fp8e4m3) (x5 x6 : Vec Ideal S1x1x512 .f32)
    (U : Vec Ideal S3x5120x128 .f32) (P : Vec Ideal S16x5120 .bf16) (C : Vec Ideal S3x5120x512 .fp8e4m3) (b : Fin 3) (r : Fin 384) (q : Fin 512) :
    yv x0 x1 x4 x5 x6 U P C (ix3 b r q) = (∑ k : Fin 5120, x0 (ix3 b r k) * C (ix3 b k q)) * x1 (ix3 b r 0) * scale (quo U x4 x5 b q) + shiftAt P x4 x5 x6 b q := rfl

/-- A code of the kernel is the reference's. -/
theorem Cm_apply (c : Dev nD) (t : Fin cfg0.N) (b : Fin 3) (k : Fin 5120) (q : Fin 512) :
    Cm m c t (ix3 b k q) = Cert.ReferenceIdeal.Gen.code (A2 m c) (A4 m c) (A5 m c) b k (col t q) := by
  refine (cv_apply (Um m c) (iblk m c 4 t) (iblk m c 5 t) b k q).trans ?_
  rw [Um_apply, in4, in5, quo_eq]
  unfold Cert.ReferenceIdeal.Gen.code Cert.ReferenceIdeal.Gen.wm
  rw [mul_assoc (_ + _ : EReal), mul_assoc (A4 m c _)]
  rfl

/-- A scale of the kernel is the reference's. -/
theorem Sm_apply (c : Dev nD) (t : Fin cfg0.N) (b : Fin 3) (q : Fin 512) :
    Sm m c t (ix3 0 b q) = scale (Cert.ReferenceIdeal.Gen.cmax (A2 m c) (A4 m c) (A5 m c) b (col t q) * c448) := by
  show scale (quo (Um m c) (iblk m c 4 t) (iblk m c 5 t) b q) = _
  rw [quo_eq]

/-- The shift's contribution is the reference's, the shift being finite. -/
theorem shift_eq (c : Dev nD) (hfin : ∀ i, A3 m c i - A3 m c i = 0) (t : Fin cfg0.N) (b : Fin 3) (q : Fin 512) :
    shiftAt (Pm m c) (iblk m c 4 t) (iblk m c 5 t) (iblk m c 6 t) b q
      = (∑ k : Fin 5120, A3 m c (ix2 b k) * A4 m c (ix2 k (col t q))) * A5 m c (ix1 (col t q)) + A6 m c (ix1 (col t q)) := by
  have h0 : dotP (Pm m c) (iblk m c 4 t) ⟨b.val, by omega⟩ q = ∑ k : Fin 5120, A3 m c (ix2 b k) * A4 m c (ix2 k (col t q)) :=
    Finset.sum_congr rfl fun k _ => congrArg₂ (· * ·) ((pay9_hi _ b k).trans (in3 m c p0 (ix2 b k))) (in4 m c t k q)
  have h1 : dotP (Pm m c) (iblk m c 4 t) ⟨b.val + 3, by omega⟩ q = 0 :=
    Finset.sum_eq_zero fun k _ => by
      have e : Pm m c (ix2 (⟨b.val + 3, by omega⟩ : Fin 16) k) = 0 := by
        refine (pay9_mid _ b k).trans ?_
        rw [in3 m c p0 (ix2 b k)]; exact hfin _
      rw [e]; exact zero_mul _
  have h2 : dotP (Pm m c) (iblk m c 4 t) ⟨b.val + 6, by omega⟩ q = 0 :=
    Finset.sum_eq_zero fun k _ => by
      have e : Pm m c (ix2 (⟨b.val + 6, by omega⟩ : Fin 16) k) = 0 := by
        refine (pay9_lo _ b k).trans ?_
        rw [in3 m c p0 (ix2 b k)]
        refine (congrArg₂ (· - ·) (hfin (ix2 b k)) (hfin (ix2 b k))).trans ?_
        simp
      rw [e]; exact zero_mul _
  unfold shiftAt
  rw [h0, h1, h2, in5, in6, add_zero, add_zero]

/-- An entry of the result is the reference's. -/
theorem Ym_apply (c : Dev nD) (hfin : ∀ i, A3 m c i - A3 m c i = 0) (t : Fin cfg0.N) (b : Fin 3) (r : Fin 384) (q : Fin 512) :
    Ym m c t (ix3 b r q) = R7 m c (ix3 b r (col t q)) := by
  refine Eq.trans ?_ (Cert.ReferenceIdeal.Gen.result_apply (A0 m c) (A1 m c) (A2 m c) (A3 m c) (A4 m c) (A5 m c) (A6 m c) b r (col t q)).symm
  refine (yv_apply (iblk m c 0 t) (iblk m c 1 t) (iblk m c 4 t) (iblk m c 5 t) (iblk m c 6 t) (Um m c) (Pm m c) (Cm m c t) b r q).trans ?_
  rw [shift_eq m c hfin, quo_eq, in1]
  refine congrArg (fun z => z * A1 m c (ix3 b r 0) * _ + _) ?_
  exact Finset.sum_congr rfl fun k _ => congrArg₂ (· * ·) (in0 m c t (ix3 b r k)) (Cm_apply m c t b k q)

theorem flushed7 (c : Dev nD) (hfin : ∀ i, A3 m c i - A3 m c i = 0) (t : Fin cfg0.N) :
    (dats m 0 c).flushed 7 t = ((cfg0.win 7).blk t).view.read (Elt Ideal) (R7 m c) := by
  show (cfg0.win 7).cut (grid0.coords t) ((dats m 0 c).after 7 t) = _
  rw [after0_7]
  funext j
  have hj : j = (ix3 (j 0) (j 1) (j 2) : S3x384x512.Idx) := eq_ix3 j
  show Ym m c t j = R7 m c (((cfg0.win 7).blk t).view.emb j)
  refine (congrArg (Ym m c t) hj).trans ?_
  refine Eq.trans ?_ (congrArg (R7 m c) ((congrArg (fun z => ((cfg0.win 7).blk t).view.emb z) hj).trans (out7 t (j 0) (j 1) (j 2)))).symm
  exact Ym_apply m c hfin t (j 0) (j 1) (j 2)
/-- Output array 7 after the run. -/
theorem final7 (c : Dev nD) (hfin : ∀ i, A3 m c i - A3 m c i = 0) : (dats m 0 c).arrAt 7 cfg0.N = R7 m c :=
  (dats m 0 c).arrAt_eq_of_cover 7 (R7 m c) (fun t _ => flushed7 m c hfin t) covered7

theorem flushed8 (c : Dev nD) (t : Fin cfg0.N) :
    (dats m 0 c).flushed 8 t = ((cfg0.win 8).blk t).view.read (Elt Ideal) (R8 m c) := by
  show (cfg0.win 8).cut (grid0.coords t) ((dats m 0 c).after 8 t) = _
  rw [after0_8]
  funext j
  have hj : j = (ix3 (j 0) (j 1) (j 2) : S3x5120x512.Idx) := eq_ix3 j
  show Cm m c t j = R8 m c (((cfg0.win 8).blk t).view.emb j)
  refine (congrArg (Cm m c t) hj).trans ?_
  refine Eq.trans ?_ (congrArg (R8 m c) ((congrArg (fun z => ((cfg0.win 8).blk t).view.emb z) hj).trans (out8 t (j 0) (j 1) (j 2)))).symm
  exact (Cm_apply m c t (j 0) (j 1) (j 2)).trans (Cert.ReferenceIdeal.Gen.codes_apply (A0 m c) (A1 m c) (A2 m c) (A3 m c) (A4 m c) (A5 m c) (A6 m c) (j 0) (j 1) (col t (j 2))).symm
/-- Output array 8 after the run. -/
theorem final8 (c : Dev nD) : (dats m 0 c).arrAt 8 cfg0.N = R8 m c :=
  (dats m 0 c).arrAt_eq_of_cover 8 (R8 m c) (fun t _ => flushed8 m c t) covered8

/-- A block of scales is written back whole. -/
theorem cut9 (t : Fin cfg0.N) (S : Vec Ideal S1x3x512 .f32) (j : S1x3x512.Idx) : (cfg0.win 9).cut (grid0.coords t) S j = S j := rfl
/-- A block of an array of scales, at an index. -/
theorem read9 (t : Fin cfg0.N) (R : Vec Ideal S30x3x512 .f32) (j : S1x3x512.Idx) : ((cfg0.win 9).blk t).view.read (Elt Ideal) R j = R (((cfg0.win 9).blk t).view.emb j) := rfl
theorem flushed9 (c : Dev nD) (t : Fin cfg0.N) :
    (dats m 0 c).flushed 9 t = ((cfg0.win 9).blk t).view.read (Elt Ideal) (R9 m c) := by
  show (cfg0.win 9).cut (grid0.coords t) ((dats m 0 c).after 9 t) = _
  rw [after0_9]
  funext j
  have hj : j = (ix3 0 (j 1) (j 2) : S1x3x512.Idx) := (eq_ix3 j).trans (congrArg (fun z : Fin 1 => (ix3 z (j 1) (j 2) : S1x3x512.Idx)) (Subsingleton.elim _ _))
  refine (cut9 t (Sm m c t) j).trans ((congrArg (Sm m c t) hj).trans ?_)
  refine Eq.trans ?_ (read9 t (R9 m c) j).symm
  refine Eq.trans ?_ (congrArg (R9 m c) ((congrArg (fun z => ((cfg0.win 9).blk t).view.emb z) hj).trans (out9 t (j 1) (j 2)))).symm
  exact (Sm_apply m c t (j 1) (j 2)).trans (Cert.ReferenceIdeal.Gen.scales_apply (A0 m c) (A1 m c) (A2 m c) (A3 m c) (A4 m c) (A5 m c) (A6 m c) (blkNo t) (j 1) (j 2)).symm
/-- Output array 9 after the run. -/
theorem final9 (c : Dev nD) : (dats m 0 c).arrAt 9 cfg0.N = R9 m c :=
  (dats m 0 c).arrAt_eq_of_cover 9 (R9 m c) (fun t _ => flushed9 m c t) covered9

/-- The run: the three results are the reference's of the arguments, which end unchanged. -/
theorem run_values (hfin : ∀ c i, A3 m c i - A3 m c i = 0) : θ_run defs (onTc (τ := τ) (main (F := Ideal))) ⟨m, fun _ => 0, ρ⟩ fun r => ∀ c : Dev nD,
      r.2.mem ((c : Thread nD τ).loc main_v2_0) = R7 m c
      ∧ r.2.mem ((c : Thread nD τ).loc main_v2_1) = R8 m c
      ∧ r.2.mem ((c : Thread nD τ).loc main_v2_2) = R9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h.2 c).1 7).trans (final7 m c (hfin c)), ((h.2 c).1 8).trans (final8 m c), ((h.2 c).1 9).trans (final9 m c), h.1.1 c⟩)
    (θ_run_and (frame m ρ) ((θ_run defs _ _).mono (fun _ h => h.1) (run_quiescent m ρ)))

end Cert.KernelIdeal.Gen
end
-- ==== Proof.MainEqual.lean ====
/- The claim that the main kernel and its reference compute equal results, from the two runs. -/
module
public import proofs.«01_k».proof.Defs
public import proofs.«01_k».proof.Proof.KernelOut
public import proofs.«01_k».proof.Proof.Gen.Pre_finite_shift
public import Idealize.ShloMosaic.Lib.ReduceAll
@[expose] public section
set_option maxRecDepth 16384
noncomputable section
namespace Cert.Proof
open Idealize.ShloMosaic Idealize.ShloMosaic.TcCoe Idealize.SL.Sem

/-- The bound of the precondition is infinity. -/
theorem top_eq : Ideal.ofBits .f32 0x7F800000#32 = (⊤ : EReal) := by simp [Ideal.ofBits, Ideal.ieee]

/-- An extended real whose absolute value is below infinity, less itself, is zero. -/
theorem sub_self_of_abs (x : EReal) (h : max x (-x) < ⊤) : x - x = 0 := by
  have h1 : x ≠ ⊤ := fun e => by simp [e] at h
  have h2 : x ≠ ⊥ := fun e => by simp [e] at h
  exact EReal.sub_self h1 h2

instance : Subsingleton Cert.Pre_finite_shift.S_.Idx := ⟨fun _ _ => funext fun a => a.elim0⟩

/-- Where the precondition holds of a shift, every entry is finite. -/
theorem finite_of_pre (a0 : FVec Ideal Cert.Pre_finite_shift.S3x384x5120 .fp8e4m3) (a1 : FVec Ideal Cert.Pre_finite_shift.S3x384x128 .f32) (a2 a3 : FVec Ideal Cert.Pre_finite_shift.S3x5120 .f32)
    (a4 : FVec Ideal Cert.Pre_finite_shift.S5120x15360 .fp8e4m3) (a5 a6 : FVec Ideal Cert.Pre_finite_shift.S15360 .f32)
    (h : ∀ j, Cert.Pre_finite_shift.fn (F := Ideal) a0 a1 a2 a3 a4 a5 a6 j = 1#1) (i : Cert.Pre_finite_shift.S3x5120.Idx) : a3 i - a3 i = 0 := by
  have e := Host.reduce_andi_all _ _ _ _ (fun a => a.elim0) (h (fun a => a.elim0)) i
  refine sub_self_of_abs _ ?_
  have e' : BitVec.ofBool (decide (max (a3 i) (-(a3 i)) < Ideal.ofBits .f32 0x7F800000#32)) = 1#1 := e
  rw [top_eq] at e'
  by_contra hn
  rw [decide_eq_false hn] at e'
  exact absurd e' (by decide)

/-- The main kernel and its reference compute equal results from equal arguments, the shift being finite. -/
theorem main_equal : Cert.algebraic_KernelIdeal_ReferenceIdeal_pre_finite_shift := by
  intro m g m' g' hpre heq
  refine ⟨Cert.KernelIdeal.Gen.R7 m, Cert.KernelIdeal.Gen.R8 m, Cert.KernelIdeal.Gen.R9 m, Cert.KernelIdeal.Gen.run_values m g fun c i => ?_, ?_⟩
  · exact finite_of_pre _ _ _ _ _ _ _ (fun j => congrFun (hpre c) j) i
  · refine (θ_run Cert.ReferenceIdeal.defs _ _).mono (fun r h c => ?_) (Cert.ReferenceIdeal.RefRun.run m' g')
    obtain ⟨h7, h8, h9, k⟩ := h c
    obtain ⟨e0, e1, e2, e3, e4, e5, e6⟩ := heq c
    rw [e0, e1, e2, e3, e4, e5, e6] at h7 h8 h9
    exact ⟨h7, h8, h9, k⟩

end Cert.Proof
end
-- ==== Proof.NormRow.lean ====
/- A row normalised and quantised, over the extended reals: mean, centred row, variance, largest magnitude, code and scale. -/
module
public import proofs.«01_k».proof.Proof.Scale
@[expose] public section
noncomputable section
namespace Cert.NormRow
open Idealize.ShloMosaic
open Cert.Scale (c448)

/-- The mean of a row of 5120 entries. -/
def mean (x : Fin 5120 → EReal) : EReal := (∑ k, x k) * ((1 / 5120 : ℝ) : EReal)
/-- An entry less the row's mean. -/
def cen (x : Fin 5120 → EReal) (k : Fin 5120) : EReal := x k - mean x
/-- The row's variance. -/
def var (x : Fin 5120 → EReal) : EReal := mean fun k => cen x k * cen x k
/-- An entry normalised. -/
def nrm (x : Fin 5120 → EReal) (k : Fin 5120) : EReal := cen x k * Ideal.rsqrt (var x + Ideal.ofBits .f32 0x358637BD#32)
/-- The largest magnitude of the normalised row. -/
def amax (x : Fin 5120 → EReal) : EReal := Finset.univ.fold max ⊥ fun k : Fin 5120 => FloatOps.absf (F := Ideal) (φ := .f32) (nrm x k)
/-- The row's scale. -/
def scl (x : Fin 5120 → EReal) : EReal := Cert.Scale.scale (amax x * c448)
/-- Clipping to the code format's range. -/
def clip (x : EReal) : EReal := min (Ideal.ofBits .f32 0x43E00000#32) (max (Ideal.ofBits .f32 0xC3E00000#32) x)
/-- An entry's code. -/
def code (x : Fin 5120 → EReal) (k : Fin 5120) : EReal := clip (nrm x k * Cert.Scale.inv (amax x * c448))

end Cert.NormRow
end
-- ==== Proof.NormKernel.lean ====
/- What the normalising kernel computes of a block of 128 rows, read at an index. -/
module
public import proofs.«01_k».proof.Proof.Gen.NormIdeal.Frame
public import proofs.«01_k».proof.Proof.NormRow
public import Idealize.ShloMosaic.Lib.ValueIdx
public import Idealize.ShloMosaic.Lib.Pipeline.Value
public import Idealize.ShloMosaic.Lib.Pointwise
@[expose] public section
set_option maxRecDepth 16384
noncomputable section
namespace Cert.NormIdeal.Gen
open Idealize.ShloMosaic
open Cert.Scale (scale c448 pw)
open Cert.NormRow

/-- The named constant is the rational 1/5120. -/
theorem inv_d : Named.named (F := Ideal) κ "inv_d" (φ := .f32) 0x394CCCCD#32 = ((1 / 5120 : ℝ) : EReal) :=
  IdealRules.named_const.ideal_named_scalar _ _ _ _ rfl

/-- The column of row means. -/
def mu (X : FVec Ideal S128x5120 .f32) : FVec Ideal S128x1 .f32 :=
  mulf (shapeCast S128x1 (multiReduction (F := Ideal) .add [1] S128 X 0x00000000#32 reduces_S128x5120_S128 (.inl rfl) rfl) shapeCasts_S128_S128x1) (broadcast S128x1 (Named.named (F := Ideal) κ "inv_d" 0x394CCCCD#32))

/-- A row mean. -/
theorem mu_eq (X : FVec Ideal S128x5120 .f32) (r : Fin 128) : mu X (ix2 r 0) = mean fun k => X (ix2 r k) := by
  unfold mu mean
  have s : ∀ r : Fin 128, multiReduction (F := Ideal) .add [1] S128 X 0x00000000#32 reduces_S128x5120_S128 (.inl rfl) rfl (ix1 r) = ∑ k : Fin 5120, X (ix2 r k) := by
    intro r
    exact Ideal.reduceAdd_r2_a1 _ _ _
  generalize multiReduction (F := Ideal) .add [1] S128 X 0x00000000#32 reduces_S128x5120_S128 (.inl rfl) rfl = R at s
  rw [← s r, ← inv_d]
  pointwise

/-- Rows less their means. -/
def cv (X : FVec Ideal S128x5120 .f32) : FVec Ideal S128x5120 .f32 := subf X (broadcastTo S128x5120 (mu X) broadcasts_S128x1_S128x5120)
theorem cv_eq (X : FVec Ideal S128x5120 .f32) (r : Fin 128) (k : Fin 5120) : cv X (ix2 r k) = cen (fun k => X (ix2 r k)) k := by
  unfold cv cen
  rw [← mu_eq]
  generalize mu X = M
  pointwise

/-- The normalised rows from the centred ones and the column of variances. -/
theorem tail_eq (C : FVec Ideal S128x5120 .f32) (M : FVec Ideal S128x1 .f32) (r : Fin 128) (k : Fin 5120) :
    mulf C (broadcastTo S128x5120 (rsqrt (addf M (broadcast S128x1 (Scalar.ofBits .f32 0x358637BD#32)))) broadcasts_S128x1_S128x5120) (ix2 r k)
      = C (ix2 r k) * Ideal.rsqrt (M (ix2 r 0) + Ideal.ofBits .f32 0x358637BD#32) := by
  pointwise
  try rfl

/-- The normalised rows, at an index. -/
theorem pay3_eq (v : Vec Ideal S128x5120 .bf16) (r : Fin 128) (k : Fin 5120) : k0_pay3 v (ix2 r k) = nrm (fun k => v (ix2 r k)) k := by
  have e : k0_pay3 v = mulf (cv (extf .f32 v bitsLt_bf16_f32)) (broadcastTo S128x5120 (rsqrt (addf (mu (mulf (cv (extf .f32 v bitsLt_bf16_f32)) (cv (extf .f32 v bitsLt_bf16_f32)))) (broadcast S128x1 (Scalar.ofBits .f32 0x358637BD#32)))) broadcasts_S128x1_S128x5120) := by
    unfold k0_pay3
    rw [shapeCast_self]
    rfl
  rw [e]
  have hx : ∀ r k, (extf .f32 v bitsLt_bf16_f32 : FVec Ideal S128x5120 .f32) (ix2 r k) = v (ix2 r k) := fun _ _ => rfl
  generalize (extf .f32 v bitsLt_bf16_f32 : FVec Ideal S128x5120 .f32) = X at hx
  simp only [← hx]
  refine (tail_eq _ _ r k).trans ?_
  rw [mu_eq]
  have h2 : (fun k => mulf (cv X) (cv X) (ix2 r k)) = fun k => cen (fun k => X (ix2 r k)) k * cen (fun k => X (ix2 r k)) k := by
    funext k
    rw [← cv_eq X r k]
    rfl
  rw [h2, cv_eq]
  rfl

/-- A row's count of the thresholds at most its quotient, as the kernel takes it. -/
def cnt (T : FVec Ideal S128x1 .f32) : IVec S128 32 :=
  multiReductionI .add [1] S128 (extui 32 (cmpf (F := Ideal) .oge (broadcastTo S128x252 T broadcasts_S128x1_S128x252) (bitcastToFloat .f32 (shli (addi (iota .tc S128x252 32 [1] iota_S128x252_d1_w32) (broadcast S128x252 1#32)) (broadcast S128x252 23#32)))) natLt_1_32) 0#32 reduces_S128x252_S128 rfl

/-- That count is the number of thresholds at most the quotient. -/
theorem cnt_eq (T : FVec Ideal S128x1 .f32) (r : Fin 128) : cnt T (ix1 r) = BitVec.ofNat 32 (Cert.Scale.count (T (ix2 r 0))) := by
  unfold cnt
  refine (multiReductionI_eq_fold _ _ _ _ _ _).trans ?_
  refine (Shape.Reduces.fold_fiber_r2_a1 _ _ _ _ _).trans ?_
  have e : ∀ k : Fin 252, cmpf (F := Ideal) .oge (broadcastTo S128x252 T broadcasts_S128x1_S128x252) (bitcastToFloat .f32 (shli (addi (iota .tc S128x252 32 [1] iota_S128x252_d1_w32) (broadcast S128x252 1#32)) (broadcast S128x252 23#32))) (ix2 r k) = BitVec.ofBool (decide (pw (k.val + 1) ≤ T (ix2 r 0))) := by
    intro k
    pointwise
    rw [← Cert.Scale.ofBits_threshold k.val k.isLt]
    rfl
  refine Eq.trans ?_ (IndicatorCount.fold_addi_setWidth_eq_card (fun k : Fin 252 => BitVec.ofBool (decide (pw (k.val + 1) ≤ T (ix2 r 0)))) Finset.univ |>.trans ?_)
  · refine congrArg (fun f => Finset.fold IntOp.addi 0#32 f Finset.univ) (funext fun k => ?_)
    show BitVec.setWidth 32 _ = BitVec.setWidth 32 _
    exact congrArg _ (e k)
  · unfold Cert.Scale.count
    congr 2
    ext k
    simp only [Finset.mem_filter, Finset.mem_univ, true_and]
    by_cases h : pw (k.val + 1) ≤ T (ix2 r 0) <;> simp [h]

/-- The column of exponent words from the largest magnitudes. -/
def word (R : FVec Ideal S128 .f32) : IVec S128x1 32 :=
  select (cmpf (F := Ideal) .oeq (mulf (shapeCast S128x1 R shapeCasts_S128_S128x1) (broadcast S128x1 (Scalar.ofBits .f32 0x3B124925#32))) (broadcast S128x1 (Scalar.ofBits .f32 0x00000000#32))) (broadcast S128x1 0#32)
    (subi (shapeCast S128x1 (cnt (mulf (shapeCast S128x1 R shapeCasts_S128_S128x1) (broadcast S128x1 (Scalar.ofBits .f32 0x3B124925#32)))) shapeCasts_S128_S128x1) (broadcast S128x1 126#32))

/-- An exponent word: zero where the quotient is zero, else the count less 126. -/
theorem word_eq (R : FVec Ideal S128 .f32) (r : Fin 128) :
    word R (ix2 r 0) = (if R (ix1 r) * c448 = 0 then 0#32 else BitVec.ofNat 32 (Cert.Scale.count (R (ix1 r) * c448)) - 126#32) := by
  unfold word
  have hT : mulf (shapeCast S128x1 R shapeCasts_S128_S128x1) (broadcast S128x1 (Scalar.ofBits .f32 0x3B124925#32)) (ix2 r 0) = R (ix1 r) * c448 := by
    pointwise
    rfl
  generalize mulf (shapeCast S128x1 R shapeCasts_S128_S128x1) (broadcast S128x1 (Scalar.ofBits .f32 0x3B124925#32)) = T at hT
  rw [← hT]
  have ec := cnt_eq T r
  generalize cnt T = C at ec
  pointwise
  rw [ec]; rfl

/-- The exponent words of a block, at a row. -/
theorem pay4_eq (v : Vec Ideal S128x5120 .bf16) (r : Fin 128) :
    k0_pay4 v (ix2 r 0) = (if amax (fun k => v (ix2 r k)) * c448 = 0 then 0#32 else BitVec.ofNat 32 (Cert.Scale.count (amax (fun k => v (ix2 r k)) * c448)) - 126#32) := by
  have e : k0_pay4 v = word (multiReduction (F := Ideal) .maximumf [1] S128 (absf (k0_pay3 v)) 0xFF800000#32 reduces_S128x5120_S128 (.inl rfl) rfl) := rfl
  rw [e, word_eq]
  have h3 := pay3_eq v r
  generalize k0_pay3 v = M at h3
  have hR : multiReduction (F := Ideal) .maximumf [1] S128 (absf M) 0xFF800000#32 reduces_S128x5120_S128 (.inl rfl) rfl (ix1 r) = amax fun k => v (ix2 r k) := by
    refine (multiReduction_maximumf_eq_fold _ _ _ _ _ _).trans ?_
    refine (Shape.Reduces.fold_fiber_r2_a1 _ _ _ _ _).trans ?_
    have h1 : FloatOps.ofBits (F := Ideal) .f32 0xFF800000#32 = (⊥ : EReal) := by
      show Ideal.ofBits .f32 0xFF800000#32 = _
      simp [Ideal.ofBits, Ideal.ieee]
    rw [h1]
    unfold amax
    refine congrArg (fun f => Finset.fold max ⊥ f Finset.univ) (funext fun k => ?_)
    exact congrArg (FloatOps.absf (F := Ideal) (φ := .f32)) (h3 k)
  rw [hR]

/-- The codes from the normalised rows and the exponent words. -/
theorem pay1_eq (N : FVec Ideal S128x5120 .f32) (W : IVec S128x1 32) (r : Fin 128) (k : Fin 5120) :
    k0_pay1 N W (ix2 r k) = clip (N (ix2 r k) * Ideal.ofBits .f32 ((127#32 - W (ix2 r 0)) <<< 23)) := by
  unfold k0_pay1 clip
  pointwise
  try rfl

/-- The scales from their words. -/
theorem pay2_eq (W : IVec S128x1 32) (r l : Fin 128) : k0_pay2 (F := Ideal) W (ix2 r l) = Ideal.ofBits .f32 (W (ix2 r 0) <<< 23) := by
  unfold k0_pay2
  pointwise
  try rfl

/-- The codes of a block, at an index. -/
theorem codes_eq (v : Vec Ideal S128x5120 .bf16) (r : Fin 128) (k : Fin 5120) : k0_pay1 (k0_pay3 v) (k0_pay4 v) (ix2 r k) = code (fun k => v (ix2 r k)) k := by
  rw [pay1_eq, pay3_eq, pay4_eq]
  unfold code Cert.Scale.inv
  refine congrArg (fun z => clip (nrm (fun k => v (ix2 r k)) k * z)) ?_
  split
  · exact (Cert.Scale.ofBits_field 127 (by norm_num) (by norm_num)).trans Cert.Scale.pw_127
  · exact Cert.Scale.ofBits_inv _ (Cert.Scale.count_le _)

/-- The scales of a block, at an index. -/
theorem scales_eq (v : Vec Ideal S128x5120 .bf16) (r l : Fin 128) : k0_pay2 (F := Ideal) (k0_pay5 v) (ix2 r l) = scl fun k => v (ix2 r k) := by
  rw [pay2_eq]
  have h5 : k0_pay5 v (ix2 r 0) = k0_pay4 v (ix2 r 0) + 127#32 := rfl
  rw [h5, pay4_eq]
  unfold scl scale
  split
  · exact (Cert.Scale.ofBits_field 127 (by norm_num) (by norm_num)).trans Cert.Scale.pw_127
  · exact Cert.Scale.ofBits_scale _ (Cert.Scale.count_le _)

end Cert.NormIdeal.Gen
end
-- ==== Proof.NormOut.lean ====
/- The normalising kernel's two output arrays: each row's codes and scale, a function of that row of its argument. -/
module
public import proofs.«01_k».proof.Proof.NormKernel
@[expose] public section
set_option maxRecDepth 16384
noncomputable section
namespace Cert.NormIdeal.Gen
open Idealize.ShloMosaic Idealize.ShloMosaic.TcCoe Idealize.SL.Sem
open Cert.NormRow

variable (m : (ℓ : Loc nD τ sig) → Buf (Elt Ideal) ℓ) (ρ : Dev nD → PrngReg)

/-- The argument as 1152 rows. -/
abbrev rows (c : Dev nD) : Vec Ideal S1152x5120 .bf16 := shapeCast S1152x5120 (m ((c : Thread nD τ).loc main_arg0) : Vec Ideal S3x384x5120 .bf16) shapeCasts_S3x384x5120_S1152x5120
/-- The codes of an array of rows. -/
def R1 (X : Vec Ideal S1152x5120 .bf16) : Vec Ideal S1152x5120 .fp8e4m3 := fun i => code (fun k => X (ix2 (i 0) k)) (i 1)
/-- The scales of an array of rows. -/
def R2 (X : Vec Ideal S1152x5120 .bf16) : Vec Ideal S1152x128 .f32 := fun i => scl fun k => X (ix2 (i 0) k)

theorem hz : (![0, 0] : Fin 2 → Nat) = fun _ => 0 := funext fun a => by fin_cases a <;> rfl

/-- Every window's block at a point is that point's 128 rows. -/
theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)

theorem lt9 (t : Fin cfg0.N) : t.val < 9 := lt_of_lt_of_eq t.isLt (show cfg0.N = 9 from N_0)
/-- Row `r` of block `t` in the whole array. -/
def row (t : Fin cfg0.N) (r : Fin 128) : Fin 1152 := ⟨t.val * 128 + r.val, by have := lt9 t; omega⟩

/-- The array the input window stages is the argument's rows. -/
theorem V_v0 (c : Dev nD) : V m c main_v0 = rows m c := rfl

/-- An entry of the input block. -/
theorem in0 (c : Dev nD) (t : Fin cfg0.N) (r : Fin 128) (k : Fin 5120) : (iblk m c 0 t : Vec Ideal S128x5120 .bf16) (ix2 r k) = rows m c (ix2 (row t r) k) := by
  obtain ⟨e0, e1⟩ := at0 t
  have h : ((cfg0.win 0).blk t).view.emb (ix2 r k : S128x5120.Idx) = (ix2 (row t r) k : S1152x5120.Idx) := by
    funext a; apply Fin.ext
    match a with
    | ⟨0, _⟩ => show win0_0.index t (0 : Fin 2) * 128 + 1 * r.val = t.val * 128 + r.val; omega
    | ⟨1, _⟩ => show win0_0.index t (1 : Fin 2) * 5120 + 1 * k.val = k.val; omega
  show V m c main_v0 (((cfg0.win 0).blk t).view.emb (ix2 r k : S128x5120.Idx)) = _
  rw [h, V_v0]

/-- Where a code of block `t` lies. -/
theorem emb1 (t : Fin cfg0.N) (r : Fin 128) (k : Fin 5120) : ((cfg0.win 1).blk t).view.emb (ix2 r k : S128x5120.Idx) = (ix2 (row t r) k : S1152x5120.Idx) := by
  obtain ⟨e0, e1⟩ := at1 t
  funext a; apply Fin.ext
  match a with
  | ⟨0, _⟩ => show win0_1.index t (0 : Fin 2) * 128 + 1 * r.val = t.val * 128 + r.val; omega
  | ⟨1, _⟩ => show win0_1.index t (1 : Fin 2) * 5120 + 1 * k.val = k.val; omega
/-- Where a scale of block `t` lies. -/
theorem emb2 (t : Fin cfg0.N) (r l : Fin 128) : ((cfg0.win 2).blk t).view.emb (ix2 r l : S128x128.Idx) = (ix2 (row t r) l : S1152x128.Idx) := by
  obtain ⟨e0, e1⟩ := at2 t
  funext a; apply Fin.ext
  match a with
  | ⟨0, _⟩ => show win0_2.index t (0 : Fin 2) * 128 + 1 * r.val = t.val * 128 + r.val; omega
  | ⟨1, _⟩ => show win0_2.index t (1 : Fin 2) * 128 + 1 * l.val = l.val; omega

/-- A row's block and its place there. -/
theorem row_div (i : Fin 1152) : ∃ (t : Fin cfg0.N) (r : Fin 128), row t r = i :=
  ⟨⟨i.val / 128, lt_of_lt_of_eq (show i.val / 128 < 9 by omega) (show cfg0.N = 9 from N_0).symm⟩, ⟨i.val % 128, by omega⟩, Fin.ext (show i.val / 128 * 128 + i.val % 128 = i.val by omega)⟩

theorem covered1 (i : S1152x5120.Idx) : ∃ t : Fin cfg0.N, (cfg0.win 1).flush t = true ∧ i ∈ ((cfg0.win 1).blk t).view.set := by
  obtain ⟨t, r, h⟩ := row_div (i 0)
  refine ⟨t, flush0_1 t, ?_⟩
  have e := ((cfg0.win 1).blk t).view.emb_mem_set (ix2 r (i 1) : S128x5120.Idx)
  rw [emb1 t r (i 1), h] at e
  rwa [← eq_ix2 i] at e
theorem covered2 (i : S1152x128.Idx) : ∃ t : Fin cfg0.N, (cfg0.win 2).flush t = true ∧ i ∈ ((cfg0.win 2).blk t).view.set := by
  obtain ⟨t, r, h⟩ := row_div (i 0)
  refine ⟨t, flush0_2 t, ?_⟩
  have e := ((cfg0.win 2).blk t).view.emb_mem_set (ix2 r (i 1) : S128x128.Idx)
  rw [emb2 t r (i 1), h] at e
  rwa [← eq_ix2 i] at e

/-- The block a point leaves is what its one store writes. -/
theorem out1_eq (x : Vec Ideal S128x5120 .bf16) : out0_1 x = k0_pay1 (k0_pay3 x) (k0_pay4 x) := by
  unfold out0_1
  rw [View.canon_unit_zero hz, View.ld_unit_zero (S := S128x5120) hz _ x]
theorem out2_eq (x : Vec Ideal S128x5120 .bf16) : out0_2 x = k0_pay2 (F := Ideal) (k0_pay5 x) := by
  unfold out0_2
  rw [View.canon_unit_zero hz, View.ld_unit_zero (S := S128x5120) hz _ x]

theorem cut1 (t : Fin cfg0.N) (S : Vec Ideal S128x5120 .fp8e4m3) (j : S128x5120.Idx) : (cfg0.win 1).cut (grid0.coords t) S j = S j := rfl
theorem read1 (t : Fin cfg0.N) (R : Vec Ideal S1152x5120 .fp8e4m3) (j : S128x5120.Idx) : ((cfg0.win 1).blk t).view.read (Elt Ideal) R j = R (((cfg0.win 1).blk t).view.emb j) := rfl
theorem cut2 (t : Fin cfg0.N) (S : Vec Ideal S128x128 .f32) (j : S128x128.Idx) : (cfg0.win 2).cut (grid0.coords t) S j = S j := rfl
theorem read2 (t : Fin cfg0.N) (R : Vec Ideal S1152x128 .f32) (j : S128x128.Idx) : ((cfg0.win 2).blk t).view.read (Elt Ideal) R j = R (((cfg0.win 2).blk t).view.emb j) := rfl

/-- What a point writes back of the codes. -/
theorem flushed1 (c : Dev nD) (t : Fin cfg0.N) : (dats m 0 c).flushed 1 t = ((cfg0.win 1).blk t).view.read (Elt Ideal) (R1 (rows m c)) := by
  show (cfg0.win 1).cut (grid0.coords t) ((dats m 0 c).after 1 t) = _
  rw [after0_1]
  funext j
  have hj : j = (ix2 (j 0) (j 1) : S128x5120.Idx) := eq_ix2 j
  refine (cut1 t (out0_1 (iblk m c 0 t)) j).trans ?_
  refine Eq.trans ?_ (read1 t (R1 (rows m c)) j).symm
  refine Eq.trans ?_ (congrArg (R1 (rows m c)) ((congrArg (fun z => ((cfg0.win 1).blk t).view.emb z) hj).trans (emb1 t (j 0) (j 1)))).symm
  refine (congrFun (out1_eq (iblk m c 0 t)) j).trans ?_
  refine (congrArg (k0_pay1 (k0_pay3 (iblk m c 0 t : Vec Ideal S128x5120 .bf16)) (k0_pay4 (iblk m c 0 t : Vec Ideal S128x5120 .bf16))) hj).trans ?_
  refine (codes_eq (iblk m c 0 t) (j 0) (j 1)).trans ?_
  exact congrArg (fun f => code f (j 1)) (funext fun k => in0 m c t (j 0) k)
/-- What a point writes back of the scales. -/
theorem flushed2 (c : Dev nD) (t : Fin cfg0.N) : (dats m 0 c).flushed 2 t = ((cfg0.win 2).blk t).view.read (Elt Ideal) (R2 (rows m c)) := by
  show (cfg0.win 2).cut (grid0.coords t) ((dats m 0 c).after 2 t) = _
  rw [after0_2]
  funext j
  have hj : j = (ix2 (j 0) (j 1) : S128x128.Idx) := eq_ix2 j
  refine (cut2 t (out0_2 (iblk m c 0 t)) j).trans ?_
  refine Eq.trans ?_ (read2 t (R2 (rows m c)) j).symm
  refine Eq.trans ?_ (congrArg (R2 (rows m c)) ((congrArg (fun z => ((cfg0.win 2).blk t).view.emb z) hj).trans (emb2 t (j 0) (j 1)))).symm
  refine (congrFun (out2_eq (iblk m c 0 t)) j).trans ?_
  refine (congrArg (k0_pay2 (F := Ideal) (k0_pay5 (iblk m c 0 t : Vec Ideal S128x5120 .bf16))) hj).trans ?_
  refine (scales_eq (iblk m c 0 t) (j 0) (j 1)).trans ?_
  exact congrArg scl (funext fun k => in0 m c t (j 0) k)

/-- The run: the codes and the scales are those of the argument's rows, and the argument ends unchanged. -/
theorem run_values : θ_run defs (onTc (τ := τ) (main (F := Ideal))) ⟨m, fun _ => 0, ρ⟩ fun r => ∀ c : Dev nD,
      r.2.mem ((c : Thread nD τ).loc main_v1_0) = R1 (rows m c)
      ∧ r.2.mem ((c : Thread nD τ).loc main_v1_1) = R2 (rows m c)
      ∧ r.2.mem ((c : Thread nD τ).loc main_arg0) = m ((c : Thread nD τ).loc main_arg0) :=
  (θ_run defs _ _).mono (fun r h c => ⟨((h c).1 1).trans ((dats m 0 c).arrAt_eq_of_cover 1 (R1 (rows m c)) (fun t _ => flushed1 m c t) covered1),
      ((h c).1 2).trans ((dats m 0 c).arrAt_eq_of_cover 2 (R2 (rows m c)) (fun t _ => flushed2 m c t) covered2),
      ((h c).2 main_arg0 (Pipeline.mem_restRefs_of main_arg0 (by decide) (by decide))).trans (V_main_arg0 m c)⟩)
    (run_main m ρ)

end Cert.NormIdeal.Gen
end
-- ==== Proof.NormRef.lean ====
/- What the normalising reference computes of the array of 1152 rows, read at an index. -/
module
public import proofs.«01_k».proof.Proof.Gen.NormReferenceIdeal.Frame
public import proofs.«01_k».proof.Proof.NormRow
public import Idealize.ShloMosaic.Lib.ValueIdx
public import Idealize.ShloMosaic.Lib.Pipeline.Value
public import Idealize.ShloMosaic.Lib.Pointwise
@[expose] public section
set_option maxRecDepth 16384
noncomputable section
namespace Cert.NormReferenceIdeal.Gen
open Idealize.ShloMosaic
open Cert.Scale (scale c448 pw)
open Cert.NormRow

/-- The reference's divisor is 5120. -/
theorem ofBits_d : FloatOps.ofBits (F := Ideal) .f32 0x45A00000#32 = ((5120 : ℝ) : EReal) := by
  show Ideal.ofBits .f32 0x45A00000#32 = _
  simp [Ideal.ofBits, Ideal.ieee]
  rw [← EReal.coe_mul]; norm_num

/-- The constant one of the reference. -/
theorem one_eq : FloatOps.ofBits (F := Ideal) .f32 0x3F800000#32 = (1 : EReal) := by
  show Ideal.ofBits .f32 0x3F800000#32 = _
  simp [Ideal.ofBits, Ideal.ieee]
  rw [← EReal.coe_mul]; norm_num

/-- The column of row means. -/
def mu (X : FVec Ideal S1152x5120 .f32) : FVec Ideal S1152x1 .f32 :=
  divf (shapeCast S1152x1 (multiReduction (F := Ideal) .add [1] S1152 X 0x00000000#32 reduces_S1152x5120_S1152 (.inl rfl) rfl) shapeCasts_S1152_S1152x1) (broadcast S1152x1 (Scalar.ofBits .f32 0x45A00000#32))

/-- A row mean. -/
theorem mu_eq (X : FVec Ideal S1152x5120 .f32) (r : Fin 1152) : mu X (ix2 r 0) = mean fun k => X (ix2 r k) := by
  unfold mu mean
  have s : ∀ r : Fin 1152, multiReduction (F := Ideal) .add [1] S1152 X 0x00000000#32 reduces_S1152x5120_S1152 (.inl rfl) rfl (ix1 r) = ∑ k : Fin 5120, X (ix2 r k) := by
    intro r
    exact Ideal.reduceAdd_r2_a1 _ _ _
  generalize multiReduction (F := Ideal) .add [1] S1152 X 0x00000000#32 reduces_S1152x5120_S1152 (.inl rfl) rfl = R at s
  rw [← s r, ← Ideal.div_coe (by norm_num : (5120 : ℝ) ≠ 0), ← ofBits_d]
  pointwise

/-- Rows less their means. -/
def cv (X : FVec Ideal S1152x5120 .f32) : FVec Ideal S1152x5120 .f32 := subf X (broadcastTo S1152x5120 (mu X) broadcasts_S1152x1_S1152x5120)
theorem cv_eq (X : FVec Ideal S1152x5120 .f32) (r : Fin 1152) (k : Fin 5120) : cv X (ix2 r k) = cen (fun k => X (ix2 r k)) k := by
  unfold cv cen
  rw [← mu_eq]
  generalize mu X = M
  pointwise

/-- The normalised rows from the centred ones and the column of variances. -/
theorem tail_eq (C : FVec Ideal S1152x5120 .f32) (M : FVec Ideal S1152x1 .f32) (r : Fin 1152) (k : Fin 5120) :
    mulf C (broadcastTo S1152x5120 (rsqrt (addf M (broadcast S1152x1 (Scalar.ofBits .f32 0x358637BD#32)))) broadcasts_S1152x1_S1152x5120) (ix2 r k)
      = C (ix2 r k) * Ideal.rsqrt (M (ix2 r 0) + Ideal.ofBits .f32 0x358637BD#32) := by
  pointwise
  try rfl

/-- The normalised rows, at an index. -/
theorem pay3_eq (v : Vec Ideal S1152x5120 .bf16) (r : Fin 1152) (k : Fin 5120) : k0_pay3 v (ix2 r k) = nrm (fun k => v (ix2 r k)) k := by
  have e : k0_pay3 v = mulf (cv (extf .f32 v bitsLt_bf16_f32)) (broadcastTo S1152x5120 (rsqrt (addf (mu (mulf (cv (extf .f32 v bitsLt_bf16_f32)) (cv (extf .f32 v bitsLt_bf16_f32)))) (broadcast S1152x1 (Scalar.ofBits .f32 0x358637BD#32)))) broadcasts_S1152x1_S1152x5120) := by
    unfold k0_pay3
    rw [shapeCast_self]
    rfl
  rw [e]
  have hx : ∀ r k, (extf .f32 v bitsLt_bf16_f32 : FVec Ideal S1152x5120 .f32) (ix2 r k) = v (ix2 r k) := fun _ _ => rfl
  generalize (extf .f32 v bitsLt_bf16_f32 : FVec Ideal S1152x5120 .f32) = X at hx
  simp only [← hx]
  refine (tail_eq _ _ r k).trans ?_
  rw [mu_eq]
  have h2 : (fun k => mulf (cv X) (cv X) (ix2 r k)) = fun k => cen (fun k => X (ix2 r k)) k * cen (fun k => X (ix2 r k)) k := by
    funext k
    rw [← cv_eq X r k]
    rfl
  rw [h2, cv_eq]
  rfl

/-- The largest magnitude of a normalised row. -/
theorem amax_eq (v : Vec Ideal S1152x5120 .bf16) (r : Fin 1152) :
    multiReduction (F := Ideal) .maximumf [1] S1152 (absf (k0_pay3 v)) 0xFF800000#32 reduces_S1152x5120_S1152 (.inl rfl) rfl (ix1 r) = amax fun k => v (ix2 r k) := by
  have h3 := pay3_eq v r
  generalize k0_pay3 v = M at h3
  refine (multiReduction_maximumf_eq_fold _ _ _ _ _ _).trans ?_
  refine (Shape.Reduces.fold_fiber_r2_a1 _ _ _ _ _).trans ?_
  have h1 : FloatOps.ofBits (F := Ideal) .f32 0xFF800000#32 = (⊥ : EReal) := by
    show Ideal.ofBits .f32 0xFF800000#32 = _
    simp [Ideal.ofBits, Ideal.ieee]
  rw [h1]
  unfold amax
  refine congrArg (fun f => Finset.fold max ⊥ f Finset.univ) (funext fun k => ?_)
  exact congrArg (FloatOps.absf (F := Ideal) (φ := .f32)) (h3 k)

/-- A candidate power of the search. -/
theorem power_eq (i : Fin 253) (n : Fin 1152) :
    exp2 (F := Ideal) (subf (sitofp .f32 (iota .tc S253x1152 32 [0] iota_S253x1152_d0_w32)) (broadcast S253x1152 (Scalar.ofBits .f32 0x42FC0000#32))) (ix2 i n) = pw (i.val + 1) := by
  have h : (FloatOps.ofBits (F := Ideal) .f32 0x42FC0000#32 : EReal) = ((126 : ℝ) : EReal) := by
    show Ideal.ofBits .f32 0x42FC0000#32 = _
    simp [Ideal.ofBits, Ideal.ieee]; norm_num
    rw [← EReal.coe_mul]; norm_num
  refine Eq.trans ?_ (Cert.Scale.exp2_power i.val)
  have hi : (iota .tc S253x1152 32 [0] iota_S253x1152_d0_w32 (ix2 i n)).toInt = (i.val : ℤ) := by
    pointwise
    exact (by decide +kernel : ∀ i : Fin 253, (BitVec.ofNat 32 i.val).toInt = (i.val : ℤ)) i
  show Ideal.exp2 (((((iota .tc S253x1152 32 [0] iota_S253x1152_d0_w32 (ix2 i n)).toInt : ℤ) : ℝ) : EReal) - (FloatOps.ofBits (F := Ideal) .f32 0x42FC0000#32 : EReal)) = _
  rw [hi, h]; norm_cast

/-- The search: the least candidate power above a quotient. -/
def search (E : FVec Ideal S253x1152 .f32) (A : FVec Ideal S1152 .f32) : FVec Ideal S1152 .f32 :=
  multiReduction (F := Ideal) .minimumf [0] S1152 (select (cmpf .ogt E (broadcastTo S253x1152 (shapeCast S1x1152 (mulf A (broadcast S1152 (Scalar.ofBits .f32 0x3B124925#32))) shapeCasts_S1152_S1x1152) broadcasts_S1x1152_S253x1152)) E (broadcast S253x1152 (Scalar.ofBits .f32 0x7E800000#32))) 0x7F800000#32 reduces_S253x1152_S1152 (.inl rfl) rfl

/-- The quotient that is compared with a candidate. -/
theorem quot_eq (A : FVec Ideal S1152 .f32) (i : Fin 253) (n : Fin 1152) :
    broadcastTo S253x1152 (shapeCast S1x1152 (mulf A (broadcast S1152 (Scalar.ofBits .f32 0x3B124925#32))) shapeCasts_S1152_S1x1152) broadcasts_S1x1152_S253x1152 (ix2 i n) = A (ix1 n) * c448 := by
  pointwise
  rfl

/-- The search finds the power of two just above the quotient. -/
theorem search_eq (E : FVec Ideal S253x1152 .f32) (A : FVec Ideal S1152 .f32)
    (hE : ∀ i n, E (ix2 i n) = pw (i.val + 1)) (n : Fin 1152) :
    search E A (ix1 n) = pw (Cert.Scale.count (A (ix1 n) * c448) + 1) := by
  rw [← Cert.Scale.fold_min]
  unfold search
  have hq := quot_eq A
  generalize broadcastTo S253x1152 (shapeCast S1x1152 (mulf A (broadcast S1152 (Scalar.ofBits .f32 0x3B124925#32))) shapeCasts_S1152_S1x1152) broadcasts_S1x1152_S253x1152 = Q at hq
  refine (multiReduction_minimumf_eq_fold _ _ _ _ _ _).trans ?_
  refine (Shape.Reduces.fold_fiber_r2_a0 _ _ _ _ _).trans ?_
  have h1 : FloatOps.ofBits (F := Ideal) .f32 0x7F800000#32 = (⊤ : EReal) := by
    show Ideal.ofBits .f32 0x7F800000#32 = _
    simp [Ideal.ofBits, Ideal.ieee]
  rw [h1]
  refine congrArg (fun f => Finset.fold min ⊤ f Finset.univ) (funext fun k => ?_)
  have h2 : FloatOps.ofBits (F := Ideal) .f32 0x7E800000#32 = pw 253 := Cert.Scale.ofBits_scale 252 le_rfl
  have hs : select (cmpf .ogt E Q) E (broadcast S253x1152 (Scalar.ofBits .f32 0x7E800000#32)) (ix2 k n) = if A (ix1 n) * c448 < pw (k.val + 1) then pw (k.val + 1) else pw 253 := by
    rw [← hE k n, ← hq k n, ← h2]
    show (if BitVec.ofBool (decide (Q (ix2 k n) < E (ix2 k n))) = 1#1 then _ else _) = _
    by_cases h : Q (ix2 k n) < E (ix2 k n) <;> simp [h] <;> rfl
  exact hs

/-- The choice between one and the searched power. -/
theorem select_eq (A X : FVec Ideal S1152 .f32) (n : Fin 1152) (m : EReal) (e : A (ix1 n) = m)
    (hX : X (ix1 n) = pw (Cert.Scale.count (A (ix1 n) * c448) + 1)) :
    select (cmpf (F := Ideal) .oeq A (broadcast S1152 (Scalar.ofBits .f32 0x00000000#32))) (broadcast S1152 (Scalar.ofBits .f32 0x3F800000#32)) X (ix1 n) = scale (m * c448) := by
  have h0 : FloatOps.ofBits (F := Ideal) .f32 0x00000000#32 = (0 : EReal) := Ideal.ofBits_zero_f32
  show (if BitVec.ofBool (decide (A (ix1 n) = FloatOps.ofBits (F := Ideal) .f32 0x00000000#32)) = 1#1 then FloatOps.ofBits (F := Ideal) .f32 0x3F800000#32 else X (ix1 n)) = _
  rw [hX, e, h0, one_eq]
  unfold Cert.Scale.scale
  by_cases h : m = 0
  · simp [h]
  · have h' : ¬ m * c448 = 0 := fun h'' => h ((Cert.Scale.mul_c448_eq_zero _).mp h'')
    simp [h, h']

/-- The scales from the row maxima and the search. -/
theorem pay4_split (v : Vec Ideal S1152x5120 .bf16) :
    k0_pay4 v = select (cmpf .oeq (multiReduction (F := Ideal) .maximumf [1] S1152 (absf (k0_pay3 v)) 0xFF800000#32 reduces_S1152x5120_S1152 (.inl rfl) rfl) (broadcast S1152 (Scalar.ofBits .f32 0x00000000#32))) (broadcast S1152 (Scalar.ofBits .f32 0x3F800000#32))
      (search (exp2 (F := Ideal) (subf (sitofp .f32 (iota .tc S253x1152 32 [0] iota_S253x1152_d0_w32)) (broadcast S253x1152 (Scalar.ofBits .f32 0x42FC0000#32)))) (multiReduction (F := Ideal) .maximumf [1] S1152 (absf (k0_pay3 v)) 0xFF800000#32 reduces_S1152x5120_S1152 (.inl rfl) rfl)) := by
  unfold k0_pay4 search
  rfl

/-- The scale of a row. -/
theorem pay4_eq (v : Vec Ideal S1152x5120 .bf16) (r : Fin 1152) : k0_pay4 v (ix1 r) = scl fun k => v (ix2 r k) := by
  rw [pay4_split]
  exact select_eq _ _ r _ (amax_eq v r) (search_eq _ _ power_eq r)

/-- The product of a normalised entry with the inverse of its row's scale. -/
theorem mul_inv_eq (M : FVec Ideal S1152x5120 .f32) (S : FVec Ideal S1152 .f32) (r : Fin 1152) (k : Fin 5120) :
    mulf M (broadcastTo S1152x5120 (shapeCast S1152x1 (divf (broadcast S1152 (Scalar.ofBits .f32 0x3F800000#32)) S) shapeCasts_S1152_S1152x1) broadcasts_S1152x1_S1152x5120) (ix2 r k)
      = M (ix2 r k) * Ideal.div 1 (S (ix1 r)) := by
  rw [← one_eq]
  pointwise

/-- The clipping of the reference. -/
theorem pay1_eq (M : FVec Ideal S1152x5120 .f32) (r : Fin 1152) (k : Fin 5120) :
    k0_pay1 M (Scalar.ofBits .f32 0xC3E00000#32) (Scalar.ofBits .f32 0x43E00000#32) (ix2 r k) = clip (M (ix2 r k)) := by
  unfold k0_pay1 clip
  pointwise
  try rfl

/-- The codes of the reference, at an index. -/
theorem codes_eq (v : Vec Ideal S1152x5120 .bf16) (r : Fin 1152) (k : Fin 5120) :
    k0_pay1 (k0_pay5 v) (Scalar.ofBits .f32 0xC3E00000#32) (Scalar.ofBits .f32 0x43E00000#32) (ix2 r k) = code (fun k => v (ix2 r k)) k := by
  rw [pay1_eq]
  unfold code
  refine congrArg clip ?_
  rw [← Cert.Scale.div_scale]
  show _ = _ * Ideal.div 1 (scl fun k => v (ix2 r k))
  rw [← pay4_eq, ← pay3_eq]
  unfold k0_pay5
  exact mul_inv_eq _ _ r k

/-- The scales of the reference, at an index. -/
theorem scales_eq (v : Vec Ideal S1152x5120 .bf16) (r : Fin 1152) (l : Fin 128) : k0_pay2 (F := Ideal) (k0_pay4 v) (ix2 r l) = scl fun k => v (ix2 r k) := by
  rw [← pay4_eq]
  unfold k0_pay2
  generalize k0_pay4 v = S
  pointwise

end Cert.NormReferenceIdeal.Gen
end
-- ==== Proof.NormRefOut.lean ====
/- The normalising reference's two output arrays: each row's codes and scale, a function of that row of its argument. -/
module
public import proofs.«01_k».proof.Proof.NormRef
@[expose] public section
set_option maxRecDepth 16384
noncomputable section
namespace Cert.NormReferenceIdeal.Gen
open Idealize.ShloMosaic Idealize.ShloMosaic.TcCoe Idealize.SL.Sem
open Cert.NormRow

variable (m : (ℓ : Loc nD τ sig) → Buf (Elt Ideal) ℓ) (ρ : Dev nD → PrngReg)

/-- The argument as 1152 rows. -/
abbrev rows (c : Dev nD) : Vec Ideal S1152x5120 .bf16 := shapeCast S1152x5120 (m ((c : Thread nD τ).loc main_arg0) : Vec Ideal S3x384x5120 .bf16) shapeCasts_S3x384x5120_S1152x5120
/-- The codes of an array of rows. -/
def R1 (X : Vec Ideal S1152x5120 .bf16) : Vec Ideal S1152x5120 .fp8e4m3 := fun i => code (fun k => X (ix2 (i 0) k)) (i 1)
/-- The scales of an array of rows. -/
def R2 (X : Vec Ideal S1152x5120 .bf16) : Vec Ideal S1152x128 .f32 := fun i => scl fun k => X (ix2 (i 0) k)

theorem hz : (![0, 0] : Fin 2 → Nat) = fun _ => 0 := funext fun a => by fin_cases a <;> rfl

/-- Every window's block at the one point is its whole array. -/
theorem at0 : ∀ t : Fin cfg0.N, win0_0.index t (0 : Fin 2) = 0 ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem emb0 (t : Fin cfg0.N) (j : S1152x5120.Idx) : ((cfg0.win 0).blk t).view.emb j = j := by
  obtain ⟨e0, e1⟩ := at0 t
  funext a; apply Fin.ext
  match a with
  | ⟨0, _⟩ => show win0_0.index t (0 : Fin 2) * 1152 + 1 * (j 0).val = (j 0).val; omega
  | ⟨1, _⟩ => show win0_0.index t (1 : Fin 2) * 5120 + 1 * (j 1).val = (j 1).val; omega
theorem emb1 (t : Fin cfg0.N) (j : S1152x5120.Idx) : ((cfg0.win 1).blk t).view.emb j = j := by
  obtain ⟨e0, e1⟩ := at1 t
  funext a; apply Fin.ext
  match a with
  | ⟨0, _⟩ => show win0_1.index t (0 : Fin 2) * 1152 + 1 * (j 0).val = (j 0).val; omega
  | ⟨1, _⟩ => show win0_1.index t (1 : Fin 2) * 5120 + 1 * (j 1).val = (j 1).val; omega
theorem emb2 (t : Fin cfg0.N) (j : S1152x128.Idx) : ((cfg0.win 2).blk t).view.emb j = j := by
  obtain ⟨e0, e1⟩ := at2 t
  funext a; apply Fin.ext
  match a with
  | ⟨0, _⟩ => show win0_2.index t (0 : Fin 2) * 1152 + 1 * (j 0).val = (j 0).val; omega
  | ⟨1, _⟩ => show win0_2.index t (1 : Fin 2) * 128 + 1 * (j 1).val = (j 1).val; omega

/-- The array the input window stages is the argument's rows. -/
theorem V_v0 (c : Dev nD) : V m c main_v0 = rows m c := rfl
/-- The input block is the argument's rows. -/
theorem in0 (c : Dev nD) (t : Fin cfg0.N) : iblk m c 0 t = rows m c := by
  funext j; show V m c main_v0 (((cfg0.win 0).blk t).view.emb j) = rows m c j; rw [emb0, V_v0]

theorem covered1 (i : S1152x5120.Idx) : ∃ t : Fin cfg0.N, (cfg0.win 1).flush t = true ∧ i ∈ ((cfg0.win 1).blk t).view.set :=
  ⟨(⟨0, by decide⟩ : Fin cfg0.N), flush0_1 _, by have h := ((cfg0.win 1).blk (⟨0, by decide⟩ : Fin cfg0.N)).view.emb_mem_set i; rwa [emb1] at h⟩
theorem covered2 (i : S1152x128.Idx) : ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- The block the point leaves is what its one store writes: the codes, and the scales. -/
theorem out1_eq (x : Vec Ideal S1152x5120 .bf16) : out0_1 x = R1 x := by
  unfold out0_1
  rw [View.canon_unit_zero hz, View.ld_unit_zero (S := S1152x5120) hz _ x]
  funext j
  refine Eq.trans (congrArg _ (eq_ix2 j)) ?_
  exact codes_eq x (j 0) (j 1)
theorem out2_eq (x : Vec Ideal S1152x5120 .bf16) : out0_2 x = R2 x := by
  unfold out0_2
  rw [View.canon_unit_zero hz, View.ld_unit_zero (S := S1152x5120) hz _ x]
  funext j
  refine Eq.trans (congrArg _ (eq_ix2 j)) ?_
  exact scales_eq x (j 0) (j 1)

theorem cut1 (t : Fin cfg0.N) (X : Vec Ideal S1152x5120 .fp8e4m3) : (cfg0.win 1).cut (grid0.coords t) X = ((cfg0.win 1).blk t).view.read (Elt Ideal) X := by
  funext j
  show X j = X (((cfg0.win 1).blk t).view.emb j)
  rw [emb1]
theorem cut2 (t : Fin cfg0.N) (X : Vec Ideal S1152x128 .f32) : (cfg0.win 2).cut (grid0.coords t) X = ((cfg0.win 2).blk t).view.read (Elt Ideal) X := by
  funext j
  show X j = X (((cfg0.win 2).blk t).view.emb j)
  rw [emb2]

/-- What the point writes back of the codes. -/
theorem flushed1 (c : Dev nD) (t : Fin cfg0.N) : (dats m 0 c).flushed 1 t = ((cfg0.win 1).blk t).view.read (Elt Ideal) (R1 (rows m c)) := by
  show (cfg0.win 1).cut (grid0.coords t) ((dats m 0 c).after 1 t) = _
  rw [after0_1, out1_eq, in0]
  exact cut1 t _
/-- What the point writes back of the scales. -/
theorem flushed2 (c : Dev nD) (t : Fin cfg0.N) : (dats m 0 c).flushed 2 t = ((cfg0.win 2).blk t).view.read (Elt Ideal) (R2 (rows m c)) := by
  show (cfg0.win 2).cut (grid0.coords t) ((dats m 0 c).after 2 t) = _
  rw [after0_2, out2_eq, in0]
  exact cut2 t _

/-- The run: the codes and the scales are those of the argument's rows, and the argument ends unchanged. -/
theorem run_values : θ_run defs (onTc (τ := τ) (main (F := Ideal))) ⟨m, fun _ => 0, ρ⟩ fun r => ∀ c : Dev nD,
      r.2.mem ((c : Thread nD τ).loc main_v1_0) = R1 (rows m c)
      ∧ r.2.mem ((c : Thread nD τ).loc main_v1_1) = R2 (rows m c)
      ∧ r.2.mem ((c : Thread nD τ).loc main_arg0) = m ((c : Thread nD τ).loc main_arg0) :=
  (θ_run defs _ _).mono (fun r h c => ⟨((h c).1 1).trans ((dats m 0 c).arrAt_eq_of_cover 1 (R1 (rows m c)) (fun t _ => flushed1 m c t) covered1),
      ((h c).1 2).trans ((dats m 0 c).arrAt_eq_of_cover 2 (R2 (rows m c)) (fun t _ => flushed2 m c t) covered2),
      ((h c).2 main_arg0 (Pipeline.mem_restRefs_of main_arg0 (by decide) (by decide))).trans (V_main_arg0 m c)⟩)
    (run_main m ρ)

end Cert.NormReferenceIdeal.Gen
end
-- ==== Proof.NormEqual.lean ====
/- The claim that the normalising kernel and its reference compute equal results, from the two runs. -/
module
public import proofs.«01_k».proof.Defs
public import proofs.«01_k».proof.Proof.NormOut
public import proofs.«01_k».proof.Proof.NormRefOut
@[expose] public section
set_option maxRecDepth 16384
noncomputable section
namespace Cert.Proof
open Idealize.ShloMosaic Idealize.ShloMosaic.TcCoe Idealize.SL.Sem

/-- From equal arguments the normalising kernel and its reference compute equal codes and equal scales. -/
theorem norm_equal : Cert.algebraic_NormIdeal_NormReferenceIdeal := by
  intro m g m' g' _ heq
  refine ⟨fun c => Cert.NormIdeal.Gen.R1 (Cert.NormIdeal.Gen.rows m c), fun c => Cert.NormIdeal.Gen.R2 (Cert.NormIdeal.Gen.rows m c), Cert.NormIdeal.Gen.run_values m g, ?_⟩
  refine (θ_run Cert.NormReferenceIdeal.defs _ _).mono (fun r h c => ?_) (Cert.NormReferenceIdeal.Gen.run_values m' g')
  obtain ⟨h1, h2, k⟩ := h c
  have e : Cert.NormReferenceIdeal.Gen.rows m' c = Cert.NormIdeal.Gen.rows m c :=
    congrArg (fun x : Vec Ideal Cert.NormIdeal.S3x384x5120 .bf16 => shapeCast Cert.NormIdeal.S1152x5120 x Cert.NormIdeal.Gen.shapeCasts_S3x384x5120_S1152x5120) (heq c)
  rw [e] at h1 h2
  exact ⟨h1, h2, k⟩

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelEnd
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.NormReferenceIdeal.Skeleton
public import proofs.«01_k».proof.Proof.Gen.NormReferenceIdeal.Launch
public import proofs.«01_k».proof.Proof.Gen.NormReferenceIdeal.Points
public import proofs.«01_k».proof.Proof.Gen.NormReferenceIdeal.Frame
public import proofs.«01_k».proof.Proof.Gen.NormReferenceIdeal.Value
public import proofs.«01_k».proof.Proof.Gen.Pre_finite_shift
public import proofs.«01_k».proof.Proof.MainEqual
public import proofs.«01_k».proof.Proof.NormEqual
public import Idealize.ShloMosaic.Adequacy
public import Idealize.ShloMosaic.Init

@[expose] public section

noncomputable section

namespace Cert.Proof

open Idealize.ShloMosaic Idealize.SL.Sem Cert.Kernel

/-- Every claim: the frames, the two idealisations, and the equality of both kernels with their references. -/
theorem claim : Cert.Claim := ⟨Cert.Kernel.Gen.facts, Cert.KernelIdeal.Gen.facts, Cert.ReferenceIdeal.Gen.facts, Cert.Norm.Gen.facts, Cert.NormIdeal.Gen.facts, Cert.NormReferenceIdeal.Gen.facts, Cert.Pre_finite_shift.Gen.facts, by
  exact ⟨fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    fun m ρ _ => Cert.Norm.Gen.frame m ρ,
    fun m ρ _ => Cert.NormIdeal.Gen.frame m ρ,
    fun m ρ _ => Cert.NormReferenceIdeal.Gen.frame m ρ,
    trivial,
    main_equal,
    IdealRules.named_const.statement Cert.NormIdeal.κ "inv_d" .f32 0x394CCCCD#32 _ rfl,
    norm_equal⟩⟩

end Cert.Proof

end
